-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)) (v6 : (c : Dev Cert.KernelIdeal.nD) → Buf (Elt Ideal) ((c.tc : Thread Cert.KernelIdeal.nD Cert.KernelIdeal.τ).loc Cert.KernelIdeal.main_v16_6)) (v7 : (c : Dev Cert.KernelIdeal.nD) → Buf (Elt Ideal) ((c.tc : Thread Cert.KernelIdeal.nD Cert.KernelIdeal.τ).loc Cert.KernelIdeal.main_v16_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_v16_6) = v6 c
          ∧ r.2.mem ((c.tc : Thread Cert.KernelIdeal.nD Cert.KernelIdeal.τ).loc Cert.KernelIdeal.main_v16_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v344) = v0 c
          ∧ r.2.mem ((c.tc : Thread Cert.ReferenceIdeal.nD Cert.ReferenceIdeal.τ).loc Cert.ReferenceIdeal.main_v346) = v1 c
          ∧ r.2.mem ((c.tc : Thread Cert.ReferenceIdeal.nD Cert.ReferenceIdeal.τ).loc Cert.ReferenceIdeal.main_v348) = v2 c
          ∧ r.2.mem ((c.tc : Thread Cert.ReferenceIdeal.nD Cert.ReferenceIdeal.τ).loc Cert.ReferenceIdeal.main_v349) = v3 c
          ∧ r.2.mem ((c.tc : Thread Cert.ReferenceIdeal.nD Cert.ReferenceIdeal.τ).loc Cert.ReferenceIdeal.main_v351) = v4 c
          ∧ r.2.mem ((c.tc : Thread Cert.ReferenceIdeal.nD Cert.ReferenceIdeal.τ).loc Cert.ReferenceIdeal.main_v352) = v5 c
          ∧ r.2.mem ((c.tc : Thread Cert.ReferenceIdeal.nD Cert.ReferenceIdeal.τ).loc Cert.ReferenceIdeal.main_v353) = v6 c
          ∧ r.2.mem ((c.tc : Thread Cert.ReferenceIdeal.nD Cert.ReferenceIdeal.τ).loc Cert.ReferenceIdeal.main_v354) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
-- ==== Kernel.lean ====
abbrev S16x2048x1024 : Shape := ⟨3, ![16, 2048, 1024]⟩
abbrev S2x16x3072 : Shape := ⟨3, ![2, 16, 3072]⟩
abbrev S2x1024 : Shape := ⟨2, ![2, 1024]⟩
abbrev S2x1024x2504 : Shape := ⟨3, ![2, 1024, 2504]⟩
abbrev S2x31x512 : Shape := ⟨3, ![2, 31, 512]⟩
abbrev S2x512 : Shape := ⟨2, ![2, 512]⟩
abbrev S2x512x512 : Shape := ⟨3, ![2, 512, 512]⟩
abbrev S2x256 : Shape := ⟨2, ![2, 256]⟩
abbrev S2x256x1024 : Shape := ⟨3, ![2, 256, 1024]⟩
abbrev S2x256x512 : Shape := ⟨3, ![2, 256, 512]⟩
abbrev S2x128 : Shape := ⟨2, ![2, 128]⟩
abbrev S_ : Shape := ⟨0, ![]⟩
abbrev S2x1024x56 : Shape := ⟨3, ![2, 1024, 56]⟩
abbrev S2x1024x1992 : Shape := ⟨3, ![2, 1024, 1992]⟩
abbrev S2x1024x512 : Shape := ⟨3, ![2, 1024, 512]⟩
abbrev S2x1024x2560 : Shape := ⟨3, ![2, 1024, 2560]⟩
abbrev S2x16x1x3072 : Shape := ⟨4, ![2, 16, 1, 3072]⟩
abbrev S2x1x1024 : Shape := ⟨3, ![2, 1, 1024]⟩
abbrev S2x1x512 : Shape := ⟨3, ![2, 1, 512]⟩
abbrev S2x1x256 : Shape := ⟨3, ![2, 1, 256]⟩
abbrev S2x1x128 : Shape := ⟨3, ![2, 1, 128]⟩
abbrev S16x2048x512 : Shape := ⟨3, ![16, 2048, 512]⟩
abbrev S16x1024x2048 : Shape := ⟨3, ![16, 1024, 2048]⟩
abbrev S16x512x2048 : Shape := ⟨3, ![16, 512, 2048]⟩
abbrev S16x2048x128 : Shape := ⟨3, ![16, 2048, 128]⟩
abbrev S16x128x2048 : Shape := ⟨3, ![16, 128, 2048]⟩
abbrev S16x2048x64 : Shape := ⟨3, ![16, 2048, 64]⟩
abbrev S16x8x2048 : Shape := ⟨3, ![16, 8, 2048]⟩
abbrev S1x512x1024 : Shape := ⟨3, ![1, 512, 1024]⟩
abbrev S1x1x1x3072 : Shape := ⟨4, ![1, 1, 1, 3072]⟩
abbrev S1x1x1024 : Shape := ⟨3, ![1, 1, 1024]⟩
abbrev S1x1024x2560 : Shape := ⟨3, ![1, 1024, 2560]⟩
abbrev S1x31x512 : Shape := ⟨3, ![1, 31, 512]⟩
abbrev S1x1x512 : Shape := ⟨3, ![1, 1, 512]⟩
abbrev S1x512x512 : Shape := ⟨3, ![1, 512, 512]⟩
abbrev S1x1x256 : Shape := ⟨3, ![1, 1, 256]⟩
abbrev S1x256x1024 : Shape := ⟨3, ![1, 256, 1024]⟩
abbrev S1x256x512 : Shape := ⟨3, ![1, 256, 512]⟩
abbrev S1x1x128 : Shape := ⟨3, ![1, 1, 128]⟩
abbrev S1x1024x512 : Shape := ⟨3, ![1, 1024, 512]⟩
abbrev S1x512x128 : Shape := ⟨3, ![1, 512, 128]⟩
abbrev S1x128x512 : Shape := ⟨3, ![1, 128, 512]⟩
abbrev S1x512x64 : Shape := ⟨3, ![1, 512, 64]⟩
abbrev S1x8x512 : Shape := ⟨3, ![1, 8, 512]⟩
abbrev S512x1024 : Shape := ⟨2, ![512, 1024]⟩
abbrev S544x512 : Shape := ⟨2, ![544, 512]⟩
abbrev S512x512 : Shape := ⟨2, ![512, 512]⟩
abbrev S7x544x512 : Shape := ⟨3, ![7, 544, 512]⟩
abbrev S32x512 : Shape := ⟨2, ![32, 512]⟩
abbrev S1x1x1x1024 : Shape := ⟨4, ![1, 1, 1, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S280x512 : Shape := ⟨2, ![280, 512]⟩
abbrev S1x280x512 : Shape := ⟨3, ![1, 280, 512]⟩
abbrev S1x1024x256 : Shape := ⟨3, ![1, 1024, 256]⟩
abbrev S1024x256 : Shape := ⟨2, ![1024, 256]⟩
abbrev S256x256 : Shape := ⟨2, ![256, 256]⟩
abbrev S1x256 : Shape := ⟨2, ![1, 256]⟩
abbrev S512x256 : Shape := ⟨2, ![512, 256]⟩
abbrev S1x512x256 : Shape := ⟨3, ![1, 512, 256]⟩
abbrev S1x1024x128 : Shape := ⟨3, ![1, 1024, 128]⟩
abbrev S1024x128 : Shape := ⟨2, ![1024, 128]⟩
abbrev S256x128 : Shape := ⟨2, ![256, 128]⟩
abbrev S1x128 : Shape := ⟨2, ![1, 128]⟩
abbrev S1x256x128 : Shape := ⟨3, ![1, 256, 128]⟩
abbrev S128x256 : Shape := ⟨2, ![128, 256]⟩
abbrev S1x128x256 : Shape := ⟨3, ![1, 128, 256]⟩
abbrev S256x64 : Shape := ⟨2, ![256, 64]⟩
abbrev S1x256x64 : Shape := ⟨3, ![1, 256, 64]⟩
abbrev S8x256 : Shape := ⟨2, ![8, 256]⟩
abbrev S1x8x256 : Shape := ⟨3, ![1, 8, 256]⟩
abbrev S1x512 : Shape := ⟨2, ![1, 512]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 38
  | .vmem => 36
  | .smem => 0
  | _ => 0

abbrev bufTy : (tb : Table) → Fin (tcTables nBuf tb) → BufTy
  | .hbm, ⟨0, _⟩ => ⟨S16x2048x1024, .f32⟩
  | .hbm, ⟨1, _⟩ => ⟨S2x16x3072, .f32⟩
  | .hbm, ⟨2, _⟩ => ⟨S2x1024, .f32⟩
  | .hbm, ⟨3, _⟩ => ⟨S2x1024x2504, .f32⟩
  | .hbm, ⟨4, _⟩ => ⟨S2x31x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x512x512, .f32⟩
  | .hbm, ⟨9, _⟩ => ⟨S2x256, .f32⟩
  | .hbm, ⟨10, _⟩ => ⟨S2x256x1024, .f32⟩
  | .hbm, ⟨11, _⟩ => ⟨S2x256x512, .f32⟩
  | .hbm, ⟨12, _⟩ => ⟨S2x128, .f32⟩
  | .hbm, ⟨13, _⟩ => ⟨S_, .bf16⟩
  | .hbm, ⟨14, _⟩ => ⟨S2x1024x56, .bf16⟩
  | .hbm, ⟨15, _⟩ => ⟨S2x1024x1992, .f32⟩
  | .hbm, ⟨16, _⟩ => ⟨S2x1024x1992, .bf16⟩
  | .hbm, ⟨17, _⟩ => ⟨S2x1024x512, .f32⟩
  | .hbm, ⟨18, _⟩ => ⟨S2x1024x512, .bf16⟩
  | .hbm, ⟨19, _⟩ => ⟨S2x1024x2560, .bf16⟩
  | .hbm, ⟨20, _⟩ => ⟨S2x512x512, .bf16⟩
  | .hbm, ⟨21, _⟩ => ⟨S2x256x1024, .bf16⟩
  | .hbm, ⟨22, _⟩ => ⟨S2x256x512, .bf16⟩
  | .hbm, ⟨23, _⟩ => ⟨S2x16x1x3072, .f32⟩
  | .hbm, ⟨24, _⟩ => ⟨S2x1x1024, .f32⟩
  | .hbm, ⟨25, _⟩ => ⟨S2x1x512, .f32⟩
  | .hbm, ⟨26, _⟩ => ⟨S2x1x512, .f32⟩
  | .hbm, ⟨27, _⟩ => ⟨S2x1x512, .f32⟩
  | .hbm, ⟨28, _⟩ => ⟨S2x1x256, .f32⟩
  | .hbm, ⟨29, _⟩ => ⟨S2x1x128, .f32⟩
  | .hbm, ⟨30, _⟩ => ⟨S16x2048x512, .bf16⟩
  | .hbm, ⟨31, _⟩ => ⟨S16x1024x2048, .bf16⟩
  | .hbm, ⟨32, _⟩ => ⟨S16x512x2048, .bf16⟩
  | .hbm, ⟨33, _⟩ => ⟨S16x2048x128, .bf16⟩
  | .hbm, ⟨34, _⟩ => ⟨S16x128x2048, .bf16⟩
  | .hbm, ⟨35, _⟩ => ⟨S16x2048x64, .bf16⟩
  | .hbm, ⟨36, _⟩ => ⟨S16x8x2048, .f32⟩
  | .hbm, ⟨37, _⟩ => ⟨S16x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x3072, .f32⟩
  | .local _ .vmem, ⟨3, _⟩ => ⟨S1x1x1x3072, .f32⟩
  | .local _ .vmem, ⟨4, _⟩ => ⟨S1x1x1024, .f32⟩
  | .local _ .vmem, ⟨5, _⟩ => ⟨S1x1024x2560, .bf16⟩
  | .local _ .vmem, ⟨6, _⟩ => ⟨S1x31x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x512, .bf16⟩
  | .local _ .vmem, ⟨11, _⟩ => ⟨S1x1x256, .f32⟩
  | .local _ .vmem, ⟨12, _⟩ => ⟨S1x256x1024, .bf16⟩
  | .local _ .vmem, ⟨13, _⟩ => ⟨S1x256x512, .bf16⟩
  | .local _ .vmem, ⟨14, _⟩ => ⟨S1x1x128, .f32⟩
  | .local _ .vmem, ⟨15, _⟩ => ⟨S1x512x512, .bf16⟩
  | .local _ .vmem, ⟨16, _⟩ => ⟨S1x512x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x128, .bf16⟩
  | .local _ .vmem, ⟨22, _⟩ => ⟨S1x512x128, .bf16⟩
  | .local _ .vmem, ⟨23, _⟩ => ⟨S1x128x512, .bf16⟩
  | .local _ .vmem, ⟨24, _⟩ => ⟨S1x128x512, .bf16⟩
  | .local _ .vmem, ⟨25, _⟩ => ⟨S1x512x64, .bf16⟩
  | .local _ .vmem, ⟨26, _⟩ => ⟨S1x512x64, .bf16⟩
  | .local _ .vmem, ⟨27, _⟩ => ⟨S1x8x512, .f32⟩
  | .local _ .vmem, ⟨28, _⟩ => ⟨S1x8x512, .f32⟩
  | .local _ .vmem, ⟨29, _⟩ => ⟨S1x512x512, .f32⟩
  | .local _ .vmem, ⟨30, _⟩ => ⟨S1x512x512, .f32⟩
  | .local _ .vmem, ⟨31, _⟩ => ⟨S512x1024, .bf16⟩
  | .local _ .vmem, ⟨32, _⟩ => ⟨S544x512, .f32⟩
  | .local _ .vmem, ⟨33, _⟩ => ⟨S512x512, .bf16⟩
  | .local _ .vmem, ⟨34, _⟩ => ⟨S7x544x512, .f32⟩
  | .local _ .vmem, ⟨35, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev main_v16_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceIdeal.lean ====
abbrev S16x2048x1024 : Shape := ⟨3, ![16, 2048, 1024]⟩
abbrev S2x16x3072 : Shape := ⟨3, ![2, 16, 3072]⟩
abbrev S2x1024 : Shape := ⟨2, ![2, 1024]⟩
abbrev S2x1024x2504 : Shape := ⟨3, ![2, 1024, 2504]⟩
abbrev S2x31x512 : Shape := ⟨3, ![2, 31, 512]⟩
abbrev S2x512 : Shape := ⟨2, ![2, 512]⟩
abbrev S2x512x512 : Shape := ⟨3, ![2, 512, 512]⟩
abbrev S2x256 : Shape := ⟨2, ![2, 256]⟩
abbrev S2x256x1024 : Shape := ⟨3, ![2, 256, 1024]⟩
abbrev S2x256x512 : Shape := ⟨3, ![2, 256, 512]⟩
abbrev S2x128 : Shape := ⟨2, ![2, 128]⟩
abbrev S1x16x3072 : Shape := ⟨3, ![1, 16, 3072]⟩
abbrev S16x3072 : Shape := ⟨2, ![16, 3072]⟩
abbrev S16x1024 : Shape := ⟨2, ![16, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S1x1024x2504 : Shape := ⟨3, ![1, 1024, 2504]⟩
abbrev S1024x2504 : Shape := ⟨2, ![1024, 2504]⟩
abbrev S16x2048x2504 : Shape := ⟨3, ![16, 2048, 2504]⟩
abbrev S16x2048x512 : Shape := ⟨3, ![16, 2048, 512]⟩
abbrev S16x2048x256 : Shape := ⟨3, ![16, 2048, 256]⟩
abbrev S16x2048x128 : Shape := ⟨3, ![16, 2048, 128]⟩
abbrev S16x2048x64 : Shape := ⟨3, ![16, 2048, 64]⟩
abbrev S16x2048x8 : Shape := ⟨3, ![16, 2048, 8]⟩
abbrev S16x2078x512 : Shape := ⟨3, ![16, 2078, 512]⟩
abbrev S1x1x512 : Shape := ⟨3, ![1, 1, 512]⟩
abbrev S512 : Shape := ⟨1, ![512]⟩
abbrev S1x512 : Shape := ⟨2, ![1, 512]⟩
abbrev S1x512x512 : Shape := ⟨3, ![1, 512, 512]⟩
abbrev S512x512 : Shape := ⟨2, ![512, 512]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩
abbrev S1x128 : Shape := ⟨2, ![1, 128]⟩
abbrev S128 : Shape := ⟨1, ![128]⟩
abbrev S1x1x128 : Shape := ⟨3, ![1, 1, 128]⟩
abbrev S16x1024x2048 : Shape := ⟨3, ![16, 1024, 2048]⟩
abbrev S16x512x2048 : Shape := ⟨3, ![16, 512, 2048]⟩
abbrev S16x128x2048 : Shape := ⟨3, ![16, 128, 2048]⟩
abbrev S16x8x2048 : Shape := ⟨3, ![16, 8, 2048]⟩

abbrev nBuf : Space → Nat
  | .hbm => 414
  | .vmem => 0
  | .smem => 0
  | _ => 0

abbrev hbmTy0_0 (i : Nat) : BufTy := match i % 128 with
  | 0 => ⟨S16x2048x1024, .f32⟩
  | 1 => ⟨S2x16x3072, .f32⟩
  | 2 => ⟨S2x1024, .f32⟩
  | 3 => ⟨S2x1024x2504, .f32⟩
  | 4 => ⟨S2x31x512, .f32⟩
  | 5 => ⟨S2x512, .f32⟩
  | 6 => ⟨S2x512, .f32⟩
  | 7 => ⟨S2x512, .f32⟩
  | 8 => ⟨S2x512x512, .f32⟩
  | 9 => ⟨S2x256, .f32⟩
  | 10 => ⟨S2x256x1024, .f32⟩
  | 11 => ⟨S2x256x512, .f32⟩
  | 12 => ⟨S2x128, .f32⟩
  | 13 => ⟨S1x16x3072, .f32⟩
  | 14 => ⟨S16x3072, .f32⟩
  | 15 => ⟨S16x1024, .f32⟩
  | 16 => ⟨S16x1024, .f32⟩
  | 17 => ⟨S16x1024, .f32⟩
  | 18 => ⟨S1x1024, .f32⟩
  | 19 => ⟨S1024, .f32⟩
  | 20 => ⟨S16x2048x1024, .f32⟩
  | 21 => ⟨S_, .f32⟩
  | 22 => ⟨S16x2048, .f32⟩
  | 23 => ⟨S16x2048x1, .f32⟩
  | 24 => ⟨S_, .f32⟩
  | 25 => ⟨S16x2048x1, .f32⟩
  | 26 => ⟨S16x2048x1, .f32⟩
  | 27 => ⟨S_, .f32⟩
  | 28 => ⟨S16x2048x1, .f32⟩
  | 29 => ⟨S16x2048x1, .f32⟩
  | 30 => ⟨S16x2048x1, .f32⟩
  | 31 => ⟨S16x2048x1024, .f32⟩
  | 32 => ⟨S16x2048x1024, .f32⟩
  | 33 => ⟨S1x1x1024, .f32⟩
  | 34 => ⟨S16x2048x1024, .f32⟩
  | 35 => ⟨S16x2048x1024, .f32⟩
  | 36 => ⟨S16x1x1024, .f32⟩
  | 37 => ⟨S_, .f32⟩
  | 38 => ⟨S16x1x1024, .f32⟩
  | 39 => ⟨S16x1x1024, .f32⟩
  | 40 => ⟨S16x2048x1024, .f32⟩
  | 41 => ⟨S16x2048x1024, .f32⟩
  | 42 => ⟨S16x1x1024, .f32⟩
  | 43 => ⟨S16x2048x1024, .f32⟩
  | 44 => ⟨S16x2048x1024, .f32⟩
  | 45 => ⟨S1x1024x2504, .f32⟩
  | 46 => ⟨S1024x2504, .f32⟩
  | 47 => ⟨S16x2048x2504, .f32⟩
  | 48 => ⟨S16x2048x512, .f32⟩
  | 49 => ⟨S16x2048x512, .f32⟩
  | 50 => ⟨S16x2048x512, .f32⟩
  | 51 => ⟨S16x2048x256, .f32⟩
  | 52 => ⟨S16x2048x128, .f32⟩
  | 53 => ⟨S16x2048x64, .f32⟩
  | 54 => ⟨S16x2048x8, .f32⟩
  | 55 => ⟨S16x2048x512, .f32⟩
  | 56 => ⟨S16x2048x512, .f32⟩
  | 57 => ⟨S16x2048x512, .f32⟩
  | 58 => ⟨S_, .f32⟩
  | 59 => ⟨S16x2048x512, .f32⟩
  | 60 => ⟨S16x2048x512, .f32⟩
  | 61 => ⟨S_, .f32⟩
  | 62 => ⟨S16x2048x512, .f32⟩
  | 63 => ⟨S16x2048x512, .f32⟩
  | 64 => ⟨S16x2048x512, .f32⟩
  | 65 => ⟨S_, .i32⟩
  | 66 => ⟨S_, .f32⟩
  | 67 => ⟨S16x2078x512, .f32⟩
  | 68 => ⟨S16x2048x512, .f32⟩
  | 69 => ⟨S1x1x512, .f32⟩
  | 70 => ⟨S512, .f32⟩
  | 71 => ⟨S1x1x512, .f32⟩
  | 72 => ⟨S16x2048x512, .f32⟩
  | 73 => ⟨S16x2048x512, .f32⟩
  | 74 => ⟨S_, .f32⟩
  | 75 => ⟨S16x2048x512, .f32⟩
  | 76 => ⟨S16x2048x512, .f32⟩
  | 77 => ⟨S16x2048x512, .f32⟩
  | 78 => ⟨S1x1x512, .f32⟩
  | 79 => ⟨S512, .f32⟩
  | 80 => ⟨S1x1x512, .f32⟩
  | 81 => ⟨S16x2048x512, .f32⟩
  | 82 => ⟨S16x2048x512, .f32⟩
  | 83 => ⟨S16x2048x512, .f32⟩
  | 84 => ⟨S16x2048x512, .f32⟩
  | 85 => ⟨S1x1x512, .f32⟩
  | 86 => ⟨S512, .f32⟩
  | 87 => ⟨S1x1x512, .f32⟩
  | 88 => ⟨S16x2048x512, .f32⟩
  | 89 => ⟨S16x2048x512, .f32⟩
  | 90 => ⟨S16x2048x512, .f32⟩
  | 91 => ⟨S16x2048x512, .f32⟩
  | 92 => ⟨S1x1x512, .f32⟩
  | 93 => ⟨S512, .f32⟩
  | 94 => ⟨S1x1x512, .f32⟩
  | 95 => ⟨S16x2048x512, .f32⟩
  | 96 => ⟨S16x2048x512, .f32⟩
  | 97 => ⟨S16x2048x512, .f32⟩
  | 98 => ⟨S16x2048x512, .f32⟩
  | 99 => ⟨S1x1x512, .f32⟩
  | 100 => ⟨S512, .f32⟩
  | 101 => ⟨S1x1x512, .f32⟩
  | 102 => ⟨S16x2048x512, .f32⟩
  | 103 => ⟨S16x2048x512, .f32⟩
  | 104 => ⟨S16x2048x512, .f32⟩
  | 105 => ⟨S16x2048x512, .f32⟩
  | 106 => ⟨S1x1x512, .f32⟩
  | 107 => ⟨S512, .f32⟩
  | 108 => ⟨S1x1x512, .f32⟩
  | 109 => ⟨S16x2048x512, .f32⟩
  | 110 => ⟨S16x2048x512, .f32⟩
  | 111 => ⟨S16x2048x512, .f32⟩
  | 112 => ⟨S16x2048x512, .f32⟩
  | 113 => ⟨S1x1x512, .f32⟩
  | 114 => ⟨S512, .f32⟩
  | 115 => ⟨S1x1x512, .f32⟩
  | 116 => ⟨S16x2048x512, .f32⟩
  | 117 => ⟨S16x2048x512, .f32⟩
  | 118 => ⟨S16x2048x512, .f32⟩
  | 119 => ⟨S16x2048x512, .f32⟩
  | 120 => ⟨S1x1x512, .f32⟩
  | 121 => ⟨S512, .f32⟩
  | 122 => ⟨S1x1x512, .f32⟩
  | 123 => ⟨S16x2048x512, .f32⟩
  | 124 => ⟨S16x2048x512, .f32⟩
  | 125 => ⟨S16x2048x512, .f32⟩
  | 126 => ⟨S16x2048x512, .f32⟩
  | 127 => ⟨S1x1x512, .f32⟩
  | _ => ⟨S16x2048x1024, .f32⟩

abbrev hbmTy0_1 (i : Nat) : BufTy := match i % 128 with
  | 0 => ⟨S512, .f32⟩
  | 1 => ⟨S1x1x512, .f32⟩
  | 2 => ⟨S16x2048x512, .f32⟩
  | 3 => ⟨S16x2048x512, .f32⟩
  | 4 => ⟨S16x2048x512, .f32⟩
  | 5 => ⟨S16x2048x512, .f32⟩
  | 6 => ⟨S1x1x512, .f32⟩
  | 7 => ⟨S512, .f32⟩
  | 8 => ⟨S1x1x512, .f32⟩
  | 9 => ⟨S16x2048x512, .f32⟩
  | 10 => ⟨S16x2048x512, .f32⟩
  | 11 => ⟨S16x2048x512, .f32⟩
  | 12 => ⟨S16x2048x512, .f32⟩
  | 13 => ⟨S1x1x512, .f32⟩
  | 14 => ⟨S512, .f32⟩
  | 15 => ⟨S1x1x512, .f32⟩
  | 16 => ⟨S16x2048x512, .f32⟩
  | 17 => ⟨S16x2048x512, .f32⟩
  | 18 => ⟨S16x2048x512, .f32⟩
  | 19 => ⟨S16x2048x512, .f32⟩
  | 20 => ⟨S1x1x512, .f32⟩
  | 21 => ⟨S512, .f32⟩
  | 22 => ⟨S1x1x512, .f32⟩
  | 23 => ⟨S16x2048x512, .f32⟩
  | 24 => ⟨S16x2048x512, .f32⟩
  | 25 => ⟨S16x2048x512, .f32⟩
  | 26 => ⟨S16x2048x512, .f32⟩
  | 27 => ⟨S1x1x512, .f32⟩
  | 28 => ⟨S512, .f32⟩
  | 29 => ⟨S1x1x512, .f32⟩
  | 30 => ⟨S16x2048x512, .f32⟩
  | 31 => ⟨S16x2048x512, .f32⟩
  | 32 => ⟨S16x2048x512, .f32⟩
  | 33 => ⟨S16x2048x512, .f32⟩
  | 34 => ⟨S1x1x512, .f32⟩
  | 35 => ⟨S512, .f32⟩
  | 36 => ⟨S1x1x512, .f32⟩
  | 37 => ⟨S16x2048x512, .f32⟩
  | 38 => ⟨S16x2048x512, .f32⟩
  | 39 => ⟨S16x2048x512, .f32⟩
  | 40 => ⟨S16x2048x512, .f32⟩
  | 41 => ⟨S1x1x512, .f32⟩
  | 42 => ⟨S512, .f32⟩
  | 43 => ⟨S1x1x512, .f32⟩
  | 44 => ⟨S16x2048x512, .f32⟩
  | 45 => ⟨S16x2048x512, .f32⟩
  | 46 => ⟨S16x2048x512, .f32⟩
  | 47 => ⟨S16x2048x512, .f32⟩
  | 48 => ⟨S1x1x512, .f32⟩
  | 49 => ⟨S512, .f32⟩
  | 50 => ⟨S1x1x512, .f32⟩
  | 51 => ⟨S16x2048x512, .f32⟩
  | 52 => ⟨S16x2048x512, .f32⟩
  | 53 => ⟨S16x2048x512, .f32⟩
  | 54 => ⟨S16x2048x512, .f32⟩
  | 55 => ⟨S1x1x512, .f32⟩
  | 56 => ⟨S512, .f32⟩
  | 57 => ⟨S1x1x512, .f32⟩
  | 58 => ⟨S16x2048x512, .f32⟩
  | 59 => ⟨S16x2048x512, .f32⟩
  | 60 => ⟨S16x2048x512, .f32⟩
  | 61 => ⟨S16x2048x512, .f32⟩
  | 62 => ⟨S1x1x512, .f32⟩
  | 63 => ⟨S512, .f32⟩
  | 64 => ⟨S1x1x512, .f32⟩
  | 65 => ⟨S16x2048x512, .f32⟩
  | 66 => ⟨S16x2048x512, .f32⟩
  | 67 => ⟨S16x2048x512, .f32⟩
  | 68 => ⟨S16x2048x512, .f32⟩
  | 69 => ⟨S1x1x512, .f32⟩
  | 70 => ⟨S512, .f32⟩
  | 71 => ⟨S1x1x512, .f32⟩
  | 72 => ⟨S16x2048x512, .f32⟩
  | 73 => ⟨S16x2048x512, .f32⟩
  | 74 => ⟨S16x2048x512, .f32⟩
  | 75 => ⟨S16x2048x512, .f32⟩
  | 76 => ⟨S1x1x512, .f32⟩
  | 77 => ⟨S512, .f32⟩
  | 78 => ⟨S1x1x512, .f32⟩
  | 79 => ⟨S16x2048x512, .f32⟩
  | 80 => ⟨S16x2048x512, .f32⟩
  | 81 => ⟨S16x2048x512, .f32⟩
  | 82 => ⟨S16x2048x512, .f32⟩
  | 83 => ⟨S1x1x512, .f32⟩
  | 84 => ⟨S512, .f32⟩
  | 85 => ⟨S1x1x512, .f32⟩
  | 86 => ⟨S16x2048x512, .f32⟩
  | 87 => ⟨S16x2048x512, .f32⟩
  | 88 => ⟨S16x2048x512, .f32⟩
  | 89 => ⟨S16x2048x512, .f32⟩
  | 90 => ⟨S1x1x512, .f32⟩
  | 91 => ⟨S512, .f32⟩
  | 92 => ⟨S1x1x512, .f32⟩
  | 93 => ⟨S16x2048x512, .f32⟩
  | 94 => ⟨S16x2048x512, .f32⟩
  | 95 => ⟨S16x2048x512, .f32⟩
  | 96 => ⟨S16x2048x512, .f32⟩
  | 97 => ⟨S1x1x512, .f32⟩
  | 98 => ⟨S512, .f32⟩
  | 99 => ⟨S1x1x512, .f32⟩
  | 100 => ⟨S16x2048x512, .f32⟩
  | 101 => ⟨S16x2048x512, .f32⟩
  | 102 => ⟨S16x2048x512, .f32⟩
  | 103 => ⟨S16x2048x512, .f32⟩
  | 104 => ⟨S1x1x512, .f32⟩
  | 105 => ⟨S512, .f32⟩
  | 106 => ⟨S1x1x512, .f32⟩
  | 107 => ⟨S16x2048x512, .f32⟩
  | 108 => ⟨S16x2048x512, .f32⟩
  | 109 => ⟨S16x2048x512, .f32⟩
  | 110 => ⟨S16x2048x512, .f32⟩
  | 111 => ⟨S1x1x512, .f32⟩
  | 112 => ⟨S512, .f32⟩
  | 113 => ⟨S1x1x512, .f32⟩
  | 114 => ⟨S16x2048x512, .f32⟩
  | 115 => ⟨S16x2048x512, .f32⟩
  | 116 => ⟨S16x2048x512, .f32⟩
  | 117 => ⟨S16x2048x512, .f32⟩
  | 118 => ⟨S1x1x512, .f32⟩
  | 119 => ⟨S512, .f32⟩
  | 120 => ⟨S1x1x512, .f32⟩
  | 121 => ⟨S16x2048x512, .f32⟩
  | 122 => ⟨S16x2048x512, .f32⟩
  | 123 => ⟨S16x2048x512, .f32⟩
  | 124 => ⟨S16x2048x512, .f32⟩
  | 125 => ⟨S1x1x512, .f32⟩
  | 126 => ⟨S512, .f32⟩
  | 127 => ⟨S1x1x512, .f32⟩
  | _ => ⟨S16x2048x1024, .f32⟩

abbrev hbmTy0_2 (i : Nat) : BufTy := match i % 128 with
  | 0 => ⟨S16x2048x512, .f32⟩
  | 1 => ⟨S16x2048x512, .f32⟩
  | 2 => ⟨S16x2048x512, .f32⟩
  | 3 => ⟨S16x2048x512, .f32⟩
  | 4 => ⟨S1x1x512, .f32⟩
  | 5 => ⟨S512, .f32⟩
  | 6 => ⟨S1x1x512, .f32⟩
  | 7 => ⟨S16x2048x512, .f32⟩
  | 8 => ⟨S16x2048x512, .f32⟩
  | 9 => ⟨S16x2048x512, .f32⟩
  | 10 => ⟨S16x2048x512, .f32⟩
  | 11 => ⟨S1x1x512, .f32⟩
  | 12 => ⟨S512, .f32⟩
  | 13 => ⟨S1x1x512, .f32⟩
  | 14 => ⟨S16x2048x512, .f32⟩
  | 15 => ⟨S16x2048x512, .f32⟩
  | 16 => ⟨S16x2048x512, .f32⟩
  | 17 => ⟨S16x2048x512, .f32⟩
  | 18 => ⟨S1x1x512, .f32⟩
  | 19 => ⟨S512, .f32⟩
  | 20 => ⟨S1x1x512, .f32⟩
  | 21 => ⟨S16x2048x512, .f32⟩
  | 22 => ⟨S16x2048x512, .f32⟩
  | 23 => ⟨S16x2048x512, .f32⟩
  | 24 => ⟨S16x2048x512, .f32⟩
  | 25 => ⟨S1x1x512, .f32⟩
  | 26 => ⟨S512, .f32⟩
  | 27 => ⟨S1x1x512, .f32⟩
  | 28 => ⟨S16x2048x512, .f32⟩
  | 29 => ⟨S16x2048x512, .f32⟩
  | 30 => ⟨S16x2048x512, .f32⟩
  | 31 => ⟨S1x512, .f32⟩
  | 32 => ⟨S512, .f32⟩
  | 33 => ⟨S1x1x512, .f32⟩
  | 34 => ⟨S16x2048x512, .f32⟩
  | 35 => ⟨S16x2048x512, .f32⟩
  | 36 => ⟨S1x512, .f32⟩
  | 37 => ⟨S512, .f32⟩
  | 38 => ⟨S1x512, .f32⟩
  | 39 => ⟨S512, .f32⟩
  | 40 => ⟨S_, .f32⟩
  | 41 => ⟨S16x2048, .f32⟩
  | 42 => ⟨S16x2048x1, .f32⟩
  | 43 => ⟨S_, .f32⟩
  | 44 => ⟨S16x2048x1, .f32⟩
  | 45 => ⟨S16x2048x1, .f32⟩
  | 46 => ⟨S16x2048x512, .f32⟩
  | 47 => ⟨S16x2048x512, .f32⟩
  | 48 => ⟨S16x2048x512, .f32⟩
  | 49 => ⟨S_, .f32⟩
  | 50 => ⟨S16x2048, .f32⟩
  | 51 => ⟨S16x2048x1, .f32⟩
  | 52 => ⟨S_, .f32⟩
  | 53 => ⟨S16x2048x1, .f32⟩
  | 54 => ⟨S16x2048x1, .f32⟩
  | 55 => ⟨S16x2048x512, .f32⟩
  | 56 => ⟨S16x2048x512, .f32⟩
  | 57 => ⟨S_, .f32⟩
  | 58 => ⟨S16x2048x1, .f32⟩
  | 59 => ⟨S16x2048x1, .f32⟩
  | 60 => ⟨S16x2048x1, .f32⟩
  | 61 => ⟨S16x2048x512, .f32⟩
  | 62 => ⟨S16x2048x512, .f32⟩
  | 63 => ⟨S1x1x512, .f32⟩
  | 64 => ⟨S16x2048x512, .f32⟩
  | 65 => ⟨S16x2048x512, .f32⟩
  | 66 => ⟨S1x1x512, .f32⟩
  | 67 => ⟨S16x2048x512, .f32⟩
  | 68 => ⟨S16x2048x512, .f32⟩
  | 69 => ⟨S16x2048x512, .f32⟩
  | 70 => ⟨S16x2048x512, .f32⟩
  | 71 => ⟨S_, .f32⟩
  | 72 => ⟨S16x2048x512, .f32⟩
  | 73 => ⟨S16x2048x512, .f32⟩
  | 74 => ⟨S_, .f32⟩
  | 75 => ⟨S16x2048x512, .f32⟩
  | 76 => ⟨S16x2048x512, .f32⟩
  | 77 => ⟨S16x2048x512, .f32⟩
  | 78 => ⟨S1x512x512, .f32⟩
  | 79 => ⟨S512x512, .f32⟩
  | 80 => ⟨S16x2048x512, .f32⟩
  | 81 => ⟨S16x2048x512, .f32⟩
  | 82 => ⟨S16x2048x512, .f32⟩
  | 83 => ⟨S_, .f32⟩
  | 84 => ⟨S16x2048x512, .f32⟩
  | 85 => ⟨S16x2048x512, .f32⟩
  | 86 => ⟨S_, .f32⟩
  | 87 => ⟨S16x2048x512, .f32⟩
  | 88 => ⟨S16x2048x512, .f32⟩
  | 89 => ⟨S16x2048x512, .f32⟩
  | 90 => ⟨S16x2048x512, .f32⟩
  | 91 => ⟨S1x256, .f32⟩
  | 92 => ⟨S256, .f32⟩
  | 93 => ⟨S16x2048x256, .f32⟩
  | 94 => ⟨S_, .f32⟩
  | 95 => ⟨S16x2048, .f32⟩
  | 96 => ⟨S16x2048x1, .f32⟩
  | 97 => ⟨S_, .f32⟩
  | 98 => ⟨S16x2048x1, .f32⟩
  | 99 => ⟨S16x2048x1, .f32⟩
  | 100 => ⟨S_, .f32⟩
  | 101 => ⟨S16x2048x1, .f32⟩
  | 102 => ⟨S16x2048x1, .f32⟩
  | 103 => ⟨S16x2048x1, .f32⟩
  | 104 => ⟨S16x2048x256, .f32⟩
  | 105 => ⟨S16x2048x256, .f32⟩
  | 106 => ⟨S1x1x256, .f32⟩
  | 107 => ⟨S16x2048x256, .f32⟩
  | 108 => ⟨S16x2048x256, .f32⟩
  | 109 => ⟨S1x256x1024, .f32⟩
  | 110 => ⟨S256x1024, .f32⟩
  | 111 => ⟨S16x2048x1024, .f32⟩
  | 112 => ⟨S1x256x512, .f32⟩
  | 113 => ⟨S256x512, .f32⟩
  | 114 => ⟨S16x2048x512, .f32⟩
  | 115 => ⟨S1x128, .f32⟩
  | 116 => ⟨S128, .f32⟩
  | 117 => ⟨S16x2048x128, .f32⟩
  | 118 => ⟨S_, .f32⟩
  | 119 => ⟨S16x2048, .f32⟩
  | 120 => ⟨S16x2048x1, .f32⟩
  | 121 => ⟨S_, .f32⟩
  | 122 => ⟨S16x2048x1, .f32⟩
  | 123 => ⟨S16x2048x1, .f32⟩
  | 124 => ⟨S_, .f32⟩
  | 125 => ⟨S16x2048x1, .f32⟩
  | 126 => ⟨S16x2048x1, .f32⟩
  | 127 => ⟨S16x2048x1, .f32⟩
  | _ => ⟨S16x2048x1024, .f32⟩

abbrev hbmTy0_3 (i : Nat) : BufTy := match i % 128 with
  | 0 => ⟨S16x2048x128, .f32⟩
  | 1 => ⟨S16x2048x128, .f32⟩
  | 2 => ⟨S1x1x128, .f32⟩
  | 3 => ⟨S16x2048x128, .f32⟩
  | 4 => ⟨S16x2048x128, .f32⟩
  | 5 => ⟨S_, .f32⟩
  | 6 => ⟨S16x2048x8, .f32⟩
  | 7 => ⟨S16x2048x8, .f32⟩
  | 8 => ⟨S_, .f32⟩
  | 9 => ⟨S16x2048x1024, .f32⟩
  | 10 => ⟨S16x2048x1024, .f32⟩
  | 11 => ⟨S16x2048x512, .bf16⟩
  | 12 => ⟨S16x1024x2048, .f32⟩
  | 13 => ⟨S16x1024x2048, .bf16⟩
  | 14 => ⟨S16x512x2048, .f32⟩
  | 15 => ⟨S16x512x2048, .bf16⟩
  | 16 => ⟨S16x2048x128, .bf16⟩
  | 17 => ⟨S16x128x2048, .f32⟩
  | 18 => ⟨S16x128x2048, .bf16⟩
  | 19 => ⟨S16x2048x64, .bf16⟩
  | 20 => ⟨S16x8x2048, .f32⟩
  | 21 => ⟨S16x2048x512, .f32⟩
  | 22 => ⟨S16x2048x512, .f32⟩
  | 23 => ⟨S_, .f32⟩
  | 24 => ⟨S16x2048x512, .f32⟩
  | 25 => ⟨S16x2048x512, .f32⟩
  | 26 => ⟨S_, .f32⟩
  | 27 => ⟨S16x2048x512, .f32⟩
  | 28 => ⟨S16x2048x512, .f32⟩
  | 29 => ⟨S16x2048x512, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_cst_6 : Ref sig .tc := ⟨.hbm, 296, rfl⟩
abbrev main_v274 : Ref sig .tc := ⟨.hbm, 297, rfl⟩
abbrev main_v275 : Ref sig .tc := ⟨.hbm, 298, rfl⟩
abbrev main_cst_7 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_cst_8 : Ref sig .tc := ⟨.hbm, 305, rfl⟩
abbrev main_v281 : Ref sig .tc := ⟨.hbm, 306, rfl⟩
abbrev main_v282 : Ref sig .tc := ⟨.hbm, 307, rfl⟩
abbrev main_cst_9 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_cst_10 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_v295 : Ref sig .tc := ⟨.hbm, 322, rfl⟩
abbrev main_v296 : Ref sig .tc := ⟨.hbm, 323, rfl⟩
abbrev main_v297 : Ref sig .tc := ⟨.hbm, 324, rfl⟩
abbrev main_call1_v0 : Ref sig .tc := ⟨.hbm, 325, rfl⟩
abbrev main_call1_v1 : Ref sig .tc := ⟨.hbm, 326, rfl⟩
abbrev main_call1_cst : Ref sig .tc := ⟨.hbm, 327, rfl⟩
abbrev main_call1_v2 : Ref sig .tc := ⟨.hbm, 328, rfl⟩
abbrev main_call1_v3 : Ref sig .tc := ⟨.hbm, 329, rfl⟩
abbrev main_call1_cst_0 : Ref sig .tc := ⟨.hbm, 330, rfl⟩
abbrev main_call1_v4 : Ref sig .tc := ⟨.hbm, 331, rfl⟩
abbrev main_call1_v5 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_call2_v0 : Ref sig .tc := ⟨.hbm, 337, rfl⟩
abbrev main_call2_v1 : Ref sig .tc := ⟨.hbm, 338, rfl⟩
abbrev main_call2_cst : Ref sig .tc := ⟨.hbm, 339, rfl⟩
abbrev main_call2_v2 : Ref sig .tc := ⟨.hbm, 340, rfl⟩
abbrev main_call2_v3 : Ref sig .tc := ⟨.hbm, 341, rfl⟩
abbrev main_call2_cst_0 : Ref sig .tc := ⟨.hbm, 342, rfl⟩
abbrev main_call2_v4 : Ref sig .tc := ⟨.hbm, 343, rfl⟩
abbrev main_call2_v5 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_cst_11 : Ref sig .tc := ⟨.hbm, 350, rfl⟩
abbrev main_v307 : Ref sig .tc := ⟨.hbm, 351, rfl⟩
abbrev main_v308 : Ref sig .tc := ⟨.hbm, 352, rfl⟩
abbrev main_cst_12 : Ref sig .tc := ⟨.hbm, 353, rfl⟩
abbrev main_v309 : Ref sig .tc := ⟨.hbm, 354, rfl⟩
abbrev main_v310 : Ref sig .tc := ⟨.hbm, 355, rfl⟩
abbrev main_cst_13 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_cst_14 : Ref sig .tc := ⟨.hbm, 374, rfl⟩
abbrev main_v328 : Ref sig .tc := ⟨.hbm, 375, rfl⟩
abbrev main_v329 : Ref sig .tc := ⟨.hbm, 376, rfl⟩
abbrev main_cst_15 : Ref sig .tc := ⟨.hbm, 377, rfl⟩
abbrev main_v330 : Ref sig .tc := ⟨.hbm, 378, rfl⟩
abbrev main_v331 : Ref sig .tc := ⟨.hbm, 379, rfl⟩
abbrev main_cst_16 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_cst_17 : Ref sig .tc := ⟨.hbm, 389, rfl⟩
abbrev main_v340 : Ref sig .tc := ⟨.hbm, 390, rfl⟩
abbrev main_v341 : Ref sig .tc := ⟨.hbm, 391, rfl⟩
abbrev main_cst_18 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_call3_v0 : Ref sig .tc := ⟨.hbm, 405, rfl⟩
abbrev main_call3_v1 : Ref sig .tc := ⟨.hbm, 406, rfl⟩
abbrev main_call3_cst : Ref sig .tc := ⟨.hbm, 407, rfl⟩
abbrev main_call3_v2 : Ref sig .tc := ⟨.hbm, 408, rfl⟩
abbrev main_call3_v3 : Ref sig .tc := ⟨.hbm, 409, rfl⟩
abbrev main_call3_cst_0 : Ref sig .tc := ⟨.hbm, 410, rfl⟩
abbrev main_call3_v4 : Ref sig .tc := ⟨.hbm, 411, rfl⟩
abbrev main_call3_v5 : Ref sig .tc := ⟨.hbm, 412, rfl⟩
abbrev main_v354 : Ref sig .tc := ⟨.hbm, 413, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S2x1024x1024 : Shape := ⟨3, ![2, 1024, 1024]⟩
abbrev S2x16x3072 : Shape := ⟨3, ![2, 16, 3072]⟩
abbrev S2x1024 : Shape := ⟨2, ![2, 1024]⟩
abbrev S2x16x1x3072 : Shape := ⟨4, ![2, 16, 1, 3072]⟩
abbrev S2x1x1024 : Shape := ⟨3, ![2, 1, 1024]⟩
abbrev S1x1024x1024 : Shape := ⟨3, ![1, 1024, 1024]⟩
abbrev S1x1024x512 : Shape := ⟨3, ![1, 1024, 512]⟩
abbrev S1x1x1x3072 : Shape := ⟨4, ![1, 1, 1, 3072]⟩
abbrev S1x1x1024 : Shape := ⟨3, ![1, 1, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x1x1x1024 : Shape := ⟨4, ![1, 1, 1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S2x1024x1024, .f32⟩
  | .hbm, ⟨4, _⟩ => ⟨S2x16x3072, .f32⟩
  | .hbm, ⟨5, _⟩ => ⟨S2x1024, .f32⟩
  | .hbm, ⟨6, _⟩ => ⟨S2x1024x1024, .bf16⟩
  | .hbm, ⟨7, _⟩ => ⟨S2x16x1x3072, .f32⟩
  | .hbm, ⟨8, _⟩ => ⟨S2x1x1024, .f32⟩
  | .hbm, ⟨9, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1x1x3072, .f32⟩
  | .local _ .vmem, ⟨8, _⟩ => ⟨S1x1x1x3072, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16x2048x1024 : Shape := ⟨3, ![16, 2048, 1024]⟩
abbrev S16x2048x512 : Shape := ⟨3, ![16, 2048, 512]⟩
abbrev S2x1024x1024 : Shape := ⟨3, ![2, 1024, 1024]⟩
abbrev S2x16x3072 : Shape := ⟨3, ![2, 16, 3072]⟩
abbrev S2x1024 : Shape := ⟨2, ![2, 1024]⟩
abbrev S1x16x3072 : Shape := ⟨3, ![1, 16, 3072]⟩
abbrev S16x3072 : Shape := ⟨2, ![16, 3072]⟩
abbrev S16x1024 : Shape := ⟨2, ![16, 1024]⟩
abbrev S1x1024x1024 : Shape := ⟨3, ![1, 1024, 1024]⟩
abbrev S1024x1024 : Shape := ⟨2, ![1024, 1024]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S2x1024x1024, .f32⟩
  | .hbm, ⟨4, _⟩ => ⟨S2x16x3072, .f32⟩
  | .hbm, ⟨5, _⟩ => ⟨S2x1024, .f32⟩
  | .hbm, ⟨6, _⟩ => ⟨S1x16x3072, .f32⟩
  | .hbm, ⟨7, _⟩ => ⟨S16x3072, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x2048x1024, .bf16⟩
  | .hbm, ⟨12, _⟩ => ⟨S16x2048x1024, .f32⟩
  | .hbm, ⟨13, _⟩ => ⟨S1x1024x1024, .f32⟩
  | .hbm, ⟨14, _⟩ => ⟨S1024x1024, .f32⟩
  | .hbm, ⟨15, _⟩ => ⟨S16x2048x1024, .f32⟩
  | .hbm, ⟨16, _⟩ => ⟨S16x1x1024, .f32⟩
  | .hbm, ⟨17, _⟩ => ⟨S1x1024, .f32⟩
  | .hbm, ⟨18, _⟩ => ⟨S1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel3.lean ====
abbrev S16x1024 : Shape := ⟨2, ![16, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x16x3072 : Shape := ⟨3, ![2, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x1024 : Shape := ⟨2, ![16, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S16x3072 : Shape := ⟨2, ![16, 3072]⟩
abbrev S1x3072 : Shape := ⟨2, ![1, 3072]⟩
abbrev S3072 : Shape := ⟨1, ![3072]⟩
abbrev S1x16x3072 : Shape := ⟨3, ![1, 16, 3072]⟩
abbrev S2x16x3072 : Shape := ⟨3, ![2, 16, 3072]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x3072, .f32⟩
  | .hbm, ⟨2, _⟩ => ⟨S2x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x3072, .f32⟩
  | .hbm, ⟨13, _⟩ => ⟨S1024x3072, .f32⟩
  | .hbm, ⟨14, _⟩ => ⟨S16x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S16x3072, .f32⟩
  | .hbm, ⟨19, _⟩ => ⟨S16x3072, .f32⟩
  | .hbm, ⟨20, _⟩ => ⟨S1x1024x3072, .f32⟩
  | .hbm, ⟨21, _⟩ => ⟨S1024x3072, .f32⟩
  | .hbm, ⟨22, _⟩ => ⟨S16x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S16x3072, .f32⟩
  | .hbm, ⟨27, _⟩ => ⟨S16x3072, .f32⟩
  | .hbm, ⟨28, _⟩ => ⟨S1x16x3072, .f32⟩
  | .hbm, ⟨29, _⟩ => ⟨S1x16x3072, .f32⟩
  | .hbm, ⟨30, _⟩ => ⟨S2x16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel4.lean ====
abbrev S16x1024x2048 : Shape := ⟨3, ![16, 1024, 2048]⟩
abbrev S16x512x2048 : Shape := ⟨3, ![16, 512, 2048]⟩
abbrev S16x8x2048 : Shape := ⟨3, ![16, 8, 2048]⟩
abbrev S16x2048x128 : Shape := ⟨3, ![16, 2048, 128]⟩
abbrev S16x128x2048 : Shape := ⟨3, ![16, 128, 2048]⟩
abbrev S16x2048x64 : Shape := ⟨3, ![16, 2048, 64]⟩
abbrev S16x2048x512 : Shape := ⟨3, ![16, 2048, 512]⟩
abbrev S2x8x128x64 : Shape := ⟨4, ![2, 8, 128, 64]⟩
abbrev S2x8x256x256 : Shape := ⟨4, ![2, 8, 256, 256]⟩
abbrev S1x1024x256 : Shape := ⟨3, ![1, 1024, 256]⟩
abbrev S1x512x256 : Shape := ⟨3, ![1, 512, 256]⟩
abbrev S1x8x256 : Shape := ⟨3, ![1, 8, 256]⟩
abbrev S1x2048x128 : Shape := ⟨3, ![1, 2048, 128]⟩
abbrev S1x128x2048 : Shape := ⟨3, ![1, 128, 2048]⟩
abbrev S1x2048x64 : Shape := ⟨3, ![1, 2048, 64]⟩
abbrev S1x256x512 : Shape := ⟨3, ![1, 256, 512]⟩
abbrev S1x8x128x64 : Shape := ⟨4, ![1, 8, 128, 64]⟩
abbrev S2304x256 : Shape := ⟨2, ![2304, 256]⟩
abbrev S64x2048 : Shape := ⟨2, ![64, 2048]⟩
abbrev S8x256 : Shape := ⟨2, ![8, 256]⟩
abbrev S8x1x256 : Shape := ⟨3, ![8, 1, 256]⟩
abbrev S256x256 : Shape := ⟨2, ![256, 256]⟩
abbrev S8x144x256 : Shape := ⟨3, ![8, 144, 256]⟩
abbrev S256x2048 : Shape := ⟨2, ![256, 2048]⟩
abbrev S8x256x256 : Shape := ⟨3, ![8, 256, 256]⟩
abbrev S8x8x256 : Shape := ⟨3, ![8, 8, 256]⟩
abbrev S1x64x256 : Shape := ⟨3, ![1, 64, 256]⟩
abbrev S64x256 : Shape := ⟨2, ![64, 256]⟩
abbrev S32x256 : Shape := ⟨2, ![32, 256]⟩
abbrev S1x256x64 : Shape := ⟨3, ![1, 256, 64]⟩
abbrev S256x64 : Shape := ⟨2, ![256, 64]⟩
abbrev S1x1x256 : Shape := ⟨3, ![1, 1, 256]⟩
abbrev S1x256 : Shape := ⟨2, ![1, 256]⟩
abbrev S16x256 : Shape := ⟨2, ![16, 256]⟩
abbrev S16x16x256 : Shape := ⟨3, ![16, 16, 256]⟩
abbrev S1x16x256 : Shape := ⟨3, ![1, 16, 256]⟩
abbrev S256 : Shape := ⟨1, ![256]⟩
abbrev S1 : Shape := ⟨1, ![1]⟩
abbrev S1x1x1 : Shape := ⟨3, ![1, 1, 1]⟩
abbrev S512x256 : Shape := ⟨2, ![512, 256]⟩
abbrev S64x8x256 : Shape := ⟨3, ![64, 8, 256]⟩
abbrev S32x8x256 : Shape := ⟨3, ![32, 8, 256]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S1x1x256x256 : Shape := ⟨4, ![1, 1, 256, 256]⟩
abbrev S1x256x256 : Shape := ⟨3, ![1, 256, 256]⟩
abbrev S144x256 : Shape := ⟨2, ![144, 256]⟩
abbrev S1x144x256 : Shape := ⟨3, ![1, 144, 256]⟩
abbrev S1x1x128x64 : Shape := ⟨4, ![1, 1, 128, 64]⟩
abbrev S128x64 : Shape := ⟨2, ![128, 64]⟩
abbrev S256x512 : Shape := ⟨2, ![256, 512]⟩

abbrev nBuf : Space → Nat
  | .hbm => 10
  | .vmem => 33
  | .smem => 0
  | _ => 0

abbrev bufTy : (tb : Table) → Fin (tcTables nBuf tb) → BufTy
  | .hbm, ⟨0, _⟩ => ⟨S16x1024x2048, .bf16⟩
  | .hbm, ⟨1, _⟩ => ⟨S16x512x2048, .bf16⟩
  | .hbm, ⟨2, _⟩ => ⟨S16x8x2048, .f32⟩
  | .hbm, ⟨3, _⟩ => ⟨S16x2048x128, .bf16⟩
  | .hbm, ⟨4, _⟩ => ⟨S16x128x2048, .bf16⟩
  | .hbm, ⟨5, _⟩ => ⟨S16x2048x64, .bf16⟩
  | .hbm, ⟨6, _⟩ => ⟨S16x2048x512, .f32⟩
  | .hbm, ⟨7, _⟩ => ⟨S2x8x128x64, .bf16⟩
  | .hbm, ⟨8, _⟩ => ⟨S2x8x256x256, .f32⟩
  | .hbm, ⟨9, _⟩ => ⟨S16x2048x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x8x256, .f32⟩
  | .local _ .vmem, ⟨5, _⟩ => ⟨S1x8x256, .f32⟩
  | .local _ .vmem, ⟨6, _⟩ => ⟨S1x2048x128, .bf16⟩
  | .local _ .vmem, ⟨7, _⟩ => ⟨S1x2048x128, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x256x512, .f32⟩
  | .local _ .vmem, ⟨13, _⟩ => ⟨S1x256x512, .f32⟩
  | .local _ .vmem, ⟨14, _⟩ => ⟨S1x8x128x64, .bf16⟩
  | .local _ .vmem, ⟨15, _⟩ => ⟨S2x8x256x256, .f32⟩
  | .local _ .vmem, ⟨16, _⟩ => ⟨S1x256x512, .bf16⟩
  | .local _ .vmem, ⟨17, _⟩ => ⟨S1x256x512, .bf16⟩
  | .local _ .vmem, ⟨18, _⟩ => ⟨S2304x256, .i32⟩
  | .local _ .vmem, ⟨19, _⟩ => ⟨S64x2048, .bf16⟩
  | .local _ .vmem, ⟨20, _⟩ => ⟨S8x256, .i32⟩
  | .local _ .vmem, ⟨21, _⟩ => ⟨S8x1x256, .f32⟩
  | .local _ .vmem, ⟨22, _⟩ => ⟨S256x256, .f32⟩
  | .local _ .vmem, ⟨23, _⟩ => ⟨S8x144x256, .f32⟩
  | .local _ .vmem, ⟨24, _⟩ => ⟨S256x2048, .f32⟩
  | .local _ .vmem, ⟨25, _⟩ => ⟨S256x2048, .f32⟩
  | .local _ .vmem, ⟨26, _⟩ => ⟨S8x256x256, .f32⟩
  | .local _ .vmem, ⟨27, _⟩ => ⟨S8x256x256, .f32⟩
  | .local _ .vmem, ⟨28, _⟩ => ⟨S2304x256, .i16⟩
  | .local _ .vmem, ⟨29, _⟩ => ⟨S2304x256, .i16⟩
  | .local _ .vmem, ⟨30, _⟩ => ⟨S8x8x256, .f32⟩
  | .local _ .vmem, ⟨31, _⟩ => ⟨S8x8x256, .f32⟩
  | .local _ .vmem, ⟨32, _⟩ => ⟨S8x256, .i32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_scratch14 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![16, 8], ![false, false]⟩

def k0_mult1 : BitVec 32 :=
  let c0_i32_32 : BitVec 32 := 0#32
  c0_i32_32
@[reducible] def k0_t1_loop (i : grid0.Coords) : Scf.Loop 32 :=
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_49 : BitVec 32 := 1#32
  ⟨c0_i32_47, v92, c1_i32_49⟩
def k0_mult2 (i : grid0.Coords) (k0_t1 : Fin (k0_t1_loop i).trips) : BitVec 32 :=
  let c2_i32_244 : BitVec 32 := 2#32
  let c0_i32_47 : BitVec 32 := 0#32
  let c1_i32_49 : BitVec 32 := 1#32
  let arg27 : BitVec 32 := Scf.iv c0_i32_47 c1_i32_49 k0_t1
  let v375 : BitVec 32 := Scalar.muli c2_i32_244 arg27
  let c1_i32_245 : BitVec 32 := 1#32
  let v376 : BitVec 32 := Scalar.addi v375 c1_i32_245
  let c256_i32_246 : BitVec 32 := 256#32
  let v377 : BitVec 32 := Scalar.muli v376 c256_i32_246
  v377
def k0_off1 (i : grid0.Coords) (k0_t1 : Fin (k0_t1_loop i).trips) : Fin 3 → Nat :=
  let c0_247 : Index := 0#32
  let c2_i32_244 : BitVec 32 := 2#32
  let c0_i32_47 : BitVec 32 := 0#32
  let c1_i32_49 : BitVec 32 := 1#32
  let arg27 : BitVec 32 := Scf.iv c0_i32_47 c1_i32_49 k0_t1
  let v375 : BitVec 32 := Scalar.muli c2_i32_244 arg27
  let c1_i32_245 : BitVec 32 := 1#32
  let v376 : BitVec 32 := Scalar.addi v375 c1_i32_245
  let c256_i32_246 : BitVec 32 := 256#32
  let v377 : BitVec 32 := Scalar.muli v376 c256_i32_246
  let v378 : BitVec 32 := v377
  let v379 : Index := Scalar.indexCast v378
  let c0_248 : Index := 0#32
  ![0, v379.toNat, 0]
def k0_mult3 (i : grid0.Coords) (k0_t1 : Fin (k0_t1_loop i).trips) : BitVec 32 :=
  let c2_i32_244 : BitVec 32 := 2#32
  let c0_i32_47 : BitVec 32 := 0#32
  let c1_i32_49 : BitVec 32 := 1#32
  let arg27 : BitVec 32 := Scf.iv c0_i32_47 c1_i32_49 k0_t1
  let v375 : BitVec 32 := Scalar.muli c2_i32_244 arg27
  let c256_i32_689 : BitVec 32 := 256#32
  let v1052 : BitVec 32 := Scalar.muli v375 c256_i32_689
  v1052
def k0_off2 (i : grid0.Coords) (k0_t1 : Fin (k0_t1_loop i).trips) : Fin 2 → Nat :=
  let c2_i32_244 : BitVec 32 := 2#32
  let c0_i32_47 : BitVec 32 := 0#32
  let c1_i32_49 : BitVec 32 := 1#32
  let arg27 : BitVec 32 := Scf.iv c0_i32_47 c1_i32_49 k0_t1
  let v375 : BitVec 32 := Scalar.muli c2_i32_244 arg27
  let c256_i32_689 : BitVec 32 := 256#32
  let v1052 : BitVec 32 := Scalar.muli v375 c256_i32_689
  let v1053 : BitVec 32 := v1052
  let v1054 : Index := Scalar.indexCast v1053
  let c0_690 : Index := 0#32
  ![v1054.toNat, 0]
def k0_mult4 (i : grid0.Coords) (k0_t1 : Fin (k0_t1_loop i).trips) : BitVec 32 :=
  let c2_i32_244 : BitVec 32 := 2#32
  let c0_i32_47 : BitVec 32 := 0#32
  let c1_i32_49 : BitVec 32 := 1#32
  let arg27 : BitVec 32 := Scf.iv c0_i32_47 c1_i32_49 k0_t1
  let v375 : BitVec 32 := Scalar.muli c2_i32_244 arg27
  let c256_i32_692 : BitVec 32 := 256#32
  let v1061 : BitVec 32 := Scalar.muli v375 c256_i32_692
  v1061
def k0_mult5 (i : grid0.Coords) (k0_t1 : Fin (k0_t1_loop i).trips) : BitVec 32 :=
  let c2_i32_244 : BitVec 32 := 2#32
  let c0_i32_47 : BitVec 32 := 0#32
  let c1_i32_49 : BitVec 32 := 1#32
  let arg27 : BitVec 32 := Scf.iv c0_i32_47 c1_i32_49 k0_t1
  let v375 : BitVec 32 := Scalar.muli c2_i32_244 arg27
  let c256_i32_696 : BitVec 32 := 256#32
  let v1072 : BitVec 32 := Scalar.muli v375 c256_i32_696
  v1072
def k0_mult6 (i : grid0.Coords) (k0_t1 : Fin (k0_t1_loop i).trips) : BitVec 32 :=
  let c2_i32_698 : BitVec 32 := 2#32
  let c0_i32_47 : BitVec 32 := 0#32
  let c1_i32_49 : BitVec 32 := 1#32
  let arg27 : BitVec 32 := Scf.iv c0_i32_47 c1_i32_49 k0_t1
  let v1078 : BitVec 32 := Scalar.muli c2_i32_698 arg27
  let c1_i32_699 : BitVec 32 := 1#32
  let v1079 : BitVec 32 := Scalar.addi v1078 c1_i32_699
  let c1_i32_700 : BitVec 32 := 1#32
  let v1080 : BitVec 32 := Scalar.addi v1079 c1_i32_700
  let c256_i32_701 : BitVec 32 := 256#32
  let v1081 : BitVec 32 := Scalar.muli v1080 c256_i32_701
  v1081
def k0_off3 (i : grid0.Coords) (k0_t1 : Fin (k0_t1_loop i).trips) : Fin 3 → Nat :=
  let c0_702 : Index := 0#32
  let c2_i32_698 : BitVec 32 := 2#32
  let c0_i32_47 : BitVec 32 := 0#32
  let c1_i32_49 : BitVec 32 := 1#32
  let arg27 : BitVec 32 := Scf.iv c0_i32_47 c1_i32_49 k0_t1
  let v1078 : BitVec 32 := Scalar.muli c2_i32_698 arg27
  let c1_i32_699 : BitVec 32 := 1#32
  let v1079 : BitVec 32 := Scalar.addi v1078 c1_i32_699
  let c1_i32_700 : BitVec 32 := 1#32
  let v1080 : BitVec 32 := Scalar.addi v1079 c1_i32_700
  let c256_i32_701 : BitVec 32 := 256#32
  let v1081 : BitVec 32 := Scalar.muli v1080 c256_i32_701
  let v1082 : BitVec 32 := v1081
  let v1083 : Index := Scalar.indexCast v1082
  let c0_703 : Index := 0#32
  ![0, v1083.toNat, 0]
def k0_mult7 (i : grid0.Coords) (k0_t1 : Fin (k0_t1_loop i).trips) : BitVec 32 :=
  let c2_i32_698 : BitVec 32 := 2#32
  let c0_i32_47 : BitVec 32 := 0#32
  let c1_i32_49 : BitVec 32 := 1#32
  let arg27 : BitVec 32 := Scf.iv c0_i32_47 c1_i32_49 k0_t1
  let v1078 : BitVec 32 := Scalar.muli c2_i32_698 arg27
  let c1_i32_699 : BitVec 32 := 1#32
  let v1079 : BitVec 32 := Scalar.addi v1078 c1_i32_699
  let c256_i32_1157 : BitVec 32 := 256#32
  let v1756 : BitVec 32 := Scalar.muli v1079 c256_i32_1157
  v1756
def k0_off4 (i : grid0.Coords) (k0_t1 : Fin (k0_t1_loop i).trips) : Fin 2 → Nat :=
  let c2_i32_698 : BitVec 32 := 2#32
  let c0_i32_47 : BitVec 32 := 0#32
  let c1_i32_49 : BitVec 32 := 1#32
  let arg27 : BitVec 32 := Scf.iv c0_i32_47 c1_i32_49 k0_t1
  let v1078 : BitVec 32 := Scalar.muli c2_i32_698 arg27
  let c1_i32_699 : BitVec 32 := 1#32
  let v1079 : BitVec 32 := Scalar.addi v1078 c1_i32_699
  let c256_i32_1157 : BitVec 32 := 256#32
  let v1756 : BitVec 32 := Scalar.muli v1079 c256_i32_1157
  let v1757 : BitVec 32 := v1756
  let v1758 : Index := Scalar.indexCast v1757
  let c0_1158 : Index := 0#32
  ![v1758.toNat, 0]
def k0_mult8 (i : grid0.Coords) (k0_t1 : Fin (k0_t1_loop i).trips) : BitVec 32 :=
  let c2_i32_698 : BitVec 32 := 2#32
  let c0_i32_47 : BitVec 32 := 0#32
  let c1_i32_49 : BitVec 32 := 1#32
  let arg27 : BitVec 32 := Scf.iv c0_i32_47 c1_i32_49 k0_t1
  let v1078 : BitVec 32 := Scalar.muli c2_i32_698 arg27
  let c1_i32_699 : BitVec 32 := 1#32
  let v1079 : BitVec 32 := Scalar.addi v1078 c1_i32_699
  let c256_i32_1160 : BitVec 32 := 256#32
  let v1765 : BitVec 32 := Scalar.muli v1079 c256_i32_1160
  v1765
def k0_mult9 (i : grid0.Coords) (k0_t1 : Fin (k0_t1_loop i).trips) : BitVec 32 :=
  let c2_i32_698 : BitVec 32 := 2#32
  let c0_i32_47 : BitVec 32 := 0#32
  let c1_i32_49 : BitVec 32 := 1#32
  let arg27 : BitVec 32 := Scf.iv c0_i32_47 c1_i32_49 k0_t1
  let v1078 : BitVec 32 := Scalar.muli c2_i32_698 arg27
  let c1_i32_699 : BitVec 32 := 1#32
  let v1079 : BitVec 32 := Scalar.addi v1078 c1_i32_699
  let c256_i32_1164 : BitVec 32 := 256#32
  let v1776 : BitVec 32 := Scalar.muli v1079 c256_i32_1164
  v1776
@[reducible] def k0_t2_loop (i : grid0.Coords) : Scf.Loop 32 :=
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let v89 : BitVec 32 := Scalar.addi c0_i32_47 v88
  let c1_i32_50 : BitVec 32 := 1#32
  ⟨v92, v89, c1_i32_50⟩
def k0_mult10 (i : grid0.Coords) (k0_t2 : Fin (k0_t2_loop i).trips) : BitVec 32 :=
  let c2_i32_244 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v375 : BitVec 32 := Scalar.muli c2_i32_244 arg27
  let c1_i32_245 : BitVec 32 := 1#32
  let v376 : BitVec 32 := Scalar.addi v375 c1_i32_245
  let c256_i32_246 : BitVec 32 := 256#32
  let v377 : BitVec 32 := Scalar.muli v376 c256_i32_246
  v377
def k0_off5 (i : grid0.Coords) (k0_t2 : Fin (k0_t2_loop i).trips) : Fin 3 → Nat :=
  let c0_247 : Index := 0#32
  let c2_i32_244 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v375 : BitVec 32 := Scalar.muli c2_i32_244 arg27
  let c1_i32_245 : BitVec 32 := 1#32
  let v376 : BitVec 32 := Scalar.addi v375 c1_i32_245
  let c256_i32_246 : BitVec 32 := 256#32
  let v377 : BitVec 32 := Scalar.muli v376 c256_i32_246
  let v378 : BitVec 32 := v377
  let v379 : Index := Scalar.indexCast v378
  let c0_248 : Index := 0#32
  ![0, v379.toNat, 0]
def k0_mult11 (i : grid0.Coords) (k0_t2 : Fin (k0_t2_loop i).trips) : BitVec 32 :=
  let c2_i32_244 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v375 : BitVec 32 := Scalar.muli c2_i32_244 arg27
  let c256_i32_689 : BitVec 32 := 256#32
  let v1052 : BitVec 32 := Scalar.muli v375 c256_i32_689
  v1052
def k0_off6 (i : grid0.Coords) (k0_t2 : Fin (k0_t2_loop i).trips) : Fin 2 → Nat :=
  let c2_i32_244 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v375 : BitVec 32 := Scalar.muli c2_i32_244 arg27
  let c256_i32_689 : BitVec 32 := 256#32
  let v1052 : BitVec 32 := Scalar.muli v375 c256_i32_689
  let v1053 : BitVec 32 := v1052
  let v1054 : Index := Scalar.indexCast v1053
  let c0_690 : Index := 0#32
  ![v1054.toNat, 0]
def k0_mult12 (i : grid0.Coords) (k0_t2 : Fin (k0_t2_loop i).trips) : BitVec 32 :=
  let c2_i32_244 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v375 : BitVec 32 := Scalar.muli c2_i32_244 arg27
  let c256_i32_692 : BitVec 32 := 256#32
  let v1061 : BitVec 32 := Scalar.muli v375 c256_i32_692
  v1061
def k0_mult13 (i : grid0.Coords) (k0_t2 : Fin (k0_t2_loop i).trips) : BitVec 32 :=
  let c2_i32_244 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v375 : BitVec 32 := Scalar.muli c2_i32_244 arg27
  let c256_i32_696 : BitVec 32 := 256#32
  let v1072 : BitVec 32 := Scalar.muli v375 c256_i32_696
  v1072
def k0_mult14 (i : grid0.Coords) (k0_t2 : Fin (k0_t2_loop i).trips) : BitVec 32 :=
  let c2_i32_698 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v1078 : BitVec 32 := Scalar.muli c2_i32_698 arg27
  let c1_i32_699 : BitVec 32 := 1#32
  let v1079 : BitVec 32 := Scalar.addi v1078 c1_i32_699
  let c1_i32_700 : BitVec 32 := 1#32
  let v1080 : BitVec 32 := Scalar.addi v1079 c1_i32_700
  let c256_i32_701 : BitVec 32 := 256#32
  let v1081 : BitVec 32 := Scalar.muli v1080 c256_i32_701
  v1081
def k0_off7 (i : grid0.Coords) (k0_t2 : Fin (k0_t2_loop i).trips) : Fin 3 → Nat :=
  let c0_702 : Index := 0#32
  let c2_i32_698 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v1078 : BitVec 32 := Scalar.muli c2_i32_698 arg27
  let c1_i32_699 : BitVec 32 := 1#32
  let v1079 : BitVec 32 := Scalar.addi v1078 c1_i32_699
  let c1_i32_700 : BitVec 32 := 1#32
  let v1080 : BitVec 32 := Scalar.addi v1079 c1_i32_700
  let c256_i32_701 : BitVec 32 := 256#32
  let v1081 : BitVec 32 := Scalar.muli v1080 c256_i32_701
  let v1082 : BitVec 32 := v1081
  let v1083 : Index := Scalar.indexCast v1082
  let c0_703 : Index := 0#32
  ![0, v1083.toNat, 0]
def k0_mult15 (i : grid0.Coords) (k0_t2 : Fin (k0_t2_loop i).trips) : BitVec 32 :=
  let c2_i32_698 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v1078 : BitVec 32 := Scalar.muli c2_i32_698 arg27
  let c1_i32_699 : BitVec 32 := 1#32
  let v1079 : BitVec 32 := Scalar.addi v1078 c1_i32_699
  let c256_i32_1157 : BitVec 32 := 256#32
  let v1756 : BitVec 32 := Scalar.muli v1079 c256_i32_1157
  v1756
def k0_off8 (i : grid0.Coords) (k0_t2 : Fin (k0_t2_loop i).trips) : Fin 2 → Nat :=
  let c2_i32_698 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v1078 : BitVec 32 := Scalar.muli c2_i32_698 arg27
  let c1_i32_699 : BitVec 32 := 1#32
  let v1079 : BitVec 32 := Scalar.addi v1078 c1_i32_699
  let c256_i32_1157 : BitVec 32 := 256#32
  let v1756 : BitVec 32 := Scalar.muli v1079 c256_i32_1157
  let v1757 : BitVec 32 := v1756
  let v1758 : Index := Scalar.indexCast v1757
  let c0_1158 : Index := 0#32
  ![v1758.toNat, 0]
def k0_mult16 (i : grid0.Coords) (k0_t2 : Fin (k0_t2_loop i).trips) : BitVec 32 :=
  let c2_i32_698 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v1078 : BitVec 32 := Scalar.muli c2_i32_698 arg27
  let c1_i32_699 : BitVec 32 := 1#32
  let v1079 : BitVec 32 := Scalar.addi v1078 c1_i32_699
  let c256_i32_1160 : BitVec 32 := 256#32
  let v1765 : BitVec 32 := Scalar.muli v1079 c256_i32_1160
  v1765
def k0_mult17 (i : grid0.Coords) (k0_t2 : Fin (k0_t2_loop i).trips) : BitVec 32 :=
  let c2_i32_698 : BitVec 32 := 2#32
  let c0_i32_47 : BitVec 32 := 0#32
  let arg1 : BitVec 32 := BitVec.ofNat 32 (i 1).val
  let c0_i32_40 : BitVec 32 := 0#32
  let v72 : BitVec 1 := Scalar.cmpi .sgt arg1 c0_i32_40
  let v73 : BitVec 32 := Scalar.extui v72
  let c0_i32_41 : BitVec 32 := 0#32
  let v74 : BitVec 1 := Scalar.cmpi .slt arg1 c0_i32_41
  let v75 : BitVec 32 := Scalar.extui v74
  let v76 : BitVec 32 := Scalar.subi v73 v75
  let c2_i32_39 : BitVec 32 := 2#32
  let c0_i32_42 : BitVec 32 := 0#32
  let v77 : BitVec 1 := Scalar.cmpi .sgt c2_i32_39 c0_i32_42
  let v78 : BitVec 32 := Scalar.extui v77
  let c0_i32_43 : BitVec 32 := 0#32
  let v79 : BitVec 1 := Scalar.cmpi .slt c2_i32_39 c0_i32_43
  let v80 : BitVec 32 := Scalar.extui v79
  let v81 : BitVec 32 := Scalar.subi v78 v80
  let v82 : BitVec 1 := Scalar.cmpi .ne v76 v81
  let v83 : BitVec 32 := Scalar.remsi arg1 c2_i32_39
  let c0_i32_44 : BitVec 32 := 0#32
  let v84 : BitVec 1 := Scalar.cmpi .ne v83 c0_i32_44
  let v85 : BitVec 1 := Scalar.andi v82 v84
  let v71 : BitVec 32 := Scalar.divsi arg1 c2_i32_39
  let c1_i32_45 : BitVec 32 := 1#32
  let v86 : BitVec 32 := Scalar.subi v71 c1_i32_45
  let v87 : BitVec 32 := Scalar.select v85 v86 v71
  let v88 : BitVec 32 := Scalar.subi v87 c0_i32_47
  let c1_i32_48 : BitVec 32 := 1#32
  let v90 : BitVec 32 := Scalar.divsi v88 c1_i32_48
  let v91 : BitVec 32 := Scalar.muli v90 c1_i32_48
  let v92 : BitVec 32 := Scalar.addi c0_i32_47 v91
  let c1_i32_50 : BitVec 32 := 1#32
  let arg27 : BitVec 32 := Scf.iv v92 c1_i32_50 k0_t2
  let v1078 : BitVec 32 := Scalar.muli c2_i32_698 arg27
  let c1_i32_699 : BitVec 32 := 1#32
  let v1079 : BitVec 32 := Scalar.addi v1078 c1_i32_699
  let c256_i32_1164 : BitVec 32 := 256#32
  let v1776 : BitVec 32 := Scalar.muli v1079 c256_i32_1164
  v1776
def k0_cond1 (i : grid0.Coords) : BitVec 1 :=
  let arg1 : BitVec 32 := BitVec.ofNat 32 (i 1).val
  let c2_i32_51 : BitVec 32 := 2#32
  let c0_i32_52 : BitVec 32 := 0#32
  let v93 : BitVec 1 := Scalar.cmpi .eq c2_i32_51 c0_i32_52
  let c1_i32_53 : BitVec 32 := 1#32
  let v94 : BitVec 32 := Scalar.select v93 c1_i32_53 c2_i32_51
  let v95 : BitVec 32 := Scalar.remsi arg1 v94
  let c0_i32_55 : BitVec 32 := 0#32
  let v97 : BitVec 1 := Scalar.cmpi .slt v95 c0_i32_55
  let c0_i32_56 : BitVec 32 := 0#32
  let v98 : BitVec 1 := Scalar.cmpi .slt v94 c0_i32_56
  let v99 : BitVec 1 := Scalar.xori v97 v98
  let c0_i32_54 : BitVec 32 := 0#32
  let v96 : BitVec 1 := Scalar.cmpi .ne v95 c0_i32_54
  let v100 : BitVec 1 := Scalar.andi v99 v96
  let v101 : BitVec 32 := Scalar.addi v95 v94
  let v102 : BitVec 32 := Scalar.select v100 v101 v95
  let c1_i32_57 : BitVec 32 := 1#32
  let v103 : BitVec 1 := Scalar.cmpi .eq v102 c1_i32_57
  let v104 : BitVec 32 := Scalar.extui v103
  let c0_i32_58 : BitVec 32 := 0#32
  let v105 : BitVec 1 := Scalar.cmpi .ne v104 c0_i32_58
  v105

def k0_mult18 (i : grid0.Coords) : BitVec 32 :=
  let arg1 : BitVec 32 := BitVec.ofNat 32 (i 1).val
  let c1_i32_244 : BitVec 32 := 1#32
  let v375 : BitVec 32 := Scalar.subi arg1 c1_i32_244
  let c1_i32_245 : BitVec 32 := 1#32
  let v376 : BitVec 32 := Scalar.addi v375 c1_i32_245
  let c256_i32_246 : BitVec 32 := 256#32
  let v377 : BitVec 32 := Scalar.muli v376 c256_i32_246
  v377
def k0_off9 (i : grid0.Coords) : Fin 3 → Nat :=
  let c0_247 : Index := 0#32
  let arg1 : BitVec 32 := BitVec.ofNat 32 (i 1).val
  let c1_i32_244 : BitVec 32 := 1#32
  let v375 : BitVec 32 := Scalar.subi arg1 c1_i32_244
  let c1_i32_245 : BitVec 32 := 1#32
  let v376 : BitVec 32 := Scalar.addi v375 c1_i32_245
  let c256_i32_246 : BitVec 32 := 256#32
  let v377 : BitVec 32 := Scalar.muli v376 c256_i32_246
  let v378 : BitVec 32 := v377
  let v379 : Index := Scalar.indexCast v378
  let c0_248 : Index := 0#32
  ![0, v379.toNat, 0]
def k0_mult19 (i : grid0.Coords) : BitVec 32 :=
  let arg1 : BitVec 32 := BitVec.ofNat 32 (i 1).val
  let c1_i32_244 : BitVec 32 := 1#32
  let v375 : BitVec 32 := Scalar.subi arg1 c1_i32_244
  let c256_i32_689 : BitVec 32 := 256#32
  let v1052 : BitVec 32 := Scalar.muli v375 c256_i32_689
  v1052
def k0_off10 (i : grid0.Coords) : Fin 2 → Nat :=
  let arg1 : BitVec 32 := BitVec.ofNat 32 (i 1).val
  let c1_i32_244 : BitVec 32 := 1#32
  let v375 : BitVec 32 := Scalar.subi arg1 c1_i32_244
  let c256_i32_689 : BitVec 32 := 256#32
  let v1052 : BitVec 32 := Scalar.muli v375 c256_i32_689
  let v1053 : BitVec 32 := v1052
  let v1054 : Index := Scalar.indexCast v1053
  let c0_690 : Index := 0#32
  ![v1054.toNat, 0]
def k0_mult20 (i : grid0.Coords) : BitVec 32 :=
  let arg1 : BitVec 32 := BitVec.ofNat 32 (i 1).val
  let c1_i32_244 : BitVec 32 := 1#32
  let v375 : BitVec 32 := Scalar.subi arg1 c1_i32_244
  let c256_i32_692 : BitVec 32 := 256#32
  let v1061 : BitVec 32 := Scalar.muli v375 c256_i32_692
  v1061
def k0_mult21 (i : grid0.Coords) : BitVec 32 :=
  let arg1 : BitVec 32 := BitVec.ofNat 32 (i 1).val
  let c1_i32_244 : BitVec 32 := 1#32
  let v375 : BitVec 32 := Scalar.subi arg1 c1_i32_244
  let c256_i32_696 : BitVec 32 := 256#32
  let v1072 : BitVec 32 := Scalar.muli v375 c256_i32_696
  v1072
def k0_cond2 (i : grid0.Coords) : BitVec 1 :=
  let arg1 : BitVec 32 := BitVec.ofNat 32 (i 1).val
  let c1_i32_59 : BitVec 32 := 1#32
  let v108 : BitVec 32 := Scalar.andi arg1 c1_i32_59
  let c0_i32_60 : BitVec 32 := 0#32
  let v109 : BitVec 1 := Scalar.cmpi .eq v108 c0_i32_60
  let v110 : BitVec 32 := Scalar.extui v109
  let c0_i32_61 : BitVec 32 := 0#32
  let v111 : BitVec 1 := Scalar.cmpi .ne v110 c0_i32_61
  v111

def k0_mult22 (i : grid0.Coords) : BitVec 32 :=
  let arg1 : BitVec 32 := BitVec.ofNat 32 (i 1).val
  let c256_i32_680 : BitVec 32 := 256#32
  let v1043 : BitVec 32 := Scalar.muli arg1 c256_i32_680
  v1043
def k0_off11 (i : grid0.Coords) : Fin 2 → Nat :=
  let arg1 : BitVec 32 := BitVec.ofNat 32 (i 1).val
  let c256_i32_680 : BitVec 32 := 256#32
  let v1043 : BitVec 32 := Scalar.muli arg1 c256_i32_680
  let v1044 : BitVec 32 := v1043
  let v1045 : Index := Scalar.indexCast v1044
  let c0_681 : Index := 0#32
  ![v1045.toNat, 0]
def k0_mult23 (i : grid0.Coords) : BitVec 32 :=
  let arg1 : BitVec 32 := BitVec.ofNat 32 (i 1).val
  let c256_i32_683 : BitVec 32 := 256#32
  let v1052 : BitVec 32 := Scalar.muli arg1 c256_i32_683
  v1052
def k0_mult24 (i : grid0.Coords) : BitVec 32 :=
  let arg1 : BitVec 32 := BitVec.ofNat 32 (i 1).val
  let c256_i32_687 : BitVec 32 := 256#32
  let v1063 : BitVec 32 := Scalar.muli arg1 c256_i32_687
  v1063
def k0_cond3 (i : grid0.Coords) : BitVec 1 :=
  let arg1 : BitVec 32 := BitVec.ofNat 32 (i 1).val
  let c1_i32_62 : BitVec 32 := 1#32
  let v112 : BitVec 32 := Scalar.andi arg1 c1_i32_62
  let c1_i32_63 : BitVec 32 := 1#32
  let v113 : BitVec 1 := Scalar.cmpi .eq v112 c1_i32_63
  let v114 : BitVec 32 := Scalar.extui v113
  let c0_i32_64 : BitVec 32 := 0#32
  let v115 : BitVec 1 := Scalar.cmpi .ne v114 c0_i32_64
  v115

def k0_mult25 (i : grid0.Coords) : BitVec 32 :=
  let arg1 : BitVec 32 := BitVec.ofNat 32 (i 1).val
  let c256_i32_680 : BitVec 32 := 256#32
  let v1043 : BitVec 32 := Scalar.muli arg1 c256_i32_680
  v1043
def k0_off12 (i : grid0.Coords) : Fin 2 → Nat :=
  let arg1 : BitVec 32 := BitVec.ofNat 32 (i 1).val
  let c256_i32_680 : BitVec 32 := 256#32
  let v1043 : BitVec 32 := Scalar.muli arg1 c256_i32_680
  let v1044 : BitVec 32 := v1043
  let v1045 : Index := Scalar.indexCast v1044
  let c0_681 : Index := 0#32
  ![v1045.toNat, 0]
def k0_mult26 (i : grid0.Coords) : BitVec 32 :=
  let arg1 : BitVec 32 := BitVec.ofNat 32 (i 1).val
  let c256_i32_683 : BitVec 32 := 256#32
  let v1052 : BitVec 32 := Scalar.muli arg1 c256_i32_683
  v1052
def k0_mult27 (i : grid0.Coords) : BitVec 32 :=
  let arg1 : BitVec 32 := BitVec.ofNat 32 (i 1).val
  let c256_i32_687 : BitVec 32 := 256#32
  let v1063 : BitVec 32 := Scalar.muli arg1 c256_i32_687
  v1063
def k0_mult28 (i : grid0.Coords) : BitVec 32 :=
  let arg1 : BitVec 32 := BitVec.ofNat 32 (i 1).val
  let c1_i32_65 : BitVec 32 := 1#32
  let v116 : BitVec 32 := Scalar.addi arg1 c1_i32_65
  let c256_i32 : BitVec 32 := 256#32
  let v118 : BitVec 32 := Scalar.muli v116 c256_i32
  v118
def k0_off13 (i : grid0.Coords) : Fin 2 → Nat :=
  let arg1 : BitVec 32 := BitVec.ofNat 32 (i 1).val
  let c1_i32_65 : BitVec 32 := 1#32
  let v116 : BitVec 32 := Scalar.addi arg1 c1_i32_65
  let c256_i32 : BitVec 32 := 256#32
  let v118 : BitVec 32 := Scalar.muli v116 c256_i32
  let v119 : BitVec 32 := v118
  let v120 : Index := Scalar.indexCast v119
  let c0_66 : Index := 0#32
  ![v120.toNat, 0]
def k0_mult29 (i : grid0.Coords) : BitVec 32 :=
  let arg1 : BitVec 32 := BitVec.ofNat 32 (i 1).val
  let c1_i32_65 : BitVec 32 := 1#32
  let v116 : BitVec 32 := Scalar.addi arg1 c1_i32_65
  let c256_i32_67 : BitVec 32 := 256#32
  let v127 : BitVec 32 := Scalar.muli v116 c256_i32_67
  v127
def k0_mult30 (i : grid0.Coords) : BitVec 32 :=
  let arg1 : BitVec 32 := BitVec.ofNat 32 (i 1).val
  let c1_i32_65 : BitVec 32 := 1#32
  let v116 : BitVec 32 := Scalar.addi arg1 c1_i32_65
  let c256_i32_69 : BitVec 32 := 256#32
  let v138 : BitVec 32 := Scalar.muli v116 c256_i32_69
  v138
def k0_cond4 (i : grid0.Coords) : BitVec 1 :=
  let arg1 : BitVec 32 := BitVec.ofNat 32 (i 1).val
  let c1_i32 : BitVec 32 := 1#32
  let v0 : BitVec 32 := Scalar.addi arg1 c1_i32
  let c2_i32_76 : BitVec 32 := 2#32
  let v152 : BitVec 1 := Scalar.cmpi .eq v0 c2_i32_76
  let v153 : BitVec 32 := Scalar.extui v152
  let c0_i32_77 : BitVec 32 := 0#32
  let v154 : BitVec 1 := Scalar.cmpi .ne v153 c0_i32_77
  v154

@[reducible] def k0_t3_loop : Scf.Loop 32 :=
  let c0_i32_246 : BitVec 32 := 0#32
  let c16_i32_247 : BitVec 32 := 16#32
  let v377 : BitVec 32 := Scalar.addi c0_i32_246 c16_i32_247
  let c1_i32_248 : BitVec 32 := 1#32
  ⟨c0_i32_246, v377, c1_i32_248⟩
@[reducible] def k0_t4_loop : Scf.Loop 32 :=
  let c0_i32_275 : BitVec 32 := 0#32
  let c16_i32_276 : BitVec 32 := 16#32
  let v528 : BitVec 32 := Scalar.addi c0_i32_275 c16_i32_276
  let c1_i32_277 : BitVec 32 := 1#32
  ⟨c0_i32_275, v528, c1_i32_277⟩
def k0_cond5 (i : grid0.Coords) : BitVec 1 :=
  let arg1 : BitVec 32 := BitVec.ofNat 32 (i 1).val
  let c1_i32 : BitVec 32 := 1#32
  let v0 : BitVec 32 := Scalar.addi arg1 c1_i32
  let c3_i32 : BitVec 32 := 3#32
  let v155 : BitVec 1 := Scalar.cmpi .eq v0 c3_i32
  let v156 : BitVec 32 := Scalar.extui v155
  let c0_i32_78 : BitVec 32 := 0#32
  let v157 : BitVec 1 := Scalar.cmpi .ne v156 c0_i32_78
  v157

@[reducible] def k0_t5_loop : Scf.Loop 32 :=
  let c0_i32_246 : BitVec 32 := 0#32
  let c16_i32_247 : BitVec 32 := 16#32
  let v377 : BitVec 32 := Scalar.addi c0_i32_246 c16_i32_247
  let c1_i32_248 : BitVec 32 := 1#32
  ⟨c0_i32_246, v377, c1_i32_248⟩
@[reducible] def k0_t6_loop : Scf.Loop 32 :=
  let c0_i32_286 : BitVec 32 := 0#32
  let c16_i32_287 : BitVec 32 := 16#32
  let v597 : BitVec 32 := Scalar.addi c0_i32_286 c16_i32_287
  let c1_i32_288 : BitVec 32 := 1#32
  ⟨c0_i32_286, v597, c1_i32_288⟩
def k0_cond6 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v158 : BitVec 1 := Scalar.cmpi .eq v0 c4_i32
  let v159 : BitVec 32 := Scalar.extui v158
  let c0_i32_79 : BitVec 32 := 0#32
  let v160 : BitVec 1 := Scalar.cmpi .ne v159 c0_i32_79
  v160

@[reducible] def k0_t7_loop : Scf.Loop 32 :=
  let c0_i32_246 : BitVec 32 := 0#32
  let c16_i32_247 : BitVec 32 := 16#32
  let v377 : BitVec 32 := Scalar.addi c0_i32_246 c16_i32_247
  let c1_i32_248 : BitVec 32 := 1#32
  ⟨c0_i32_246, v377, c1_i32_248⟩
@[reducible] def k0_t8_loop : Scf.Loop 32 :=
  let c0_i32_297 : BitVec 32 := 0#32
  let c16_i32_298 : BitVec 32 := 16#32
  let v666 : BitVec 32 := Scalar.addi c0_i32_297 c16_i32_298
  let c1_i32_299 : BitVec 32 := 1#32
  ⟨c0_i32_297, v666, c1_i32_299⟩
def k0_cond7 (i : grid0.Coords) : BitVec 1 :=
  let arg1 : BitVec 32 := BitVec.ofNat 32 (i 1).val
  let c1_i32 : BitVec 32 := 1#32
  let v0 : BitVec 32 := Scalar.addi arg1 c1_i32
  let c5_i32 : BitVec 32 := 5#32
  let v161 : BitVec 1 := Scalar.cmpi .eq v0 c5_i32
  let v162 : BitVec 32 := Scalar.extui v161
  let c0_i32_80 : BitVec 32 := 0#32
  let v163 : BitVec 1 := Scalar.cmpi .ne v162 c0_i32_80
  v163

@[reducible] def k0_t9_loop : Scf.Loop 32 :=
  let c0_i32_246 : BitVec 32 := 0#32
  let c16_i32_247 : BitVec 32 := 16#32
  let v377 : BitVec 32 := Scalar.addi c0_i32_246 c16_i32_247
  let c1_i32_248 : BitVec 32 := 1#32
  ⟨c0_i32_246, v377, c1_i32_248⟩
@[reducible] def k0_t10_loop : Scf.Loop 32 :=
  let c0_i32_308 : BitVec 32 := 0#32
  let c16_i32_309 : BitVec 32 := 16#32
  let v735 : BitVec 32 := Scalar.addi c0_i32_308 c16_i32_309
  let c1_i32_310 : BitVec 32 := 1#32
  ⟨c0_i32_308, v735, c1_i32_310⟩
def k0_cond8 (i : grid0.Coords) : BitVec 1 :=
  let arg1 : BitVec 32 := BitVec.ofNat 32 (i 1).val
  let c1_i32 : BitVec 32 := 1#32
  let v0 : BitVec 32 := Scalar.addi arg1 c1_i32
  let c6_i32 : BitVec 32 := 6#32
  let v164 : BitVec 1 := Scalar.cmpi .eq v0 c6_i32
  let v165 : BitVec 32 := Scalar.extui v164
  let c0_i32_81 : BitVec 32 := 0#32
  let v166 : BitVec 1 := Scalar.cmpi .ne v165 c0_i32_81
  v166

@[reducible] def k0_t11_loop : Scf.Loop 32 :=
  let c0_i32_246 : BitVec 32 := 0#32
  let c16_i32_247 : BitVec 32 := 16#32
  let v377 : BitVec 32 := Scalar.addi c0_i32_246 c16_i32_247
  let c1_i32_248 : BitVec 32 := 1#32
  ⟨c0_i32_246, v377, c1_i32_248⟩
@[reducible] def k0_t12_loop : Scf.Loop 32 :=
  let c0_i32_319 : BitVec 32 := 0#32
  let c16_i32_320 : BitVec 32 := 16#32
  let v804 : BitVec 32 := Scalar.addi c0_i32_319 c16_i32_320
  let c1_i32_321 : BitVec 32 := 1#32
  ⟨c0_i32_319, v804, c1_i32_321⟩
def k0_cond9 (i : grid0.Coords) : BitVec 1 :=
  let arg1 : BitVec 32 := BitVec.ofNat 32 (i 1).val
  let c1_i32 : BitVec 32 := 1#32
  let v0 : BitVec 32 := Scalar.addi arg1 c1_i32
  let c7_i32 : BitVec 32 := 7#32
  let v167 : BitVec 1 := Scalar.cmpi .eq v0 c7_i32
  let v168 : BitVec 32 := Scalar.extui v167
  let c0_i32_82 : BitVec 32 := 0#32
  let v169 : BitVec 1 := Scalar.cmpi .ne v168 c0_i32_82
  v169

@[reducible] def k0_t13_loop : Scf.Loop 32 :=
  let c0_i32_246 : BitVec 32 := 0#32
  let c16_i32_247 : BitVec 32 := 16#32
  let v377 : BitVec 32 := Scalar.addi c0_i32_246 c16_i32_247
  let c1_i32_248 : BitVec 32 := 1#32
  ⟨c0_i32_246, v377, c1_i32_248⟩
@[reducible] def k0_t14_loop : Scf.Loop 32 :=
  let c0_i32_330 : BitVec 32 := 0#32
  let c16_i32_331 : BitVec 32 := 16#32
  let v873 : BitVec 32 := Scalar.addi c0_i32_330 c16_i32_331
  let c1_i32_332 : BitVec 32 := 1#32
  ⟨c0_i32_330, v873, c1_i32_332⟩
def k0_cond10 (i : grid0.Coords) : BitVec 1 :=
  let arg1 : BitVec 32 := BitVec.ofNat 32 (i 1).val
  let c1_i32 : BitVec 32 := 1#32
  let v0 : BitVec 32 := Scalar.addi arg1 c1_i32
  let c8_i32 : BitVec 32 := 8#32
  let v170 : BitVec 1 := Scalar.cmpi .eq v0 c8_i32
  let v171 : BitVec 32 := Scalar.extui v170
  let c0_i32_83 : BitVec 32 := 0#32
  let v172 : BitVec 1 := Scalar.cmpi .ne v171 c0_i32_83
  v172

@[reducible] def k0_t15_loop : Scf.Loop 32 :=
  let c0_i32_246 : BitVec 32 := 0#32
  let c16_i32_247 : BitVec 32 := 16#32
  let v377 : BitVec 32 := Scalar.addi c0_i32_246 c16_i32_247
  let c1_i32_248 : BitVec 32 := 1#32
  ⟨c0_i32_246, v377, c1_i32_248⟩
@[reducible] def k0_t16_loop : Scf.Loop 32 :=
  let c0_i32_341 : BitVec 32 := 0#32
  let c16_i32_342 : BitVec 32 := 16#32
  let v942 : BitVec 32 := Scalar.addi c0_i32_341 c16_i32_342
  let c1_i32_343 : BitVec 32 := 1#32
  ⟨c0_i32_341, v942, c1_i32_343⟩
@[reducible] def k0_t17_loop (i : grid0.Coords) : Scf.Loop 32 :=
  let c0_i32_245 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v378 : BitVec 32 := Scalar.subi v18 c0_i32_245
  let c1_i32_246 : BitVec 32 := 1#32
  let v380 : BitVec 32 := Scalar.divsi v378 c1_i32_246
  let v381 : BitVec 32 := Scalar.muli v380 c1_i32_246
  let v382 : BitVec 32 := Scalar.addi c0_i32_245 v381
  let c1_i32_247 : BitVec 32 := 1#32
  ⟨c0_i32_245, v382, c1_i32_247⟩
def k0_mult31 (i : grid0.Coords) (k0_t17 : Fin (k0_t17_loop i).trips) : BitVec 32 :=
  let c0_i32_245 : BitVec 32 := 0#32
  let c1_i32_247 : BitVec 32 := 1#32
  let arg27 : BitVec 32 := Scf.iv c0_i32_245 c1_i32_247 k0_t17
  let c512_i32 : BitVec 32 := 512#32
  let v406 : BitVec 32 := Scalar.muli arg27 c512_i32
  v406
def k0_off14 (i : grid0.Coords) (k0_t17 : Fin (k0_t17_loop i).trips) : Fin 2 → Nat :=
  let c0_i32_245 : BitVec 32 := 0#32
  let c1_i32_247 : BitVec 32 := 1#32
  let arg27 : BitVec 32 := Scf.iv c0_i32_245 c1_i32_247 k0_t17
  let c512_i32 : BitVec 32 := 512#32
  let v406 : BitVec 32 := Scalar.muli arg27 c512_i32
  let v407 : BitVec 32 := v406
  let v408 : Index := Scalar.indexCast v407
  let c0_261 : Index := 0#32
  ![v408.toNat, 0]
@[reducible] def k0_t18_loop (i : grid0.Coords) : Scf.Loop 32 :=
  let c0_i32_245 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v378 : BitVec 32 := Scalar.subi v18 c0_i32_245
  let c1_i32_246 : BitVec 32 := 1#32
  let v380 : BitVec 32 := Scalar.divsi v378 c1_i32_246
  let v381 : BitVec 32 := Scalar.muli v380 c1_i32_246
  let v382 : BitVec 32 := Scalar.addi c0_i32_245 v381
  let v379 : BitVec 32 := Scalar.addi c0_i32_245 v378
  let c1_i32_248 : BitVec 32 := 1#32
  ⟨v382, v379, c1_i32_248⟩
def k0_mult32 (i : grid0.Coords) (k0_t18 : Fin (k0_t18_loop i).trips) : BitVec 32 :=
  let c0_i32_245 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v378 : BitVec 32 := Scalar.subi v18 c0_i32_245
  let c1_i32_246 : BitVec 32 := 1#32
  let v380 : BitVec 32 := Scalar.divsi v378 c1_i32_246
  let v381 : BitVec 32 := Scalar.muli v380 c1_i32_246
  let v382 : BitVec 32 := Scalar.addi c0_i32_245 v381
  let c1_i32_248 : BitVec 32 := 1#32
  let arg27 : BitVec 32 := Scf.iv v382 c1_i32_248 k0_t18
  let c512_i32 : BitVec 32 := 512#32
  let v406 : BitVec 32 := Scalar.muli arg27 c512_i32
  v406
def k0_off15 (i : grid0.Coords) (k0_t18 : Fin (k0_t18_loop i).trips) : Fin 2 → Nat :=
  let c0_i32_245 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v378 : BitVec 32 := Scalar.subi v18 c0_i32_245
  let c1_i32_246 : BitVec 32 := 1#32
  let v380 : BitVec 32 := Scalar.divsi v378 c1_i32_246
  let v381 : BitVec 32 := Scalar.muli v380 c1_i32_246
  let v382 : BitVec 32 := Scalar.addi c0_i32_245 v381
  let c1_i32_248 : BitVec 32 := 1#32
  let arg27 : BitVec 32 := Scf.iv v382 c1_i32_248 k0_t18
  let c512_i32 : BitVec 32 := 512#32
  let v406 : BitVec 32 := Scalar.muli arg27 c512_i32
  let v407 : BitVec 32 := v406
  let v408 : Index := Scalar.indexCast v407
  let c0_261 : Index := 0#32
  ![v408.toNat, 0]
@[reducible] def k0_t19_loop : Scf.Loop 32 :=
  let c0_i32_253 : BitVec 32 := 0#32
  let c12_i32 : BitVec 32 := 12#32
  let v395 : BitVec 32 := Scalar.addi c0_i32_253 c12_i32
  let c1_i32_254 : BitVec 32 := 1#32
  ⟨c0_i32_253, v395, c1_i32_254⟩
@[reducible] def k0_t20_loop (i : grid0.Coords) : Scf.Loop 32 :=
  let c0_i32_263 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v413 : BitVec 32 := Scalar.subi v18 c0_i32_263
  let c1_i32_264 : BitVec 32 := 1#32
  let v415 : BitVec 32 := Scalar.divsi v413 c1_i32_264
  let v416 : BitVec 32 := Scalar.muli v415 c1_i32_264
  let v417 : BitVec 32 := Scalar.addi c0_i32_263 v416
  let c1_i32_265 : BitVec 32 := 1#32
  ⟨c0_i32_263, v417, c1_i32_265⟩
def k0_mult33 (i : grid0.Coords) (k0_t20 : Fin (k0_t20_loop i).trips) : BitVec 32 :=
  let c0_i32_263 : BitVec 32 := 0#32
  let c1_i32_265 : BitVec 32 := 1#32
  let arg29 : BitVec 32 := Scf.iv c0_i32_263 c1_i32_265 k0_t20
  let c512_i32 : BitVec 32 := 512#32
  let v424 : BitVec 32 := Scalar.muli arg29 c512_i32
  v424
def k0_off16 (i : grid0.Coords) (k0_t20 : Fin (k0_t20_loop i).trips) : Fin 2 → Nat :=
  let c0_i32_263 : BitVec 32 := 0#32
  let c1_i32_265 : BitVec 32 := 1#32
  let arg29 : BitVec 32 := Scf.iv c0_i32_263 c1_i32_265 k0_t20
  let c512_i32 : BitVec 32 := 512#32
  let v424 : BitVec 32 := Scalar.muli arg29 c512_i32
  let v425 : BitVec 32 := v424
  let v426 : Index := Scalar.indexCast v425
  let c0_268 : Index := 0#32
  ![v426.toNat, 0]
@[reducible] def k0_t21_loop (i : grid0.Coords) : Scf.Loop 32 :=
  let c0_i32_263 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v413 : BitVec 32 := Scalar.subi v18 c0_i32_263
  let c1_i32_264 : BitVec 32 := 1#32
  let v415 : BitVec 32 := Scalar.divsi v413 c1_i32_264
  let v416 : BitVec 32 := Scalar.muli v415 c1_i32_264
  let v417 : BitVec 32 := Scalar.addi c0_i32_263 v416
  let v414 : BitVec 32 := Scalar.addi c0_i32_263 v413
  let c1_i32_266 : BitVec 32 := 1#32
  ⟨v417, v414, c1_i32_266⟩
def k0_mult34 (i : grid0.Coords) (k0_t21 : Fin (k0_t21_loop i).trips) : BitVec 32 :=
  let c0_i32_263 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v413 : BitVec 32 := Scalar.subi v18 c0_i32_263
  let c1_i32_264 : BitVec 32 := 1#32
  let v415 : BitVec 32 := Scalar.divsi v413 c1_i32_264
  let v416 : BitVec 32 := Scalar.muli v415 c1_i32_264
  let v417 : BitVec 32 := Scalar.addi c0_i32_263 v416
  let c1_i32_266 : BitVec 32 := 1#32
  let arg29 : BitVec 32 := Scf.iv v417 c1_i32_266 k0_t21
  let c512_i32 : BitVec 32 := 512#32
  let v424 : BitVec 32 := Scalar.muli arg29 c512_i32
  v424
def k0_off17 (i : grid0.Coords) (k0_t21 : Fin (k0_t21_loop i).trips) : Fin 2 → Nat :=
  let c0_i32_263 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v413 : BitVec 32 := Scalar.subi v18 c0_i32_263
  let c1_i32_264 : BitVec 32 := 1#32
  let v415 : BitVec 32 := Scalar.divsi v413 c1_i32_264
  let v416 : BitVec 32 := Scalar.muli v415 c1_i32_264
  let v417 : BitVec 32 := Scalar.addi c0_i32_263 v416
  let c1_i32_266 : BitVec 32 := 1#32
  let arg29 : BitVec 32 := Scf.iv v417 c1_i32_266 k0_t21
  let c512_i32 : BitVec 32 := 512#32
  let v424 : BitVec 32 := Scalar.muli arg29 c512_i32
  let v425 : BitVec 32 := v424
  let v426 : Index := Scalar.indexCast v425
  let c0_268 : Index := 0#32
  ![v426.toNat, 0]
@[reducible] def k0_t22_loop (i : grid0.Coords) : Scf.Loop 32 :=
  let c0_i32_257 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v401 : BitVec 32 := Scalar.subi v18 c0_i32_257
  let c1_i32_258 : BitVec 32 := 1#32
  let v403 : BitVec 32 := Scalar.divsi v401 c1_i32_258
  let v404 : BitVec 32 := Scalar.muli v403 c1_i32_258
  let v405 : BitVec 32 := Scalar.addi c0_i32_257 v404
  let c1_i32_259 : BitVec 32 := 1#32
  ⟨c0_i32_257, v405, c1_i32_259⟩
def k0_mult35 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c512_i32 : BitVec 32 := 512#32
  let v406 : BitVec 32 := Scalar.muli arg27 c512_i32
  v406
def k0_off18 (i : grid0.Coords) (k0_t22 : Fin (k0_t22_loop i).trips) : Fin 2 → Nat :=
  let c0_i32_257 : BitVec 32 := 0#32
  let c1_i32_259 : BitVec 32 := 1#32
  let arg27 : BitVec 32 := Scf.iv c0_i32_257 c1_i32_259 k0_t22
  let c512_i32 : BitVec 32 := 512#32
  let v406 : BitVec 32 := Scalar.muli arg27 c512_i32
  let v407 : BitVec 32 := v406
  let v408 : Index := Scalar.indexCast v407
  let c0_261 : Index := 0#32
  ![v408.toNat, 0]
@[reducible] def k0_t23_loop (i : grid0.Coords) : Scf.Loop 32 :=
  let c0_i32_257 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v401 : BitVec 32 := Scalar.subi v18 c0_i32_257
  let c1_i32_258 : BitVec 32 := 1#32
  let v403 : BitVec 32 := Scalar.divsi v401 c1_i32_258
  let v404 : BitVec 32 := Scalar.muli v403 c1_i32_258
  let v405 : BitVec 32 := Scalar.addi c0_i32_257 v404
  let v402 : BitVec 32 := Scalar.addi c0_i32_257 v401
  let c1_i32_260 : BitVec 32 := 1#32
  ⟨v405, v402, c1_i32_260⟩
def k0_mult36 (i : grid0.Coords) (k0_t23 : Fin (k0_t23_loop i).trips) : BitVec 32 :=
  let c0_i32_257 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v401 : BitVec 32 := Scalar.subi v18 c0_i32_257
  let c1_i32_258 : BitVec 32 := 1#32
  let v403 : BitVec 32 := Scalar.divsi v401 c1_i32_258
  let v404 : BitVec 32 := Scalar.muli v403 c1_i32_258
  let v405 : BitVec 32 := Scalar.addi c0_i32_257 v404
  let c1_i32_260 : BitVec 32 := 1#32
  let arg27 : BitVec 32 := Scf.iv v405 c1_i32_260 k0_t23
  let c512_i32 : BitVec 32 := 512#32
  let v406 : BitVec 32 := Scalar.muli arg27 c512_i32
  v406
def k0_off19 (i : grid0.Coords) (k0_t23 : Fin (k0_t23_loop i).trips) : Fin 2 → Nat :=
  let c0_i32_257 : BitVec 32 := 0#32
  let arg1 : BitVec 32 := BitVec.ofNat 32 (i 1).val
  let c2_i32 : BitVec 32 := 2#32
  let v1 : BitVec 32 := Scalar.addi arg1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32_5 : BitVec 32 := 1#32
  let v17 : BitVec 32 := Scalar.subi v2 c1_i32_5
  let v18 : BitVec 32 := Scalar.select v16 v17 v2
  let v401 : BitVec 32 := Scalar.subi v18 c0_i32_257
  let c1_i32_258 : BitVec 32 := 1#32
  let v403 : BitVec 32 := Scalar.divsi v401 c1_i32_258
  let v404 : BitVec 32 := Scalar.muli v403 c1_i32_258
  let v405 : BitVec 32 := Scalar.addi c0_i32_257 v404
  let c1_i32_260 : BitVec 32 := 1#32
  let arg27 : BitVec 32 := Scf.iv v405 c1_i32_260 k0_t23
  let c512_i32 : BitVec 32 := 512#32
  let v406 : BitVec 32 := Scalar.muli arg27 c512_i32
  let v407 : BitVec 32 := v406
  let v408 : Index := Scalar.indexCast v407
  let c0_261 : Index := 0#32
  ![v408.toNat, 0]
def k0_mult37 : BitVec 32 :=
  let c0_i32_105 : BitVec 32 := 0#32
  c0_i32_105
def k0_cond12 (i : grid0.Coords) : BitVec 1 :=
  let arg1 : BitVec 32 := BitVec.ofNat 32 (i 1).val
  let c0_i32_111 : BitVec 32 := 0#32
  let v211 : BitVec 1 := Scalar.cmpi .eq arg1 c0_i32_111
  let v214 : BitVec 32 := Scalar.extui v211
  let c0_i32_114 : BitVec 32 := 0#32
  let v215 : BitVec 1 := Scalar.cmpi .ne v214 c0_i32_114
  v215

def k0_mult38 : BitVec 32 :=
  let c0_i32_244 : BitVec 32 := 0#32
  c0_i32_244
def k0_mult39 : BitVec 32 :=
  let c0_i32_264 : BitVec 32 := 0#32
  c0_i32_264
def k0_mult40 : BitVec 32 :=
  let c0_i32_284 : BitVec 32 := 0#32
  c0_i32_284
def k0_mult41 : BitVec 32 :=
  let c0_i32_304 : BitVec 32 := 0#32
  c0_i32_304
def k0_mult42 : BitVec 32 :=
  let c0_i32_324 : BitVec 32 := 0#32
  c0_i32_324
def k0_mult43 : BitVec 32 :=
  let c0_i32_344 : BitVec 32 := 0#32
  c0_i32_344
def k0_mult44 : BitVec 32 :=
  let c0_i32_363 : BitVec 32 := 0#32
  c0_i32_363
def k0_mult45 : BitVec 32 :=
  let c0_i32_383 : BitVec 32 := 0#32
  c0_i32_383
def k0_cond13 (i : grid0.Coords) : BitVec 1 :=
  let arg1 : BitVec 32 := BitVec.ofNat 32 (i 1).val
  let c1_i32_112 : BitVec 32 := 1#32
  let v212 : BitVec 1 := Scalar.cmpi .eq arg1 c1_i32_112
  let v216 : BitVec 32 := Scalar.extui v212
  let c0_i32_115 : BitVec 32 := 0#32
  let v217 : BitVec 1 := Scalar.cmpi .ne v216 c0_i32_115
  v217

def k0_mult46 : BitVec 32 :=
  let c0_i32_244 : BitVec 32 := 0#32
  c0_i32_244
def k0_mult47 : BitVec 32 :=
  let c0_i32_264 : BitVec 32 := 0#32
  c0_i32_264
def k0_mult48 : BitVec 32 :=
  let c0_i32_284 : BitVec 32 := 0#32
  c0_i32_284
def k0_mult49 : BitVec 32 :=
  let c0_i32_304 : BitVec 32 := 0#32
  c0_i32_304
def k0_mult50 : BitVec 32 :=
  let c0_i32_324 : BitVec 32 := 0#32
  c0_i32_324
def k0_mult51 : BitVec 32 :=
  let c0_i32_344 : BitVec 32 := 0#32
  c0_i32_344
def k0_mult52 : BitVec 32 :=
  let c0_i32_363 : BitVec 32 := 0#32
  c0_i32_363
def k0_mult53 : BitVec 32 :=
  let c0_i32_383 : BitVec 32 := 0#32
  c0_i32_383
def k0_cond14 (i : grid0.Coords) : BitVec 1 :=
  let arg1 : BitVec 32 := BitVec.ofNat 32 (i 1).val
  let c2_i32_113 : BitVec 32 := 2#32
  let v213 : BitVec 1 := Scalar.cmpi .sge arg1 c2_i32_113
  let v218 : BitVec 32 := Scalar.extui v213
  let c0_i32_116 : BitVec 32 := 0#32
  let v219 : BitVec 1 := Scalar.cmpi .ne v218 c0_i32_116
  v219

def k0_mult54 : BitVec 32 :=
  let c0_i32_244 : BitVec 32 := 0#32
  c0_i32_244
def k0_mult55 : BitVec 32 :=
  let c0_i32_260 : BitVec 32 := 0#32
  c0_i32_260
def k0_mult56 : BitVec 32 :=
  let c0_i32_276 : BitVec 32 := 0#32
  c0_i32_276
def k0_mult57 : BitVec 32 :=
  let c0_i32_292 : BitVec 32 := 0#32
  c0_i32_292
def k0_mult58 : BitVec 32 :=
  let c0_i32_308 : BitVec 32 := 0#32
  c0_i32_308
def k0_mult59 : BitVec 32 :=
  let c0_i32_324 : BitVec 32 := 0#32
  c0_i32_324
def k0_mult60 : BitVec 32 :=
  let c0_i32_339 : BitVec 32 := 0#32
  c0_i32_339
def k0_mult61 : BitVec 32 :=
  let c0_i32_355 : BitVec 32 := 0#32
  c0_i32_355
@[reducible] def k0_t24_loop (i : grid0.Coords) : Scf.Loop 32 :=
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_129 : BitVec 32 := 1#32
  ⟨c0_i32_127, v243, c1_i32_129⟩
def k0_mult62 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c256_i32_245 : BitVec 32 := 256#32
  let v376 : BitVec 32 := Scalar.muli v375 c256_i32_245
  v376
def k0_off20 (i : grid0.Coords) (k0_t24 : Fin (k0_t24_loop i).trips) : Fin 3 → Nat :=
  let c0_246 : Index := 0#32
  let c0_247 : Index := 0#32
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c256_i32_245 : BitVec 32 := 256#32
  let v376 : BitVec 32 := Scalar.muli v375 c256_i32_245
  let v377 : BitVec 32 := v376
  let v378 : Index := Scalar.indexCast v377
  ![0, 0, v378.toNat]
def k0_mult63 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_248 : BitVec 32 := 1#32
  let v382 : BitVec 32 := Scalar.addi v375 c1_i32_248
  let c256_i32_249 : BitVec 32 := 256#32
  let v383 : BitVec 32 := Scalar.muli v382 c256_i32_249
  v383
def k0_off21 (i : grid0.Coords) (k0_t24 : Fin (k0_t24_loop i).trips) : Fin 2 → Nat :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_248 : BitVec 32 := 1#32
  let v382 : BitVec 32 := Scalar.addi v375 c1_i32_248
  let c256_i32_249 : BitVec 32 := 256#32
  let v383 : BitVec 32 := Scalar.muli v382 c256_i32_249
  let v384 : BitVec 32 := v383
  let v385 : Index := Scalar.indexCast v384
  let c0_250 : Index := 0#32
  ![v385.toNat, 0]
def k0_mult64 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_255 : BitVec 32 := 1#32
  let v398 : BitVec 32 := Scalar.addi v375 c1_i32_255
  let c256_i32_256 : BitVec 32 := 256#32
  let v399 : BitVec 32 := Scalar.muli v398 c256_i32_256
  v399
def k0_off22 (i : grid0.Coords) (k0_t24 : Fin (k0_t24_loop i).trips) : Fin 3 → Nat :=
  let c0_257 : Index := 0#32
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_255 : BitVec 32 := 1#32
  let v398 : BitVec 32 := Scalar.addi v375 c1_i32_255
  let c256_i32_256 : BitVec 32 := 256#32
  let v399 : BitVec 32 := Scalar.muli v398 c256_i32_256
  let v400 : BitVec 32 := v399
  let v401 : Index := Scalar.indexCast v400
  let c0_258 : Index := 0#32
  ![0, v401.toNat, 0]
def k0_mult65 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_288 : BitVec 32 := 1#32
  let v440 : BitVec 32 := Scalar.addi v375 c1_i32_288
  let c256_i32_289 : BitVec 32 := 256#32
  let v441 : BitVec 32 := Scalar.muli v440 c256_i32_289
  v441
def k0_mult66 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_321 : BitVec 32 := 1#32
  let v482 : BitVec 32 := Scalar.addi v375 c1_i32_321
  let c256_i32_322 : BitVec 32 := 256#32
  let v483 : BitVec 32 := Scalar.muli v482 c256_i32_322
  v483
def k0_mult67 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_360 : BitVec 32 := 1#32
  let v532 : BitVec 32 := Scalar.addi v375 c1_i32_360
  let c256_i32_361 : BitVec 32 := 256#32
  let v533 : BitVec 32 := Scalar.muli v532 c256_i32_361
  v533
def k0_mult68 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_399 : BitVec 32 := 1#32
  let v582 : BitVec 32 := Scalar.addi v375 c1_i32_399
  let c256_i32_400 : BitVec 32 := 256#32
  let v583 : BitVec 32 := Scalar.muli v582 c256_i32_400
  v583
def k0_mult69 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_438 : BitVec 32 := 1#32
  let v632 : BitVec 32 := Scalar.addi v375 c1_i32_438
  let c256_i32_439 : BitVec 32 := 256#32
  let v633 : BitVec 32 := Scalar.muli v632 c256_i32_439
  v633
def k0_mult70 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_476 : BitVec 32 := 1#32
  let v682 : BitVec 32 := Scalar.addi v375 c1_i32_476
  let c256_i32_477 : BitVec 32 := 256#32
  let v683 : BitVec 32 := Scalar.muli v682 c256_i32_477
  v683
def k0_mult71 (i : grid0.Coords) (k0_t24 : Fin (k0_t24_loop i).trips) : BitVec 32 :=
  let c2_i32_244 : BitVec 32 := 2#32
  let c0_i32_127 : BitVec 32 := 0#32
  let c1_i32_129 : BitVec 32 := 1#32
  let arg27 : BitVec 32 := Scf.iv c0_i32_127 c1_i32_129 k0_t24
  let v375 : BitVec 32 := Scalar.muli c2_i32_244 arg27
  let c1_i32_515 : BitVec 32 := 1#32
  let v732 : BitVec 32 := Scalar.addi v375 c1_i32_515
  let c256_i32_516 : BitVec 32 := 256#32
  let v733 : BitVec 32 := Scalar.muli v732 c256_i32_516
  v733
def k0_mult72 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c256_i32_567 : BitVec 32 := 256#32
  let v800 : BitVec 32 := Scalar.muli v799 c256_i32_567
  v800
def k0_off23 (i : grid0.Coords) (k0_t24 : Fin (k0_t24_loop i).trips) : Fin 3 → Nat :=
  let c0_568 : Index := 0#32
  let c0_569 : Index := 0#32
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c256_i32_567 : BitVec 32 := 256#32
  let v800 : BitVec 32 := Scalar.muli v799 c256_i32_567
  let v801 : BitVec 32 := v800
  let v802 : Index := Scalar.indexCast v801
  ![0, 0, v802.toNat]
def k0_mult73 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_570 : BitVec 32 := 1#32
  let v806 : BitVec 32 := Scalar.addi v799 c1_i32_570
  let c256_i32_571 : BitVec 32 := 256#32
  let v807 : BitVec 32 := Scalar.muli v806 c256_i32_571
  v807
def k0_off24 (i : grid0.Coords) (k0_t24 : Fin (k0_t24_loop i).trips) : Fin 2 → Nat :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_570 : BitVec 32 := 1#32
  let v806 : BitVec 32 := Scalar.addi v799 c1_i32_570
  let c256_i32_571 : BitVec 32 := 256#32
  let v807 : BitVec 32 := Scalar.muli v806 c256_i32_571
  let v808 : BitVec 32 := v807
  let v809 : Index := Scalar.indexCast v808
  let c0_572 : Index := 0#32
  ![v809.toNat, 0]
def k0_mult74 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_577 : BitVec 32 := 1#32
  let v822 : BitVec 32 := Scalar.addi v799 c1_i32_577
  let c256_i32_578 : BitVec 32 := 256#32
  let v823 : BitVec 32 := Scalar.muli v822 c256_i32_578
  v823
def k0_off25 (i : grid0.Coords) (k0_t24 : Fin (k0_t24_loop i).trips) : Fin 3 → Nat :=
  let c0_579 : Index := 0#32
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_577 : BitVec 32 := 1#32
  let v822 : BitVec 32 := Scalar.addi v799 c1_i32_577
  let c256_i32_578 : BitVec 32 := 256#32
  let v823 : BitVec 32 := Scalar.muli v822 c256_i32_578
  let v824 : BitVec 32 := v823
  let v825 : Index := Scalar.indexCast v824
  let c0_580 : Index := 0#32
  ![0, v825.toNat, 0]
def k0_mult75 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_610 : BitVec 32 := 1#32
  let v864 : BitVec 32 := Scalar.addi v799 c1_i32_610
  let c256_i32_611 : BitVec 32 := 256#32
  let v865 : BitVec 32 := Scalar.muli v864 c256_i32_611
  v865
def k0_mult76 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_643 : BitVec 32 := 1#32
  let v906 : BitVec 32 := Scalar.addi v799 c1_i32_643
  let c256_i32_644 : BitVec 32 := 256#32
  let v907 : BitVec 32 := Scalar.muli v906 c256_i32_644
  v907
def k0_mult77 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_682 : BitVec 32 := 1#32
  let v956 : BitVec 32 := Scalar.addi v799 c1_i32_682
  let c256_i32_683 : BitVec 32 := 256#32
  let v957 : BitVec 32 := Scalar.muli v956 c256_i32_683
  v957
def k0_mult78 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_721 : BitVec 32 := 1#32
  let v1006 : BitVec 32 := Scalar.addi v799 c1_i32_721
  let c256_i32_722 : BitVec 32 := 256#32
  let v1007 : BitVec 32 := Scalar.muli v1006 c256_i32_722
  v1007
def k0_mult79 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_760 : BitVec 32 := 1#32
  let v1056 : BitVec 32 := Scalar.addi v799 c1_i32_760
  let c256_i32_761 : BitVec 32 := 256#32
  let v1057 : BitVec 32 := Scalar.muli v1056 c256_i32_761
  v1057
def k0_mult80 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_799 : BitVec 32 := 1#32
  let v1106 : BitVec 32 := Scalar.addi v799 c1_i32_799
  let c256_i32_800 : BitVec 32 := 256#32
  let v1107 : BitVec 32 := Scalar.muli v1106 c256_i32_800
  v1107
def k0_mult81 (i : grid0.Coords) (k0_t24 : Fin (k0_t24_loop i).trips) : BitVec 32 :=
  let c2_i32_565 : BitVec 32 := 2#32
  let c0_i32_127 : BitVec 32 := 0#32
  let c1_i32_129 : BitVec 32 := 1#32
  let arg27 : BitVec 32 := Scf.iv c0_i32_127 c1_i32_129 k0_t24
  let v798 : BitVec 32 := Scalar.muli c2_i32_565 arg27
  let c1_i32_566 : BitVec 32 := 1#32
  let v799 : BitVec 32 := Scalar.addi v798 c1_i32_566
  let c1_i32_838 : BitVec 32 := 1#32
  let v1156 : BitVec 32 := Scalar.addi v799 c1_i32_838
  let c256_i32_839 : BitVec 32 := 256#32
  let v1157 : BitVec 32 := Scalar.muli v1156 c256_i32_839
  v1157
@[reducible] def k0_t25_loop (i : grid0.Coords) : Scf.Loop 32 :=
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let v240 : BitVec 32 := Scalar.addi c0_i32_127 v239
  let c1_i32_130 : BitVec 32 := 1#32
  ⟨v243, v240, c1_i32_130⟩
def k0_mult82 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c256_i32_245 : BitVec 32 := 256#32
  let v376 : BitVec 32 := Scalar.muli v375 c256_i32_245
  v376
def k0_off26 (i : grid0.Coords) (k0_t25 : Fin (k0_t25_loop i).trips) : Fin 3 → Nat :=
  let c0_246 : Index := 0#32
  let c0_247 : Index := 0#32
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c256_i32_245 : BitVec 32 := 256#32
  let v376 : BitVec 32 := Scalar.muli v375 c256_i32_245
  let v377 : BitVec 32 := v376
  let v378 : Index := Scalar.indexCast v377
  ![0, 0, v378.toNat]
def k0_mult83 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_248 : BitVec 32 := 1#32
  let v382 : BitVec 32 := Scalar.addi v375 c1_i32_248
  let c256_i32_249 : BitVec 32 := 256#32
  let v383 : BitVec 32 := Scalar.muli v382 c256_i32_249
  v383
def k0_off27 (i : grid0.Coords) (k0_t25 : Fin (k0_t25_loop i).trips) : Fin 2 → Nat :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_248 : BitVec 32 := 1#32
  let v382 : BitVec 32 := Scalar.addi v375 c1_i32_248
  let c256_i32_249 : BitVec 32 := 256#32
  let v383 : BitVec 32 := Scalar.muli v382 c256_i32_249
  let v384 : BitVec 32 := v383
  let v385 : Index := Scalar.indexCast v384
  let c0_250 : Index := 0#32
  ![v385.toNat, 0]
def k0_mult84 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_255 : BitVec 32 := 1#32
  let v398 : BitVec 32 := Scalar.addi v375 c1_i32_255
  let c256_i32_256 : BitVec 32 := 256#32
  let v399 : BitVec 32 := Scalar.muli v398 c256_i32_256
  v399
def k0_off28 (i : grid0.Coords) (k0_t25 : Fin (k0_t25_loop i).trips) : Fin 3 → Nat :=
  let c0_257 : Index := 0#32
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_255 : BitVec 32 := 1#32
  let v398 : BitVec 32 := Scalar.addi v375 c1_i32_255
  let c256_i32_256 : BitVec 32 := 256#32
  let v399 : BitVec 32 := Scalar.muli v398 c256_i32_256
  let v400 : BitVec 32 := v399
  let v401 : Index := Scalar.indexCast v400
  let c0_258 : Index := 0#32
  ![0, v401.toNat, 0]
def k0_mult85 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_288 : BitVec 32 := 1#32
  let v440 : BitVec 32 := Scalar.addi v375 c1_i32_288
  let c256_i32_289 : BitVec 32 := 256#32
  let v441 : BitVec 32 := Scalar.muli v440 c256_i32_289
  v441
def k0_mult86 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_321 : BitVec 32 := 1#32
  let v482 : BitVec 32 := Scalar.addi v375 c1_i32_321
  let c256_i32_322 : BitVec 32 := 256#32
  let v483 : BitVec 32 := Scalar.muli v482 c256_i32_322
  v483
def k0_mult87 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_360 : BitVec 32 := 1#32
  let v532 : BitVec 32 := Scalar.addi v375 c1_i32_360
  let c256_i32_361 : BitVec 32 := 256#32
  let v533 : BitVec 32 := Scalar.muli v532 c256_i32_361
  v533
def k0_mult88 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_399 : BitVec 32 := 1#32
  let v582 : BitVec 32 := Scalar.addi v375 c1_i32_399
  let c256_i32_400 : BitVec 32 := 256#32
  let v583 : BitVec 32 := Scalar.muli v582 c256_i32_400
  v583
def k0_mult89 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_438 : BitVec 32 := 1#32
  let v632 : BitVec 32 := Scalar.addi v375 c1_i32_438
  let c256_i32_439 : BitVec 32 := 256#32
  let v633 : BitVec 32 := Scalar.muli v632 c256_i32_439
  v633
def k0_mult90 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_476 : BitVec 32 := 1#32
  let v682 : BitVec 32 := Scalar.addi v375 c1_i32_476
  let c256_i32_477 : BitVec 32 := 256#32
  let v683 : BitVec 32 := Scalar.muli v682 c256_i32_477
  v683
def k0_mult91 (i : grid0.Coords) (k0_t25 : Fin (k0_t25_loop i).trips) : BitVec 32 :=
  let c2_i32_244 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v375 : BitVec 32 := Scalar.muli c2_i32_244 arg27
  let c1_i32_515 : BitVec 32 := 1#32
  let v732 : BitVec 32 := Scalar.addi v375 c1_i32_515
  let c256_i32_516 : BitVec 32 := 256#32
  let v733 : BitVec 32 := Scalar.muli v732 c256_i32_516
  v733
def k0_mult92 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c256_i32_567 : BitVec 32 := 256#32
  let v800 : BitVec 32 := Scalar.muli v799 c256_i32_567
  v800
def k0_off29 (i : grid0.Coords) (k0_t25 : Fin (k0_t25_loop i).trips) : Fin 3 → Nat :=
  let c0_568 : Index := 0#32
  let c0_569 : Index := 0#32
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c256_i32_567 : BitVec 32 := 256#32
  let v800 : BitVec 32 := Scalar.muli v799 c256_i32_567
  let v801 : BitVec 32 := v800
  let v802 : Index := Scalar.indexCast v801
  ![0, 0, v802.toNat]
def k0_mult93 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_570 : BitVec 32 := 1#32
  let v806 : BitVec 32 := Scalar.addi v799 c1_i32_570
  let c256_i32_571 : BitVec 32 := 256#32
  let v807 : BitVec 32 := Scalar.muli v806 c256_i32_571
  v807
def k0_off30 (i : grid0.Coords) (k0_t25 : Fin (k0_t25_loop i).trips) : Fin 2 → Nat :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_570 : BitVec 32 := 1#32
  let v806 : BitVec 32 := Scalar.addi v799 c1_i32_570
  let c256_i32_571 : BitVec 32 := 256#32
  let v807 : BitVec 32 := Scalar.muli v806 c256_i32_571
  let v808 : BitVec 32 := v807
  let v809 : Index := Scalar.indexCast v808
  let c0_572 : Index := 0#32
  ![v809.toNat, 0]
def k0_mult94 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_577 : BitVec 32 := 1#32
  let v822 : BitVec 32 := Scalar.addi v799 c1_i32_577
  let c256_i32_578 : BitVec 32 := 256#32
  let v823 : BitVec 32 := Scalar.muli v822 c256_i32_578
  v823
def k0_off31 (i : grid0.Coords) (k0_t25 : Fin (k0_t25_loop i).trips) : Fin 3 → Nat :=
  let c0_579 : Index := 0#32
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_577 : BitVec 32 := 1#32
  let v822 : BitVec 32 := Scalar.addi v799 c1_i32_577
  let c256_i32_578 : BitVec 32 := 256#32
  let v823 : BitVec 32 := Scalar.muli v822 c256_i32_578
  let v824 : BitVec 32 := v823
  let v825 : Index := Scalar.indexCast v824
  let c0_580 : Index := 0#32
  ![0, v825.toNat, 0]
def k0_mult95 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_610 : BitVec 32 := 1#32
  let v864 : BitVec 32 := Scalar.addi v799 c1_i32_610
  let c256_i32_611 : BitVec 32 := 256#32
  let v865 : BitVec 32 := Scalar.muli v864 c256_i32_611
  v865
def k0_mult96 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_643 : BitVec 32 := 1#32
  let v906 : BitVec 32 := Scalar.addi v799 c1_i32_643
  let c256_i32_644 : BitVec 32 := 256#32
  let v907 : BitVec 32 := Scalar.muli v906 c256_i32_644
  v907
def k0_mult97 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_682 : BitVec 32 := 1#32
  let v956 : BitVec 32 := Scalar.addi v799 c1_i32_682
  let c256_i32_683 : BitVec 32 := 256#32
  let v957 : BitVec 32 := Scalar.muli v956 c256_i32_683
  v957
def k0_mult98 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_721 : BitVec 32 := 1#32
  let v1006 : BitVec 32 := Scalar.addi v799 c1_i32_721
  let c256_i32_722 : BitVec 32 := 256#32
  let v1007 : BitVec 32 := Scalar.muli v1006 c256_i32_722
  v1007
def k0_mult99 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_760 : BitVec 32 := 1#32
  let v1056 : BitVec 32 := Scalar.addi v799 c1_i32_760
  let c256_i32_761 : BitVec 32 := 256#32
  let v1057 : BitVec 32 := Scalar.muli v1056 c256_i32_761
  v1057
def k0_mult100 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_799 : BitVec 32 := 1#32
  let v1106 : BitVec 32 := Scalar.addi v799 c1_i32_799
  let c256_i32_800 : BitVec 32 := 256#32
  let v1107 : BitVec 32 := Scalar.muli v1106 c256_i32_800
  v1107
def k0_mult101 (i : grid0.Coords) (k0_t25 : Fin (k0_t25_loop i).trips) : BitVec 32 :=
  let c2_i32_565 : BitVec 32 := 2#32
  let c0_i32_127 : BitVec 32 := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c0_i32_120 : BitVec 32 := 0#32
  let v223 : BitVec 1 := Scalar.cmpi .sgt v221 c0_i32_120
  let v224 : BitVec 32 := Scalar.extui v223
  let c0_i32_121 : BitVec 32 := 0#32
  let v225 : BitVec 1 := Scalar.cmpi .slt v221 c0_i32_121
  let v226 : BitVec 32 := Scalar.extui v225
  let v227 : BitVec 32 := Scalar.subi v224 v226
  let c2_i32_119 : BitVec 32 := 2#32
  let c0_i32_122 : BitVec 32 := 0#32
  let v228 : BitVec 1 := Scalar.cmpi .sgt c2_i32_119 c0_i32_122
  let v229 : BitVec 32 := Scalar.extui v228
  let c0_i32_123 : BitVec 32 := 0#32
  let v230 : BitVec 1 := Scalar.cmpi .slt c2_i32_119 c0_i32_123
  let v231 : BitVec 32 := Scalar.extui v230
  let v232 : BitVec 32 := Scalar.subi v229 v231
  let v233 : BitVec 1 := Scalar.cmpi .ne v227 v232
  let v234 : BitVec 32 := Scalar.remsi v221 c2_i32_119
  let c0_i32_124 : BitVec 32 := 0#32
  let v235 : BitVec 1 := Scalar.cmpi .ne v234 c0_i32_124
  let v236 : BitVec 1 := Scalar.andi v233 v235
  let v222 : BitVec 32 := Scalar.divsi v221 c2_i32_119
  let c1_i32_125 : BitVec 32 := 1#32
  let v237 : BitVec 32 := Scalar.subi v222 c1_i32_125
  let v238 : BitVec 32 := Scalar.select v236 v237 v222
  let v239 : BitVec 32 := Scalar.subi v238 c0_i32_127
  let c1_i32_128 : BitVec 32 := 1#32
  let v241 : BitVec 32 := Scalar.divsi v239 c1_i32_128
  let v242 : BitVec 32 := Scalar.muli v241 c1_i32_128
  let v243 : BitVec 32 := Scalar.addi c0_i32_127 v242
  let c1_i32_130 : BitVec 32 := 1#32
  let arg27 : BitVec 32 := Scf.iv v243 c1_i32_130 k0_t25
  let v798 : BitVec 32 := Scalar.muli c2_i32_565 arg27
  let c1_i32_566 : BitVec 32 := 1#32
  let v799 : BitVec 32 := Scalar.addi v798 c1_i32_566
  let c1_i32_838 : BitVec 32 := 1#32
  let v1156 : BitVec 32 := Scalar.addi v799 c1_i32_838
  let c256_i32_839 : BitVec 32 := 256#32
  let v1157 : BitVec 32 := Scalar.muli v1156 c256_i32_839
  v1157
def k0_cond15 (i : grid0.Coords) : BitVec 1 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c2_i32_131 : BitVec 32 := 2#32
  let c0_i32_132 : BitVec 32 := 0#32
  let v244 : BitVec 1 := Scalar.cmpi .eq c2_i32_131 c0_i32_132
  let c1_i32_133 : BitVec 32 := 1#32
  let v245 : BitVec 32 := Scalar.select v244 c1_i32_133 c2_i32_131
  let v246 : BitVec 32 := Scalar.remsi v221 v245
  let c0_i32_135 : BitVec 32 := 0#32
  let v248 : BitVec 1 := Scalar.cmpi .slt v246 c0_i32_135
  let c0_i32_136 : BitVec 32 := 0#32
  let v249 : BitVec 1 := Scalar.cmpi .slt v245 c0_i32_136
  let v250 : BitVec 1 := Scalar.xori v248 v249
  let c0_i32_134 : BitVec 32 := 0#32
  let v247 : BitVec 1 := Scalar.cmpi .ne v246 c0_i32_134
  let v251 : BitVec 1 := Scalar.andi v250 v247
  let v252 : BitVec 32 := Scalar.addi v246 v245
  let v253 : BitVec 32 := Scalar.select v251 v252 v246
  let c1_i32_137 : BitVec 32 := 1#32
  let v254 : BitVec 1 := Scalar.cmpi .eq v253 c1_i32_137
  let v255 : BitVec 32 := Scalar.extui v254
  let c0_i32_138 : BitVec 32 := 0#32
  let v256 : BitVec 1 := Scalar.cmpi .ne v255 c0_i32_138
  v256

def k0_mult102 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c256_i32_245 : BitVec 32 := 256#32
  let v376 : BitVec 32 := Scalar.muli v375 c256_i32_245
  v376
def k0_off32 (i : grid0.Coords) : Fin 3 → Nat :=
  let c0_246 : Index := 0#32
  let c0_247 : Index := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c256_i32_245 : BitVec 32 := 256#32
  let v376 : BitVec 32 := Scalar.muli v375 c256_i32_245
  let v377 : BitVec 32 := v376
  let v378 : Index := Scalar.indexCast v377
  ![0, 0, v378.toNat]
def k0_mult103 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_248 : BitVec 32 := 1#32
  let v382 : BitVec 32 := Scalar.addi v375 c1_i32_248
  let c256_i32_249 : BitVec 32 := 256#32
  let v383 : BitVec 32 := Scalar.muli v382 c256_i32_249
  v383
def k0_off33 (i : grid0.Coords) : Fin 2 → Nat :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_248 : BitVec 32 := 1#32
  let v382 : BitVec 32 := Scalar.addi v375 c1_i32_248
  let c256_i32_249 : BitVec 32 := 256#32
  let v383 : BitVec 32 := Scalar.muli v382 c256_i32_249
  let v384 : BitVec 32 := v383
  let v385 : Index := Scalar.indexCast v384
  let c0_250 : Index := 0#32
  ![v385.toNat, 0]
def k0_mult104 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_255 : BitVec 32 := 1#32
  let v398 : BitVec 32 := Scalar.addi v375 c1_i32_255
  let c256_i32_256 : BitVec 32 := 256#32
  let v399 : BitVec 32 := Scalar.muli v398 c256_i32_256
  v399
def k0_off34 (i : grid0.Coords) : Fin 3 → Nat :=
  let c0_257 : Index := 0#32
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_255 : BitVec 32 := 1#32
  let v398 : BitVec 32 := Scalar.addi v375 c1_i32_255
  let c256_i32_256 : BitVec 32 := 256#32
  let v399 : BitVec 32 := Scalar.muli v398 c256_i32_256
  let v400 : BitVec 32 := v399
  let v401 : Index := Scalar.indexCast v400
  let c0_258 : Index := 0#32
  ![0, v401.toNat, 0]
def k0_mult105 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_288 : BitVec 32 := 1#32
  let v440 : BitVec 32 := Scalar.addi v375 c1_i32_288
  let c256_i32_289 : BitVec 32 := 256#32
  let v441 : BitVec 32 := Scalar.muli v440 c256_i32_289
  v441
def k0_mult106 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_321 : BitVec 32 := 1#32
  let v482 : BitVec 32 := Scalar.addi v375 c1_i32_321
  let c256_i32_322 : BitVec 32 := 256#32
  let v483 : BitVec 32 := Scalar.muli v482 c256_i32_322
  v483
def k0_mult107 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_360 : BitVec 32 := 1#32
  let v532 : BitVec 32 := Scalar.addi v375 c1_i32_360
  let c256_i32_361 : BitVec 32 := 256#32
  let v533 : BitVec 32 := Scalar.muli v532 c256_i32_361
  v533
def k0_mult108 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_399 : BitVec 32 := 1#32
  let v582 : BitVec 32 := Scalar.addi v375 c1_i32_399
  let c256_i32_400 : BitVec 32 := 256#32
  let v583 : BitVec 32 := Scalar.muli v582 c256_i32_400
  v583
def k0_mult109 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_438 : BitVec 32 := 1#32
  let v632 : BitVec 32 := Scalar.addi v375 c1_i32_438
  let c256_i32_439 : BitVec 32 := 256#32
  let v633 : BitVec 32 := Scalar.muli v632 c256_i32_439
  v633
def k0_mult110 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_476 : BitVec 32 := 1#32
  let v682 : BitVec 32 := Scalar.addi v375 c1_i32_476
  let c256_i32_477 : BitVec 32 := 256#32
  let v683 : BitVec 32 := Scalar.muli v682 c256_i32_477
  v683
def k0_mult111 (i : grid0.Coords) : BitVec 32 :=
  let arg1 : BitVec 32 := BitVec.ofNat 32 (i 1).val
  let c2_i32_117 : BitVec 32 := 2#32
  let v220 : BitVec 32 := Scalar.subi arg1 c2_i32_117
  let c0_i32_118 : BitVec 32 := 0#32
  let v221 : BitVec 32 := Scalar.maxsi v220 c0_i32_118
  let c1_i32_244 : BitVec 32 := 1#32
  let v375 : BitVec 32 := Scalar.subi v221 c1_i32_244
  let c1_i32_515 : BitVec 32 := 1#32
  let v732 : BitVec 32 := Scalar.addi v375 c1_i32_515
  let c256_i32_516 : BitVec 32 := 256#32
  let v733 : BitVec 32 := Scalar.muli v732 c256_i32_516
  v733
def k0_cond16 (i : grid0.Coords) : BitVec 1 :=
  let arg1 : BitVec 32 := BitVec.ofNat 32 (i 1).val
  let c2_i32_139 : BitVec 32 := 2#32
  let v257 : BitVec 1 := Scalar.cmpi .sge arg1 c2_i32_139
  let v258 : BitVec 32 := Scalar.extui v257
  let c0_i32_140 : BitVec 32 := 0#32
  let v259 : BitVec 1 := Scalar.cmpi .ne v258 c0_i32_140
  v259

def k0_cond17 (i : grid0.Coords) : BitVec 1 :=
  let arg1 : BitVec 32 := BitVec.ofNat 32 (i 1).val
  let c2_i32_244 : BitVec 32 := 2#32
  let v375 : BitVec 32 := Scalar.subi arg1 c2_i32_244
  let c1_i32_245 : BitVec 32 := 1#32
  let v376 : BitVec 32 := Scalar.andi v375 c1_i32_245
  let c0_i32_246 : BitVec 32 := 0#32
  let v377 : BitVec 1 := Scalar.cmpi .eq v376 c0_i32_246
  let v378 : BitVec 32 := Scalar.extui v377
  let c0_i32_247 : BitVec 32 := 0#32
  let v379 : BitVec 1 := Scalar.cmpi .ne v378 c0_i32_247
  v379

def k0_mult112 (i : grid0.Coords) : BitVec 32 :=
  let arg1 : BitVec 32 := BitVec.ofNat 32 (i 1).val
  let c2_i32_251 : BitVec 32 := 2#32
  let v384 : BitVec 32 := Scalar.subi arg1 c2_i32_251
  let c256_i32_252 : BitVec 32 := 256#32
  let v385 : BitVec 32 := Scalar.muli v384 c256_i32_252
  v385
def k0_off35 (i : grid0.Coords) : Fin 3 → Nat :=
  let c0_253 : Index := 0#32
  let c0_254 : Index := 0#32
  let arg1 : BitVec 32 := BitVec.ofNat 32 (i 1).val
  let c2_i32_251 : BitVec 32 := 2#32
  let v384 : BitVec 32 := Scalar.subi arg1 c2_i32_251
  let c256_i32_252 : BitVec 32 := 256#32
  let v385 : BitVec 32 := Scalar.muli v384 c256_i32_252
  let v386 : BitVec 32 := v385
  let v387 : Index := Scalar.indexCast v386
  ![0, 0, v387.toNat]
def k0_mult113 (i : grid0.Coords) : BitVec 32 :=
  let arg1 : BitVec 32 := BitVec.ofNat 32 (i 1).val
  let c2_i32_251 : BitVec 32 := 2#32
  let v384 : BitVec 32 := Scalar.subi arg1 c2_i32_251
  let c1_i32_255 : BitVec 32 := 1#32
  let v391 : BitVec 32 := Scalar.addi v384 c1_i32_255
  let c256_i32_256 : BitVec 32 := 256#32
  let v392 : BitVec 32 := Scalar.muli v391 c256_i32_256
  v392
def k0_off36 (i : grid0.Coords) : Fin 2 → Nat :=
  let arg1 : BitVec 32 := BitVec.ofNat 32 (i 1).val
  let c2_i32_251 : BitVec 32 := 2#32
  let v384 : BitVec 32 := Scalar.subi arg1 c2_i32_251
  let c1_i32_255 : BitVec 32 := 1#32
  let v391 : BitVec 32 := Scalar.addi v384 c1_i32_255
  let c256_i32_256 : BitVec 32 := 256#32
  let v392 : BitVec 32 := Scalar.muli v391 c256_i32_256
  let v393 : BitVec 32 := v392
  let v394 : Index := Scalar.indexCast v393
  let c0_257 : Index := 0#32
  ![v394.toNat, 0]
def k0_mult114 (i : grid0.Coords) : BitVec 32 :=
  let arg1 : BitVec 32 := BitVec.ofNat 32 (i 1).val
  let c2_i32_251 : BitVec 32 := 2#32
  let v384 : BitVec 32 := Scalar.subi arg1 c2_i32_251
  let c1_i32_262 : BitVec 32 := 1#32
  let v407 : BitVec 32 := Scalar.addi v384 c1_i32_262
  let c256_i32_263 : BitVec 32 := 256#32
  let v408 : BitVec 32 := Scalar.muli v407 c256_i32_263
  v408
def k0_off37 (i : grid0.Coords) : Fin 3 → Nat :=
  let c0_264 : Index := 0#32
  let arg1 : BitVec 32 := BitVec.ofNat 32 (i 1).val
  let c2_i32_251 : BitVec 32 := 2#32
  let v384 : BitVec 32 := Scalar.subi arg1 c2_i32_251
  let c1_i32_262 : BitVec 32 := 1#32
  let v407 : BitVec 32 := Scalar.addi v384 c1_i32_262
  let c256_i32_263 : BitVec 32 := 256#32
  let v408 : BitVec 32 := Scalar.muli v407 c256_i32_263
  let v409 : BitVec 32 := v408
  let v410 : Index := Scalar.indexCast v409
  let c0_265 : Index := 0#32
  ![0, v410.toNat, 0]
def k0_mult115 (i : grid0.Coords) : BitVec 32 :=
  let arg1 : BitVec 32 := BitVec.ofNat 32 (i 1).val
  let c2_i32_251 : BitVec 32 := 2#32
  let v384 : BitVec 32 := Scalar.subi arg1 c2_i32_251
  let c1_i32_299 : BitVec 32 := 1#32
  let v452 : BitVec 32 := Scalar.addi v384 c1_i32_299
  let c256_i32_300 : BitVec 32 := 256#32
  let v453 : BitVec 32 := Scalar.muli v452 c256_i32_300
  v453
def k0_mult116 (i : grid0.Coords) : BitVec 32 :=
  let arg1 : BitVec 32 := BitVec.ofNat 32 (i 1).val
  let c2_i32_251 : BitVec 32 := 2#32
  let v384 : BitVec 32 := Scalar.subi arg1 c2_i32_251
  let c1_i32_336 : BitVec 32 := 1#32
  let v497 : BitVec 32 := Scalar.addi v384 c1_i32_336
  let c256_i32_337 : BitVec 32 := 256#32
  let v498 : BitVec 32 := Scalar.muli v497 c256_i32_337
  v498
def k0_mult117 (i : grid0.Coords) : BitVec 32 :=
  let arg1 : BitVec 32 := BitVec.ofNat 32 (i 1).val
  let c2_i32_251 : BitVec 32 := 2#32
  let v384 : BitVec 32 := Scalar.subi arg1 c2_i32_251
  let c1_i32_379 : BitVec 32 := 1#32
  let v550 : BitVec 32 := Scalar.addi v384 c1_i32_379
  let c256_i32_380 : BitVec 32 := 256#32
  let v551 : BitVec 32 := Scalar.muli v550 c256_i32_380
  v551
def k0_mult118 (i : grid0.Coords) : BitVec 32 :=
  let arg1 : BitVec 32 := BitVec.ofNat 32 (i 1).val
  let c2_i32_251 : BitVec 32 := 2#32
  let v384 : BitVec 32 := Scalar.subi arg1 c2_i32_251
  let c1_i32_422 : BitVec 32 := 1#32
  let v603 : BitVec 32 := Scalar.addi v384 c1_i32_422
  let c256_i32_423 : BitVec 32 := 256#32
  let v604 : BitVec 32 := Scalar.muli v603 c256_i32_423
  v604
def k0_mult119 (i : grid0.Coords) : BitVec 32 :=
  let arg1 : BitVec 32 := BitVec.ofNat 32 (i 1).val
  let c2_i32_251 : BitVec 32 := 2#32
  let v384 : BitVec 32 := Scalar.subi arg1 c2_i32_251
  let c1_i32_465 : BitVec 32 := 1#32
  let v656 : BitVec 32 := Scalar.addi v384 c1_i32_465
  let c256_i32_466 : BitVec 32 := 256#32
  let v657 : BitVec 32 := Scalar.muli v656 c256_i32_466
  v657
def k0_mult120 (i : grid0.Coords) : BitVec 32 :=
  let arg1 : BitVec 32 := BitVec.ofNat 32 (i 1).val
  let c2_i32_251 : BitVec 32 := 2#32
  let v384 : BitVec 32 := Scalar.subi arg1 c2_i32_251
  let c1_i32_507 : BitVec 32 := 1#32
  let v709 : BitVec 32 := Scalar.addi v384 c1_i32_507
  let c256_i32_508 : BitVec 32 := 256#32
  let v710 : BitVec 32 := Scalar.muli v709 c256_i32_508
  v710
def k0_mult121 (i : grid0.Coords) : BitVec 32 :=
  let arg1 : BitVec 32 := BitVec.ofNat 32 (i 1).val
  let c2_i32_251 : BitVec 32 := 2#32
  let v384 : BitVec 32 := Scalar.subi arg1 c2_i32_251
  let c1_i32_550 : BitVec 32 := 1#32
  let v762 : BitVec 32 := Scalar.addi v384 c1_i32_550
  let c256_i32_551 : BitVec 32 := 256#32
  let v763 : BitVec 32 := Scalar.muli v762 c256_i32_551
  v763
def k0_cond18 (i : grid0.Coords) : BitVec 1 :=
  let arg1 : BitVec 32 := BitVec.ofNat 32 (i 1).val
  let c2_i32_244 : BitVec 32 := 2#32
  let v375 : BitVec 32 := Scalar.subi arg1 c2_i32_244
  let c1_i32_248 : BitVec 32 := 1#32
  let v380 : BitVec 32 := Scalar.andi v375 c1_i32_248
  let c1_i32_249 : BitVec 32 := 1#32
  let v381 : BitVec 1 := Scalar.cmpi .eq v380 c1_i32_249
  let v382 : BitVec 32 := Scalar.extui v381
  let c0_i32_250 : BitVec 32 := 0#32
  let v383 : BitVec 1 := Scalar.cmpi .ne v382 c0_i32_250
  v383

def k0_mult122 (i : grid0.Coords) : BitVec 32 :=
  let arg1 : BitVec 32 := BitVec.ofNat 32 (i 1).val
  let c2_i32_251 : BitVec 32 := 2#32
  let v384 : BitVec 32 := Scalar.subi arg1 c2_i32_251
  let c256_i32_252 : BitVec 32 := 256#32
  let v385 : BitVec 32 := Scalar.muli v384 c256_i32_252
  v385
def k0_off38 (i : grid0.Coords) : Fin 3 → Nat :=
  let c0_253 : Index := 0#32
  let c0_254 : Index := 0#32
  let arg1 : BitVec 32 := BitVec.ofNat 32 (i 1).val
  let c2_i32_251 : BitVec 32 := 2#32
  let v384 : BitVec 32 := Scalar.subi arg1 c2_i32_251
  let c256_i32_252 : BitVec 32 := 256#32
  let v385 : BitVec 32 := Scalar.muli v384 c256_i32_252
  let v386 : BitVec 32 := v385
  let v387 : Index := Scalar.indexCast v386
  ![0, 0, v387.toNat]
def k0_mult123 (i : grid0.Coords) : BitVec 32 :=
  let arg1 : BitVec 32 := BitVec.ofNat 32 (i 1).val
  let c2_i32_251 : BitVec 32 := 2#32
  let v384 : BitVec 32 := Scalar.subi arg1 c2_i32_251
  let c1_i32_255 : BitVec 32 := 1#32
  let v391 : BitVec 32 := Scalar.addi v384 c1_i32_255
  let c256_i32_256 : BitVec 32 := 256#32
  let v392 : BitVec 32 := Scalar.muli v391 c256_i32_256
  v392
def k0_off39 (i : grid0.Coords) : Fin 2 → Nat :=
  let arg1 : BitVec 32 := BitVec.ofNat 32 (i 1).val
  let c2_i32_251 : BitVec 32 := 2#32
  let v384 : BitVec 32 := Scalar.subi arg1 c2_i32_251
  let c1_i32_255 : BitVec 32 := 1#32
  let v391 : BitVec 32 := Scalar.addi v384 c1_i32_255
  let c256_i32_256 : BitVec 32 := 256#32
  let v392 : BitVec 32 := Scalar.muli v391 c256_i32_256
  let v393 : BitVec 32 := v392
  let v394 : Index := Scalar.indexCast v393
  let c0_257 : Index := 0#32
  ![v394.toNat, 0]
def k0_mult124 (i : grid0.Coords) : BitVec 32 :=
  let arg1 : BitVec 32 := BitVec.ofNat 32 (i 1).val
  let c2_i32_251 : BitVec 32 := 2#32
  let v384 : BitVec 32 := Scalar.subi arg1 c2_i32_251
  let c1_i32_262 : BitVec 32 := 1#32
  let v407 : BitVec 32 := Scalar.addi v384 c1_i32_262
  let c256_i32_263 : BitVec 32 := 256#32
  let v408 : BitVec 32 := Scalar.muli v407 c256_i32_263
  v408
def k0_off40 (i : grid0.Coords) : Fin 3 → Nat :=
  let c0_264 : Index := 0#32
  let arg1 : BitVec 32 := BitVec.ofNat 32 (i 1).val
  let c2_i32_251 : BitVec 32 := 2#32
  let v384 : BitVec 32 := Scalar.subi arg1 c2_i32_251
  let c1_i32_262 : BitVec 32 := 1#32
  let v407 : BitVec 32 := Scalar.addi v384 c1_i32_262
  let c256_i32_263 : BitVec 32 := 256#32
  let v408 : BitVec 32 := Scalar.muli v407 c256_i32_263
  let v409 : BitVec 32 := v408
  let v410 : Index := Scalar.indexCast v409
  let c0_265 : Index := 0#32
  ![0, v410.toNat, 0]
def k0_mult125 (i : grid0.Coords) : BitVec 32 :=
  let arg1 : BitVec 32 := BitVec.ofNat 32 (i 1).val
  let c2_i32_251 : BitVec 32 := 2#32
  let v384 : BitVec 32 := Scalar.subi arg1 c2_i32_251
  let c1_i32_299 : BitVec 32 := 1#32
  let v452 : BitVec 32 := Scalar.addi v384 c1_i32_299
  let c256_i32_300 : BitVec 32 := 256#32
  let v453 : BitVec 32 := Scalar.muli v452 c256_i32_300
  v453
def k0_mult126 (i : grid0.Coords) : BitVec 32 :=
  let arg1 : BitVec 32 := BitVec.ofNat 32 (i 1).val
  let c2_i32_251 : BitVec 32 := 2#32
  let v384 : BitVec 32 := Scalar.subi arg1 c2_i32_251
  let c1_i32_336 : BitVec 32 := 1#32
  let v497 : BitVec 32 := Scalar.addi v384 c1_i32_336
  let c256_i32_337 : BitVec 32 := 256#32
  let v498 : BitVec 32 := Scalar.muli v497 c256_i32_337
  v498
def k0_mult127 (i : grid0.Coords) : BitVec 32 :=
  let arg1 : BitVec 32 := BitVec.ofNat 32 (i 1).val
  let c2_i32_251 : BitVec 32 := 2#32
  let v384 : BitVec 32 := Scalar.subi arg1 c2_i32_251
  let c1_i32_379 : BitVec 32 := 1#32
  let v550 : BitVec 32 := Scalar.addi v384 c1_i32_379
  let c256_i32_380 : BitVec 32 := 256#32
  let v551 : BitVec 32 := Scalar.muli v550 c256_i32_380
  v551
def k0_mult128 (i : grid0.Coords) : BitVec 32 :=
  let arg1 : BitVec 32 := BitVec.ofNat 32 (i 1).val
  let c2_i32_251 : BitVec 32 := 2#32
  let v384 : BitVec 32 := Scalar.subi arg1 c2_i32_251
  let c1_i32_422 : BitVec 32 := 1#32
  let v603 : BitVec 32 := Scalar.addi v384 c1_i32_422
  let c256_i32_423 : BitVec 32 := 256#32
  let v604 : BitVec 32 := Scalar.muli v603 c256_i32_423
  v604
def k0_mult129 (i : grid0.Coords) : BitVec 32 :=
  let arg1 : BitVec 32 := BitVec.ofNat 32 (i 1).val
  let c2_i32_251 : BitVec 32 := 2#32
  let v384 : BitVec 32 := Scalar.subi arg1 c2_i32_251
  let c1_i32_465 : BitVec 32 := 1#32
  let v656 : BitVec 32 := Scalar.addi v384 c1_i32_465
  let c256_i32_466 : BitVec 32 := 256#32
  let v657 : BitVec 32 := Scalar.muli v656 c256_i32_466
  v657
def k0_mult130 (i : grid0.Coords) : BitVec 32 :=
  let arg1 : BitVec 32 := BitVec.ofNat 32 (i 1).val
  let c2_i32_251 : BitVec 32 := 2#32
  let v384 : BitVec 32 := Scalar.subi arg1 c2_i32_251
  let c1_i32_507 : BitVec 32 := 1#32
  let v709 : BitVec 32 := Scalar.addi v384 c1_i32_507
  let c256_i32_508 : BitVec 32 := 256#32
  let v710 : BitVec 32 := Scalar.muli v709 c256_i32_508
  v710
def k0_mult131 (i : grid0.Coords) : BitVec 32 :=
  let arg1 : BitVec 32 := BitVec.ofNat 32 (i 1).val
  let c2_i32_251 : BitVec 32 := 2#32
  let v384 : BitVec 32 := Scalar.subi arg1 c2_i32_251
  let c1_i32_550 : BitVec 32 := 1#32
  let v762 : BitVec 32 := Scalar.addi v384 c1_i32_550
  let c256_i32_551 : BitVec 32 := 256#32
  let v763 : BitVec 32 := Scalar.muli v762 c256_i32_551
  v763
def k0_cond19 (i : grid0.Coords) : BitVec 1 :=
  let arg1 : BitVec 32 := BitVec.ofNat 32 (i 1).val
  let c1_i32_141 : BitVec 32 := 1#32
  let v260 : BitVec 1 := Scalar.cmpi .sge arg1 c1_i32_141
  let v261 : BitVec 32 := Scalar.extui v260
  let c0_i32_142 : BitVec 32 := 0#32
  let v262 : BitVec 1 := Scalar.cmpi .ne v261 c0_i32_142
  v262

def k0_cond20 (i : grid0.Coords) : BitVec 1 :=
  let arg1 : BitVec 32 := BitVec.ofNat 32 (i 1).val
  let c1_i32_244 : BitVec 32 := 1#32
  let v375 : BitVec 32 := Scalar.subi arg1 c1_i32_244
  let c1_i32_245 : BitVec 32 := 1#32
  let v376 : BitVec 32 := Scalar.andi v375 c1_i32_245
  let c0_i32_246 : BitVec 32 := 0#32
  let v377 : BitVec 1 := Scalar.cmpi .eq v376 c0_i32_246
  let v378 : BitVec 32 := Scalar.extui v377
  let c0_i32_247 : BitVec 32 := 0#32
  let v379 : BitVec 1 := Scalar.cmpi .ne v378 c0_i32_247
  v379

def k0_mult132 (i : grid0.Coords) : BitVec 32 :=
  let arg1 : BitVec 32 := BitVec.ofNat 32 (i 1).val
  let c1_i32_251 : BitVec 32 := 1#32
  let v384 : BitVec 32 := Scalar.subi arg1 c1_i32_251
  let c256_i32_252 : BitVec 32 := 256#32
  let v385 : BitVec 32 := Scalar.muli v384 c256_i32_252
  v385
def k0_off41 (i : grid0.Coords) : Fin 3 → Nat :=
  let c0_253 : Index := 0#32
  let c0_254 : Index := 0#32
  let arg1 : BitVec 32 := BitVec.ofNat 32 (i 1).val
  let c1_i32_251 : BitVec 32 := 1#32
  let v384 : BitVec 32 := Scalar.subi arg1 c1_i32_251
  let c256_i32_252 : BitVec 32 := 256#32
  let v385 : BitVec 32 := Scalar.muli v384 c256_i32_252
  let v386 : BitVec 32 := v385
  let v387 : Index := Scalar.indexCast v386
  ![0, 0, v387.toNat]
def k0_mult133 (i : grid0.Coords) : BitVec 32 :=
  let arg1 : BitVec 32 := BitVec.ofNat 32 (i 1).val
  let c1_i32_251 : BitVec 32 := 1#32
  let v384 : BitVec 32 := Scalar.subi arg1 c1_i32_251
  let c1_i32_255 : BitVec 32 := 1#32
  let v391 : BitVec 32 := Scalar.addi v384 c1_i32_255
  let c256_i32_256 : BitVec 32 := 256#32
  let v392 : BitVec 32 := Scalar.muli v391 c256_i32_256
  v392
def k0_off42 (i : grid0.Coords) : Fin 2 → Nat :=
  let arg1 : BitVec 32 := BitVec.ofNat 32 (i 1).val
  let c1_i32_251 : BitVec 32 := 1#32
  let v384 : BitVec 32 := Scalar.subi arg1 c1_i32_251
  let c1_i32_255 : BitVec 32 := 1#32
  let v391 : BitVec 32 := Scalar.addi v384 c1_i32_255
  let c256_i32_256 : BitVec 32 := 256#32
  let v392 : BitVec 32 := Scalar.muli v391 c256_i32_256
  let v393 : BitVec 32 := v392
  let v394 : Index := Scalar.indexCast v393
  let c0_257 : Index := 0#32
  ![v394.toNat, 0]
def k0_mult134 (i : grid0.Coords) : BitVec 32 :=
  let arg1 : BitVec 32 := BitVec.ofNat 32 (i 1).val
  let c1_i32_251 : BitVec 32 := 1#32
  let v384 : BitVec 32 := Scalar.subi arg1 c1_i32_251
  let c1_i32_262 : BitVec 32 := 1#32
  let v407 : BitVec 32 := Scalar.addi v384 c1_i32_262
  let c256_i32_263 : BitVec 32 := 256#32
  let v408 : BitVec 32 := Scalar.muli v407 c256_i32_263
  v408
def k0_off43 (i : grid0.Coords) : Fin 3 → Nat :=
  let c0_264 : Index := 0#32
  let arg1 : BitVec 32 := BitVec.ofNat 32 (i 1).val
  let c1_i32_251 : BitVec 32 := 1#32
  let v384 : BitVec 32 := Scalar.subi arg1 c1_i32_251
  let c1_i32_262 : BitVec 32 := 1#32
  let v407 : BitVec 32 := Scalar.addi v384 c1_i32_262
  let c256_i32_263 : BitVec 32 := 256#32
  let v408 : BitVec 32 := Scalar.muli v407 c256_i32_263
  let v409 : BitVec 32 := v408
  let v410 : Index := Scalar.indexCast v409
  let c0_265 : Index := 0#32
  ![0, v410.toNat, 0]
def k0_mult135 (i : grid0.Coords) : BitVec 32 :=
  let arg1 : BitVec 32 := BitVec.ofNat 32 (i 1).val
  let c1_i32_251 : BitVec 32 := 1#32
  let v384 : BitVec 32 := Scalar.subi arg1 c1_i32_251
  let c1_i32_299 : BitVec 32 := 1#32
  let v452 : BitVec 32 := Scalar.addi v384 c1_i32_299
  let c256_i32_300 : BitVec 32 := 256#32
  let v453 : BitVec 32 := Scalar.muli v452 c256_i32_300
  v453
def k0_mult136 (i : grid0.Coords) : BitVec 32 :=
  let arg1 : BitVec 32 := BitVec.ofNat 32 (i 1).val
  let c1_i32_251 : BitVec 32 := 1#32
  let v384 : BitVec 32 := Scalar.subi arg1 c1_i32_251
  let c1_i32_336 : BitVec 32 := 1#32
  let v497 : BitVec 32 := Scalar.addi v384 c1_i32_336
  let c256_i32_337 : BitVec 32 := 256#32
  let v498 : BitVec 32 := Scalar.muli v497 c256_i32_337
  v498
def k0_mult137 (i : grid0.Coords) : BitVec 32 :=
  let arg1 : BitVec 32 := BitVec.ofNat 32 (i 1).val
  let c1_i32_251 : BitVec 32 := 1#32
  let v384 : BitVec 32 := Scalar.subi arg1 c1_i32_251
  let c1_i32_379 : BitVec 32 := 1#32
  let v550 : BitVec 32 := Scalar.addi v384 c1_i32_379
  let c256_i32_380 : BitVec 32 := 256#32
  let v551 : BitVec 32 := Scalar.muli v550 c256_i32_380
  v551
def k0_mult138 (i : grid0.Coords) : BitVec 32 :=
  let arg1 : BitVec 32 := BitVec.ofNat 32 (i 1).val
  let c1_i32_251 : BitVec 32 := 1#32
  let v384 : BitVec 32 := Scalar.subi arg1 c1_i32_251
  let c1_i32_422 : BitVec 32 := 1#32
  let v603 : BitVec 32 := Scalar.addi v384 c1_i32_422
  let c256_i32_423 : BitVec 32 := 256#32
  let v604 : BitVec 32 := Scalar.muli v603 c256_i32_423
  v604
def k0_mult139 (i : grid0.Coords) : BitVec 32 :=
  let arg1 : BitVec 32 := BitVec.ofNat 32 (i 1).val
  let c1_i32_251 : BitVec 32 := 1#32
  let v384 : BitVec 32 := Scalar.subi arg1 c1_i32_251
  let c1_i32_465 : BitVec 32 := 1#32
  let v656 : BitVec 32 := Scalar.addi v384 c1_i32_465
  let c256_i32_466 : BitVec 32 := 256#32
  let v657 : BitVec 32 := Scalar.muli v656 c256_i32_466
  v657
def k0_mult140 (i : grid0.Coords) : BitVec 32 :=
  let arg1 : BitVec 32 := BitVec.ofNat 32 (i 1).val
  let c1_i32_251 : BitVec 32 := 1#32
  let v384 : BitVec 32 := Scalar.subi arg1 c1_i32_251
  let c1_i32_507 : BitVec 32 := 1#32
  let v709 : BitVec 32 := Scalar.addi v384 c1_i32_507
  let c256_i32_508 : BitVec 32 := 256#32
  let v710 : BitVec 32 := Scalar.muli v709 c256_i32_508
  v710
def k0_mult141 (i : grid0.Coords) : BitVec 32 :=
  let arg1 : BitVec 32 := BitVec.ofNat 32 (i 1).val
  let c1_i32_251 : BitVec 32 := 1#32
  let v384 : BitVec 32 := Scalar.subi arg1 c1_i32_251
  let c1_i32_550 : BitVec 32 := 1#32
  let v762 : BitVec 32 := Scalar.addi v384 c1_i32_550
  let c256_i32_551 : BitVec 32 := 256#32
  let v763 : BitVec 32 := Scalar.muli v762 c256_i32_551
  v763
def k0_cond21 (i : grid0.Coords) : BitVec 1 :=
  let arg1 : BitVec 32 := BitVec.ofNat 32 (i 1).val
  let c1_i32_244 : BitVec 32 := 1#32
  let v375 : BitVec 32 := Scalar.subi arg1 c1_i32_244
  let c1_i32_248 : BitVec 32 := 1#32
  let v380 : BitVec 32 := Scalar.andi v375 c1_i32_248
  let c1_i32_249 : BitVec 32 := 1#32
  let v381 : BitVec 1 := Scalar.cmpi .eq v380 c1_i32_249
  let v382 : BitVec 32 := Scalar.extui v381
  let c0_i32_250 : BitVec 32 := 0#32
  let v383 : BitVec 1 := Scalar.cmpi .ne v382 c0_i32_250
  v383

def k0_mult142 (i : grid0.Coords) : BitVec 32 :=
  let arg1 : BitVec 32 := BitVec.ofNat 32 (i 1).val
  let c1_i32_251 : BitVec 32 := 1#32
  let v384 : BitVec 32 := Scalar.subi arg1 c1_i32_251
  let c256_i32_252 : BitVec 32 := 256#32
  let v385 : BitVec 32 := Scalar.muli v384 c256_i32_252
  v385
def k0_off44 (i : grid0.Coords) : Fin 3 → Nat :=
  let c0_253 : Index := 0#32
  let c0_254 : Index := 0#32
  let arg1 : BitVec 32 := BitVec.ofNat 32 (i 1).val
  let c1_i32_251 : BitVec 32 := 1#32
  let v384 : BitVec 32 := Scalar.subi arg1 c1_i32_251
  let c256_i32_252 : BitVec 32 := 256#32
  let v385 : BitVec 32 := Scalar.muli v384 c256_i32_252
  let v386 : BitVec 32 := v385
  let v387 : Index := Scalar.indexCast v386
  ![0, 0, v387.toNat]
def k0_mult143 (i : grid0.Coords) : BitVec 32 :=
  let arg1 : BitVec 32 := BitVec.ofNat 32 (i 1).val
  let c1_i32_251 : BitVec 32 := 1#32
  let v384 : BitVec 32 := Scalar.subi arg1 c1_i32_251
  let c1_i32_255 : BitVec 32 := 1#32
  let v391 : BitVec 32 := Scalar.addi v384 c1_i32_255
  let c256_i32_256 : BitVec 32 := 256#32
  let v392 : BitVec 32 := Scalar.muli v391 c256_i32_256
  v392
def k0_off45 (i : grid0.Coords) : Fin 2 → Nat :=
  let arg1 : BitVec 32 := BitVec.ofNat 32 (i 1).val
  let c1_i32_251 : BitVec 32 := 1#32
  let v384 : BitVec 32 := Scalar.subi arg1 c1_i32_251
  let c1_i32_255 : BitVec 32 := 1#32
  let v391 : BitVec 32 := Scalar.addi v384 c1_i32_255
  let c256_i32_256 : BitVec 32 := 256#32
  let v392 : BitVec 32 := Scalar.muli v391 c256_i32_256
  let v393 : BitVec 32 := v392
  let v394 : Index := Scalar.indexCast v393
  let c0_257 : Index := 0#32
  ![v394.toNat, 0]
def k0_mult144 (i : grid0.Coords) : BitVec 32 :=
  let arg1 : BitVec 32 := BitVec.ofNat 32 (i 1).val
  let c1_i32_251 : BitVec 32 := 1#32
  let v384 : BitVec 32 := Scalar.subi arg1 c1_i32_251
  let c1_i32_262 : BitVec 32 := 1#32
  let v407 : BitVec 32 := Scalar.addi v384 c1_i32_262
  let c256_i32_263 : BitVec 32 := 256#32
  let v408 : BitVec 32 := Scalar.muli v407 c256_i32_263
  v408
def k0_off46 (i : grid0.Coords) : Fin 3 → Nat :=
  let c0_264 : Index := 0#32
  let arg1 : BitVec 32 := BitVec.ofNat 32 (i 1).val
  let c1_i32_251 : BitVec 32 := 1#32
  let v384 : BitVec 32 := Scalar.subi arg1 c1_i32_251
  let c1_i32_262 : BitVec 32 := 1#32
  let v407 : BitVec 32 := Scalar.addi v384 c1_i32_262
  let c256_i32_263 : BitVec 32 := 256#32
  let v408 : BitVec 32 := Scalar.muli v407 c256_i32_263
  let v409 : BitVec 32 := v408
  let v410 : Index := Scalar.indexCast v409
  let c0_265 : Index := 0#32
  ![0, v410.toNat, 0]
def k0_mult145 (i : grid0.Coords) : BitVec 32 :=
  let arg1 : BitVec 32 := BitVec.ofNat 32 (i 1).val
  let c1_i32_251 : BitVec 32 := 1#32
  let v384 : BitVec 32 := Scalar.subi arg1 c1_i32_251
  let c1_i32_299 : BitVec 32 := 1#32
  let v452 : BitVec 32 := Scalar.addi v384 c1_i32_299
  let c256_i32_300 : BitVec 32 := 256#32
  let v453 : BitVec 32 := Scalar.muli v452 c256_i32_300
  v453
def k0_mult146 (i : grid0.Coords) : BitVec 32 :=
  let arg1 : BitVec 32 := BitVec.ofNat 32 (i 1).val
  let c1_i32_251 : BitVec 32 := 1#32
  let v384 : BitVec 32 := Scalar.subi arg1 c1_i32_251
  let c1_i32_336 : BitVec 32 := 1#32
  let v497 : BitVec 32 := Scalar.addi v384 c1_i32_336
  let c256_i32_337 : BitVec 32 := 256#32
  let v498 : BitVec 32 := Scalar.muli v497 c256_i32_337
  v498
def k0_mult147 (i : grid0.Coords) : BitVec 32 :=
  let arg1 : BitVec 32 := BitVec.ofNat 32 (i 1).val
  let c1_i32_251 : BitVec 32 := 1#32
  let v384 : BitVec 32 := Scalar.subi arg1 c1_i32_251
  let c1_i32_379 : BitVec 32 := 1#32
  let v550 : BitVec 32 := Scalar.addi v384 c1_i32_379
  let c256_i32_380 : BitVec 32 := 256#32
  let v551 : BitVec 32 := Scalar.muli v550 c256_i32_380
  v551
def k0_mult148 (i : grid0.Coords) : BitVec 32 :=
  let arg1 : BitVec 32 := BitVec.ofNat 32 (i 1).val
  let c1_i32_251 : BitVec 32 := 1#32
  let v384 : BitVec 32 := Scalar.subi arg1 c1_i32_251
  let c1_i32_422 : BitVec 32 := 1#32
  let v603 : BitVec 32 := Scalar.addi v384 c1_i32_422
  let c256_i32_423 : BitVec 32 := 256#32
  let v604 : BitVec 32 := Scalar.muli v603 c256_i32_423
  v604
def k0_mult149 (i : grid0.Coords) : BitVec 32 :=
  let arg1 : BitVec 32 := BitVec.ofNat 32 (i 1).val
  let c1_i32_251 : BitVec 32 := 1#32
  let v384 : BitVec 32 := Scalar.subi arg1 c1_i32_251
  let c1_i32_465 : BitVec 32 := 1#32
  let v656 : BitVec 32 := Scalar.addi v384 c1_i32_465
  let c256_i32_466 : BitVec 32 := 256#32
  let v657 : BitVec 32 := Scalar.muli v656 c256_i32_466
  v657
def k0_mult150 (i : grid0.Coords) : BitVec 32 :=
  let arg1 : BitVec 32 := BitVec.ofNat 32 (i 1).val
  let c1_i32_251 : BitVec 32 := 1#32
  let v384 : BitVec 32 := Scalar.subi arg1 c1_i32_251
  let c1_i32_507 : BitVec 32 := 1#32
  let v709 : BitVec 32 := Scalar.addi v384 c1_i32_507
  let c256_i32_508 : BitVec 32 := 256#32
  let v710 : BitVec 32 := Scalar.muli v709 c256_i32_508
  v710
def k0_mult151 (i : grid0.Coords) : BitVec 32 :=
  let arg1 : BitVec 32 := BitVec.ofNat 32 (i 1).val
  let c1_i32_251 : BitVec 32 := 1#32
  let v384 : BitVec 32 := Scalar.subi arg1 c1_i32_251
  let c1_i32_550 : BitVec 32 := 1#32
  let v762 : BitVec 32 := Scalar.addi v384 c1_i32_550
  let c256_i32_551 : BitVec 32 := 256#32
  let v763 : BitVec 32 := Scalar.muli v762 c256_i32_551
  v763
def k0_cond22 (i : grid0.Coords) : BitVec 1 :=
  let arg1 : BitVec 32 := BitVec.ofNat 32 (i 1).val
  let c1_i32_143 : BitVec 32 := 1#32
  let v263 : BitVec 32 := Scalar.andi arg1 c1_i32_143
  let c0_i32_144 : BitVec 32 := 0#32
  let v264 : BitVec 1 := Scalar.cmpi .eq v263 c0_i32_144
  let v265 : BitVec 32 := Scalar.extui v264
  let c0_i32_145 : BitVec 32 := 0#32
  let v266 : BitVec 1 := Scalar.cmpi .ne v265 c0_i32_145
  v266

def k0_mult152 (i : grid0.Coords) : BitVec 32 :=
  let arg1 : BitVec 32 := BitVec.ofNat 32 (i 1).val
  let c256_i32_244 : BitVec 32 := 256#32
  let v375 : BitVec 32 := Scalar.muli arg1 c256_i32_244
  v375
def k0_off47 (i : grid0.Coords) : Fin 3 → Nat :=
  let c0_245 : Index := 0#32
  let c0_246 : Index := 0#32
  let arg1 : BitVec 32 := BitVec.ofNat 32 (i 1).val
  let c256_i32_244 : BitVec 32 := 256#32
  let v375 : BitVec 32 := Scalar.muli arg1 c256_i32_244
  let v376 : BitVec 32 := v375
  let v377 : Index := Scalar.indexCast v376
  ![0, 0, v377.toNat]
def k0_cond23 (i : grid0.Coords) : BitVec 1 :=
  let arg1 : BitVec 32 := BitVec.ofNat 32 (i 1).val
  let c1_i32_146 : BitVec 32 := 1#32
  let v267 : BitVec 32 := Scalar.andi arg1 c1_i32_146
  let c1_i32_147 : BitVec 32 := 1#32
  let v268 : BitVec 1 := Scalar.cmpi .eq v267 c1_i32_147
  let v269 : BitVec 32 := Scalar.extui v268
  let c0_i32_148 : BitVec 32 := 0#32
  let v270 : BitVec 1 := Scalar.cmpi .ne v269 c0_i32_148
  v270

def k0_mult153 (i : grid0.Coords) : BitVec 32 :=
  let arg1 : BitVec 32 := BitVec.ofNat 32 (i 1).val
  let c256_i32_244 : BitVec 32 := 256#32
  let v375 : BitVec 32 := Scalar.muli arg1 c256_i32_244
  v375
def k0_off48 (i : grid0.Coords) : Fin 3 → Nat :=
  let c0_245 : Index := 0#32
  let c0_246 : Index := 0#32
  let arg1 : BitVec 32 := BitVec.ofNat 32 (i 1).val
  let c256_i32_244 : BitVec 32 := 256#32
  let v375 : BitVec 32 := Scalar.muli arg1 c256_i32_244
  let v376 : BitVec 32 := v375
  let v377 : Index := Scalar.indexCast v376
  ![0, 0, v377.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x8x128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x8x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5.lean ====
abbrev S32x8 : Shape := ⟨2, ![32, 8]⟩
abbrev S2x8x256x256 : Shape := ⟨4, ![2, 8, 256, 256]⟩
abbrev S256x256 : Shape := ⟨2, ![256, 256]⟩
abbrev S1x1 : Shape := ⟨2, ![1, 1]⟩
abbrev S1x1x256x256 : Shape := ⟨4, ![1, 1, 256, 256]⟩

abbrev nBuf : Space → Nat
  | .hbm => 2
  | .vmem => 1
  | .smem => 1
  | _ => 0

abbrev bufTy : (tb : Table) → Fin (tcTables nBuf tb) → BufTy
  | .hbm, ⟨0, _⟩ => ⟨S32x8, .f32⟩
  | .hbm, ⟨1, _⟩ => ⟨S2x8x256x256, .f32⟩
  | .local _ .vmem, ⟨0, _⟩ => ⟨S2x8x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference5Ideal.lean ====
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S2x256x256x1 : Shape := ⟨4, ![2, 256, 256, 1]⟩
abbrev S2x256x256x8 : Shape := ⟨4, ![2, 256, 256, 8]⟩
abbrev S2x8x256x256 : Shape := ⟨4, ![2, 8, 256, 256]⟩
abbrev S1x8 : Shape := ⟨2, ![1, 8]⟩
abbrev S8 : Shape := ⟨1, ![8]⟩
abbrev S1x8x1x1 : Shape := ⟨4, ![1, 8, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S1x256x256, .i32⟩
  | .hbm, ⟨15, _⟩ => ⟨S1x256x256, .i32⟩
  | .hbm, ⟨16, _⟩ => ⟨S2x256x256, .i32⟩
  | .hbm, ⟨17, _⟩ => ⟨S_, .i32⟩
  | .hbm, ⟨18, _⟩ => ⟨S2x256x256, .i32⟩
  | .hbm, ⟨19, _⟩ => ⟨S2x256x256, .i32⟩
  | .hbm, ⟨20, _⟩ => ⟨S_, .i32⟩
  | .hbm, ⟨21, _⟩ => ⟨S2x256x256, .i32⟩
  | .hbm, ⟨22, _⟩ => ⟨S2x256x256, .i32⟩
  | .hbm, ⟨23, _⟩ => ⟨S2x256x256, .f32⟩
  | .hbm, ⟨24, _⟩ => ⟨S_, .f32⟩
  | .hbm, ⟨25, _⟩ => ⟨S2x256x256, .f32⟩
  | .hbm, ⟨26, _⟩ => ⟨S2x256x256, .f32⟩
  | .hbm, ⟨27, _⟩ => ⟨S2x256x256, .f32⟩
  | .hbm, ⟨28, _⟩ => ⟨S_, .f32⟩
  | .hbm, ⟨29, _⟩ => ⟨S2x256x256, .f32⟩
  | .hbm, ⟨30, _⟩ => ⟨S2x256x256, .f32⟩
  | .hbm, ⟨31, _⟩ => ⟨S_, .f32⟩
  | .hbm, ⟨32, _⟩ => ⟨S2x256x256, .f32⟩
  | .hbm, ⟨33, _⟩ => ⟨S2x256x256, .f32⟩
  | .hbm, ⟨34, _⟩ => ⟨S2x256x256, .i32⟩
  | .hbm, ⟨35, _⟩ => ⟨S_, .i32⟩
  | .hbm, ⟨36, _⟩ => ⟨S2x256x256, .i32⟩
  | .hbm, ⟨37, _⟩ => ⟨S2x256x256, .i32⟩
  | .hbm, ⟨38, _⟩ => ⟨S_, .i32⟩
  | .hbm, ⟨39, _⟩ => ⟨S2x256x256, .i32⟩
  | .hbm, ⟨40, _⟩ => ⟨S2x256x256, .i1⟩
  | .hbm, ⟨41, _⟩ => ⟨S_, .i32⟩
  | .hbm, ⟨42, _⟩ => ⟨S2x256x256, .i32⟩
  | .hbm, ⟨43, _⟩ => ⟨S2x256x256, .i32⟩
  | .hbm, ⟨44, _⟩ => ⟨S2x256x256, .i32⟩
  | .hbm, ⟨45, _⟩ => ⟨S_, .i32⟩
  | .hbm, ⟨46, _⟩ => ⟨S2x256x256, .i32⟩
  | .hbm, ⟨47, _⟩ => ⟨S2x256x256, .i1⟩
  | .hbm, ⟨48, _⟩ => ⟨S_, .i32⟩
  | .hbm, ⟨49, _⟩ => ⟨S2x256x256, .i32⟩
  | .hbm, ⟨50, _⟩ => ⟨S2x256x256, .i32⟩
  | .hbm, ⟨51, _⟩ => ⟨S2x256x256, .i32⟩
  | .hbm, ⟨52, _⟩ => ⟨S2x256x256x1, .i32⟩
  | .hbm, ⟨53, _⟩ => ⟨S2x256x256x8, .f32⟩
  | .hbm, ⟨54, _⟩ => ⟨S2x8x256x256, .f32⟩
  | .hbm, ⟨55, _⟩ => ⟨S1x8, .f32⟩
  | .hbm, ⟨56, _⟩ => ⟨S8, .f32⟩
  | .hbm, ⟨57, _⟩ => ⟨S1x8x1x1, .f32⟩
  | .hbm, ⟨58, _⟩ => ⟨S2x8x256x256, .f32⟩
  | .hbm, ⟨59, _⟩ => ⟨S2x8x256x256, .f32⟩
  | .hbm, ⟨60, _⟩ => ⟨S_, .f32⟩
  | .hbm, ⟨61, _⟩ => ⟨S2x8x256x256, .f32⟩
  | .hbm, ⟨62, _⟩ => ⟨S2x8x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_7 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_9 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Proof.Rows.lean ====
/-
  The projection call's arithmetic on ROWS: plain functions on rows of extended reals (a modulated and normalised row,
  a projection of a row, the gated unit, the causal depthwise convolution, the layer norm with its swish). The kernel's
  blocks and the reference's arrays are both read down to these functions, and the two are compared as such.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.Rows

/-- The small constant of every normalisation. -/
abbrev eps : EReal := Ideal.ofBits FTy.f32 897988541#32
/-- The row lengths as the programs write them: 1024, 512, 256, 128. -/
abbrev c1024 : EReal := Ideal.ofBits FTy.f32 1149239296#32
abbrev c512 : EReal := Ideal.ofBits FTy.f32 1140850688#32
abbrev c256 : EReal := Ideal.ofBits FTy.f32 1132462080#32
abbrev c128 : EReal := Ideal.ofBits FTy.f32 1124073472#32
/-- The scale of the queries. -/
abbrev qScale : EReal := Ideal.ofBits FTy.f32 1040356334#32

/-- The scale of the index weights. -/
abbrev wScale : EReal := Ideal.ofBits FTy.f32 1026884851#32

/-- Root-mean-square normalisation of the row `v` of length `N`, with gain `g`. -/
def rms {n : ℕ} (N : EReal) (v g : Fin n → EReal) (d : Fin n) : EReal :=
  v d * Ideal.rsqrt (Ideal.div (∑ x, v x * v x) N + eps) * g d

/-- The modulated row: the normalised row, scaled by `1 + sc` and shifted by `sh`. -/
def hRow (x sh sc g : Fin 1024 → EReal) (d : Fin 1024) : EReal := rms c1024 x g d * (1 + sc d) + sh d

/-- One entry of a projection: the product of a row with a column. -/
def dot {n : ℕ} (h w : Fin n → EReal) : EReal := ∑ k, h k * w k

/-- The gated linear unit, and swish. -/
def glu (u v : EReal) : EReal := u * Ideal.logistic v
def silu (v : EReal) : EReal := v * Ideal.logistic v

/-- The depthwise convolution at one place and channel: the bias, then tap after tap. -/
def conv (cb : EReal) (cw a : ℕ → EReal) : ℕ → EReal
  | 0 => cb
  | k + 1 => conv cb cw a k + cw k * a k

/-- Layer norm of a row of 512 with gain `g` and shift `b`. -/
def mean (c : Fin 512 → EReal) : EReal := Ideal.div (∑ x, c x) c512
def lnorm (c g b : Fin 512 → EReal) (d : Fin 512) : EReal :=
  (c d - mean c) * Ideal.rsqrt (Ideal.div (∑ x, (c x - mean c) * (c x - mean c)) c512 + eps) * g d + b d

end Cert.Rows

namespace Cert.KernelIdeal.Rows
open Cert.KernelIdeal Cert.KernelIdeal.Gen Cert.Rows

/-! ## One grid point's blocks as rows -/

variable (x0 : Vec Ideal S1x512x1024 .f32) (x1 : Vec Ideal S1x1x1x3072 .f32) (x2 : Vec Ideal S1x1x1024 .f32)
  (x3 : Vec Ideal S1x1024x2560 .bf16) (x4 : Vec Ideal S1x31x512 .f32) (x5 x6 x7 : Vec Ideal S1x1x512 .f32)
  (x8 : Vec Ideal S1x512x512 .bf16) (x9 : Vec Ideal S1x1x256 .f32) (x10 : Vec Ideal S1x256x1024 .bf16)
  (x11 : Vec Ideal S1x256x512 .bf16) (x12 : Vec Ideal S1x1x128 .f32)

/-- Row `n` of the block, modulated. -/
def bH (n : Fin 512) : Fin 1024 → EReal :=
  hRow (fun d => x0 (ix3 0 n d)) (fun d => x1 (ix4 0 0 0 ⟨d.val, by omega⟩)) (fun d => x1 (ix4 0 0 0 ⟨1024 + d.val, by omega⟩))
    (fun d => x2 (ix3 0 0 d))

/-- Row `n`'s projection on column `j` of the packed weights. -/
def bP (n : Fin 512) (j : Fin 2560) : EReal := dot (bH x0 x1 x2 n) (fun k => x3 (ix3 0 k j))

/-- The convolution's input at row `n` of the block and channel `d`. -/
def bA (n : ℕ) (d : Fin 512) : EReal :=
  if h : n < 512 then glu (bP x0 x1 x2 x3 ⟨n, h⟩ ⟨d.val, by omega⟩) (bP x0 x1 x2 x3 ⟨n, h⟩ ⟨512 + d.val, by omega⟩) else 0

/-- The buffer of the convolution: 32 rows `halo` that come from before the block, then the block's own rows. -/
def buf (halo : ℕ → Fin 512 → EReal) (n : ℕ) (d : Fin 512) : EReal :=
  if n < 32 then halo n d else bA x0 x1 x2 x3 (n - 32) d

/-- The convolution at row `n` of the block over a buffer `B`. -/
def bC (B : ℕ → Fin 512 → EReal) (n : ℕ) (d : Fin 512) : EReal :=
  conv (x5 (ix3 0 0 d)) (fun k => if h : k < 31 then x4 (ix3 0 ⟨k, h⟩ d) else 0) (fun k => B (n + 2 + k) d) 31

/-- The convolution written out, tap by tap. -/
theorem bC_eq (B : ℕ → Fin 512 → EReal) (n : ℕ) (d : Fin 512) : bC x4 x5 B n d = x5 (ix3 0 0 d) + x4 (ix3 0 0 d) * B (n + 2) d + x4 (ix3 0 1 d) * B (n + 3) d + x4 (ix3 0 2 d) * B (n + 4) d + x4 (ix3 0 3 d) * B (n + 5) d + x4 (ix3 0 4 d) * B (n + 6) d + x4 (ix3 0 5 d) * B (n + 7) d + x4 (ix3 0 6 d) * B (n + 8) d + x4 (ix3 0 7 d) * B (n + 9) d + x4 (ix3 0 8 d) * B (n + 10) d + x4 (ix3 0 9 d) * B (n + 11) d + x4 (ix3 0 10 d) * B (n + 12) d + x4 (ix3 0 11 d) * B (n + 13) d + x4 (ix3 0 12 d) * B (n + 14) d + x4 (ix3 0 13 d) * B (n + 15) d + x4 (ix3 0 14 d) * B (n + 16) d + x4 (ix3 0 15 d) * B (n + 17) d + x4 (ix3 0 16 d) * B (n + 18) d + x4 (ix3 0 17 d) * B (n + 19) d + x4 (ix3 0 18 d) * B (n + 20) d + x4 (ix3 0 19 d) * B (n + 21) d + x4 (ix3 0 20 d) * B (n + 22) d + x4 (ix3 0 21 d) * B (n + 23) d + x4 (ix3 0 22 d) * B (n + 24) d + x4 (ix3 0 23 d) * B (n + 25) d + x4 (ix3 0 24 d) * B (n + 26) d + x4 (ix3 0 25 d) * B (n + 27) d + x4 (ix3 0 26 d) * B (n + 28) d + x4 (ix3 0 27 d) * B (n + 29) d + x4 (ix3 0 28 d) * B (n + 30) d + x4 (ix3 0 29 d) * B (n + 31) d + x4 (ix3 0 30 d) * B (n + 32) d := rfl

/-- The output gate at row `n` of the block. -/
def bG (n : ℕ) (d : Fin 512) : EReal := if h : n < 512 then silu (bP x0 x1 x2 x3 ⟨n, h⟩ ⟨1024 + d.val, by omega⟩) else 0

/-- … normalised, through swish. -/
def bY (B : ℕ → Fin 512 → EReal) (n : ℕ) (d : Fin 512) : EReal :=
  silu (lnorm (bC x4 x5 B n) (fun d => x6 (ix3 0 0 d)) (fun d => x7 (ix3 0 0 d)) d)

/-- The convolution branch's output at row `n`, channel `d`. -/
def bO (B : ℕ → Fin 512 → EReal) (n : Fin 512) (d : Fin 512) : EReal :=
  dot (bY x4 x5 x6 x7 B n) (fun k => x8 (ix3 0 k d)) * bG x0 x1 x2 x3 n d

/-- The normalised compressed query row. -/
def bCq (n : Fin 512) : Fin 256 → EReal :=
  rms c256 (fun d : Fin 256 => bP x0 x1 x2 x3 n ⟨1536 + d.val, by omega⟩) (fun d => x9 (ix3 0 0 d))

/-- The normalised key-value row. -/
def bKv (n : Fin 512) : Fin 128 → EReal :=
  rms c128 (fun d : Fin 128 => bP x0 x1 x2 x3 n ⟨1792 + d.val, by omega⟩) (fun d => x12 (ix3 0 0 d))

/-- The queries, the index queries, the index keys, the index weights and the attention's gate at row `n`. -/
def bQ (n : Fin 512) (e : Fin 1024) : EReal := dot (bCq x0 x1 x2 x3 x9 n) (fun k => x10 (ix3 0 k e))
def bQi (n : Fin 512) (e : Fin 512) : EReal := dot (bCq x0 x1 x2 x3 x9 n) (fun k => x11 (ix3 0 k e))
def bKi (n : Fin 512) (e : Fin 64) : EReal := bP x0 x1 x2 x3 n ⟨1920 + e.val, by omega⟩
def bWt (n : Fin 512) (e : Fin 8) : EReal := bP x0 x1 x2 x3 n ⟨1920 + (64 + e.val), by omega⟩ * wScale
def bGa (n : Fin 512) (e : Fin 512) : EReal := silu (bP x0 x1 x2 x3 n ⟨2048 + e.val, by omega⟩)

end Cert.KernelIdeal.Rows

end
-- ==== Proof.Buffers.lean ====
/-
  Reading a buffer after a list of stores whose payloads are all pieces of ONE function of the buffer's index.
-/
module

public import proofs.«01_k».proof.Proof.Rows
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.Buffers

variable {Val : EltTy → Type} {sig : RefSig} {κ : Kind} {sp : Space} {s : Shape} {e : EltTy}

/-- Stores that all write pieces of `G`, read at an index that some store covers or that held `G` before: it holds `G`. -/
theorem read_pieces (v : View sig κ sp s e) (f : v.ty.Contents Val) (G : s.Idx → Val e) :
    ∀ (L : List (View.Piece Val s e)) (_ : ∀ p ∈ L, ∀ x : p.1.shape.Idx, p.2 x = G (p.1.emb x)) (y : s.Idx)
      (_ : (∃ p ∈ L, y ∈ p.1.set) ∨ v.read Val f y = G y), v.read Val (v.writes Val f L) y = G y
  | [], _, y, h => by
    rcases h with ⟨p, hp, _⟩ | h
    · simp at hp
    · rw [View.writes_nil]; exact h
  | p :: L, hL, y, h => by
    by_cases hm : y ∈ p.1.set
    · obtain ⟨r, w⟩ := p
      obtain ⟨x, rfl⟩ : ∃ x, r.emb x = y := r.exists_idx_of_mem hm
      rw [View.read_writes_cons_emb]
      exact hL ⟨r, w⟩ (List.mem_cons_self ..) x
    · have hm' : y ∉ Finset.univ.map p.1.emb := by rwa [Rect.map_emb_univ]
      rw [View.writes_cons, View.read_slice_write_of_not_mem p.1 _ _ _ hm']
      refine read_pieces v f G L (fun q hq => hL q (List.mem_cons_of_mem _ hq)) y ?_
      rcases h with ⟨q, hq, hyq⟩ | h
      · rcases List.mem_cons.mp hq with rfl | hq'
        · exact absurd hyq hm
        · exact .inl ⟨q, hq', hyq⟩
      · exact .inr h

theorem emb_unit_val {S : Shape} (off size : Fin S.rank → ℕ) (inb) (x : (Rect.unit (s := S) off size inb).shape.Idx) (a : Fin S.rank) :
    ((Rect.unit (s := S) off size inb).emb x a).val = off a + (x a).val :=
  Rect.idx_unit_val off size inb x a

/-- A store of the rows `[o, o + n)` of a buffer whose row `k` is to hold `B k`. -/
theorem rows_piece {M W o n : ℕ} {α : Type} (B : ℕ → Fin W → α) (inb) (w : (⟨2, ![n, W]⟩ : Shape).Idx → α)
    (h : ∀ (r : Fin n) (d : Fin W), w (ix2 r d) = B (o + r.val) d)
    (x : (Rect.unit (s := ⟨2, ![M, W]⟩) ![o, 0] ![n, W] inb).shape.Idx) :
    w x = B ((Rect.unit (s := ⟨2, ![M, W]⟩) ![o, 0] ![n, W] inb).emb x 0).val
      ((Rect.unit (s := ⟨2, ![M, W]⟩) ![o, 0] ![n, W] inb).emb x 1) := by
  have e : ((Rect.unit (s := ⟨2, ![M, W]⟩) ![o, 0] ![n, W] inb).emb x 1) = x 1 :=
    Fin.ext ((emb_unit_val _ _ inb x 1).trans (Nat.zero_add _))
  rw [emb_unit_val, e]
  refine (congrArg w (eq_ix2 x)).trans (h (x 0) (x 1))

/-- A store of the rows `[o, o + n)` of layer `q` of a buffer whose layer `q` holds `B` from row `q + 1` on. -/
theorem layer_piece {Q M W q o n : ℕ} {α : Type} (B : ℕ → Fin W → α) (inb) (w : (⟨3, ![1, n, W]⟩ : Shape).Idx → α)
    (h : ∀ (r : Fin n) (d : Fin W), w (ix3 0 r d) = B (o + r.val + q + 1) d)
    (x : (Rect.unit (s := ⟨3, ![Q, M, W]⟩) ![q, o, 0] ![1, n, W] inb).shape.Idx) :
    w x = B (((Rect.unit (s := ⟨3, ![Q, M, W]⟩) ![q, o, 0] ![1, n, W] inb).emb x 1).val
        + ((Rect.unit (s := ⟨3, ![Q, M, W]⟩) ![q, o, 0] ![1, n, W] inb).emb x 0).val + 1)
      ((Rect.unit (s := ⟨3, ![Q, M, W]⟩) ![q, o, 0] ![1, n, W] inb).emb x 2) := by
  have e : ((Rect.unit (s := ⟨3, ![Q, M, W]⟩) ![q, o, 0] ![1, n, W] inb).emb x 2) = x 2 :=
    Fin.ext ((emb_unit_val _ _ inb x 2).trans (Nat.zero_add _))
  have z : x 0 = (0 : Fin 1) := Subsingleton.elim (α := Fin 1) _ _
  rw [emb_unit_val, emb_unit_val, e, z]
  refine (congrArg w (eq_ix3 x)).trans ?_
  rw [z]
  exact h (x 1) (x 2)

/-- Stores of whole rows of `B`, which between them cover the rows `[lo, hi)`. -/
structure RowStores {M W : ℕ} (B : ℕ → Fin W → Val e) (lo hi : ℕ) (L : List (View.Piece Val (⟨2, ![M, W]⟩ : Shape) e)) : Prop where
  holds : ∀ p ∈ L, ∀ x : p.1.shape.Idx, p.2 x = B (p.1.emb x 0).val (p.1.emb x 1)
  covers : ∀ y : (⟨2, ![M, W]⟩ : Shape).Idx, lo ≤ (y 0).val → (y 0).val < hi → ∃ p ∈ L, y ∈ p.1.set

theorem RowStores.nil {M W : ℕ} (B : ℕ → Fin W → Val e) (lo : ℕ) : RowStores (M := M) B lo lo [] :=
  ⟨fun p hp => absurd hp List.not_mem_nil, fun y h h' => absurd (lt_of_le_of_lt h h') (lt_irrefl _)⟩

theorem RowStores.cons {M W o n lo hi : ℕ} {B : ℕ → Fin W → Val e} {L : List (View.Piece Val (⟨2, ![M, W]⟩ : Shape) e)}
    (inb) (w : (⟨2, ![n, W]⟩ : Shape).Idx → Val e) (ho : o + n = hi)
    (h : ∀ (r : Fin n) (d : Fin W), w (ix2 r d) = B (o + r.val) d) (hL : RowStores B lo o L) :
    RowStores B lo hi (⟨Rect.unit (s := ⟨2, ![M, W]⟩) ![o, 0] ![n, W] inb, w⟩ :: L) := by
  refine ⟨fun p hp x => ?_, fun y h0 h1 => ?_⟩
  · rcases List.mem_cons.mp hp with rfl | hp
    · exact rows_piece B inb w h x
    · exact hL.holds p hp x
  · by_cases hy : (y 0).val < o
    · obtain ⟨p, hp, hyp⟩ := hL.covers y h0 hy
      exact ⟨p, List.mem_cons_of_mem _ hp, hyp⟩
    · refine ⟨_, List.mem_cons_self .., ?_⟩
      rw [Rect.mem_set_unit]
      intro a
      match a with
      | ⟨0, _⟩ => exact ⟨Nat.le_of_not_lt hy, lt_of_lt_of_eq h1 ho.symm⟩
      | ⟨1, _⟩ => exact ⟨Nat.zero_le _, lt_of_lt_of_eq (y 1).isLt (Nat.zero_add _).symm⟩

/-- A load of rows `[o, o + n)` after such stores: a row they cover, or that held `B` before. -/
theorem RowStores.load {M W o n lo hi : ℕ} {B : ℕ → Fin W → Val e} {L : List (View.Piece Val (⟨2, ![M, W]⟩ : Shape) e)}
    (hL : RowStores B lo hi L) (v : View sig κ sp (⟨2, ![M, W]⟩ : Shape) e) (f : v.ty.Contents Val) (inb) (r : Fin n) (d : Fin W)
    (hhi : o + n ≤ hi) (hlo : lo ≤ o + r.val ∨ ∀ m : Fin M, m.val = o + r.val → v.read Val f (ix2 m d) = B (o + r.val) d) :
    v.readAt Val (Rect.unit (s := ⟨2, ![M, W]⟩) ![o, 0] ![n, W] inb).toLoadRect (v.writes Val f L) (ix2 r d) = B (o + r.val) d := by
  have e0 : ((Rect.unit (s := ⟨2, ![M, W]⟩) ![o, 0] ![n, W] inb).toLoadRect.idx (ix2 r d) 0).val = o + r.val :=
    emb_unit_val _ _ inb (ix2 r d) 0
  have e1 : (Rect.unit (s := ⟨2, ![M, W]⟩) ![o, 0] ![n, W] inb).toLoadRect.idx (ix2 r d) 1 = d :=
    Fin.ext ((emb_unit_val _ _ inb (ix2 r d) 1).trans (Nat.zero_add _))
  rw [View.readAt_apply]
  refine (read_pieces v f (fun y => B (y 0).val (y 1)) L hL.holds _ ?_).trans (by rw [e0, e1])
  rcases hlo with h | h
  · exact .inl (hL.covers _ (by rw [e0]; exact h) (by rw [e0]; have := r.isLt; omega))
  · refine .inr ?_
    rw [e0, e1, ← h _ e0, eq_ix2 ((Rect.unit (s := ⟨2, ![M, W]⟩) ![o, 0] ![n, W] inb).toLoadRect.idx (ix2 r d)), e1]
    rfl

/-- Stores of rows of the layers of a buffer whose layer `q` holds `B` from row `q + 1` on; they cover the rows of layer `q`
below `hi q`. -/
structure LayerStores {Q M W : ℕ} (B : ℕ → Fin W → Val e) (hi : ℕ → ℕ) (L : List (View.Piece Val (⟨3, ![Q, M, W]⟩ : Shape) e)) : Prop where
  holds : ∀ p ∈ L, ∀ x : p.1.shape.Idx, p.2 x = B ((p.1.emb x 1).val + (p.1.emb x 0).val + 1) (p.1.emb x 2)
  covers : ∀ y : (⟨3, ![Q, M, W]⟩ : Shape).Idx, (y 1).val < hi (y 0).val → ∃ p ∈ L, y ∈ p.1.set

theorem LayerStores.nil {Q M W : ℕ} (B : ℕ → Fin W → Val e) : LayerStores (Q := Q) (M := M) B (fun _ => 0) [] :=
  ⟨fun p hp => absurd hp List.not_mem_nil, fun y h => absurd h (Nat.not_lt_zero _)⟩

theorem LayerStores.cons {Q M W q o n : ℕ} {hi : ℕ → ℕ} {B : ℕ → Fin W → Val e} {L : List (View.Piece Val (⟨3, ![Q, M, W]⟩ : Shape) e)}
    (inb) (w : (⟨3, ![1, n, W]⟩ : Shape).Idx → Val e)
    (h : ∀ (r : Fin n) (d : Fin W), w (ix3 0 r d) = B (o + r.val + q + 1) d) (hL : LayerStores B hi L) (ho : o ≤ hi q) :
    LayerStores B (fun i => if i = q then o + n else hi i)
      (⟨Rect.unit (s := ⟨3, ![Q, M, W]⟩) ![q, o, 0] ![1, n, W] inb, w⟩ :: L) := by
  refine ⟨fun p hp x => ?_, fun y h1 => ?_⟩
  · rcases List.mem_cons.mp hp with rfl | hp
    · exact layer_piece B inb w h x
    · exact hL.holds p hp x
  · by_cases hy : (y 0).val = q ∧ o ≤ (y 1).val
    · refine ⟨_, List.mem_cons_self .., ?_⟩
      simp only [hy.1, if_pos] at h1
      rw [Rect.mem_set_unit]
      intro a
      match a with
      | ⟨0, _⟩ => exact ⟨hy.1.ge, by show (y 0).val < q + 1; omega⟩
      | ⟨1, _⟩ => exact ⟨hy.2, h1⟩
      | ⟨2, _⟩ => exact ⟨Nat.zero_le _, lt_of_lt_of_eq (y 2).isLt (Nat.zero_add _).symm⟩
    · obtain ⟨p, hp, hyp⟩ := hL.covers y (by
        by_cases hq : (y 0).val = q
        · rw [hq]; omega
        · simpa only [hq, if_false] using h1)
      exact ⟨p, List.mem_cons_of_mem _ hp, hyp⟩

theorem LayerStores.load {Q M W q o n : ℕ} {hi : ℕ → ℕ} {B : ℕ → Fin W → Val e} {L : List (View.Piece Val (⟨3, ![Q, M, W]⟩ : Shape) e)}
    (hL : LayerStores B hi L) (v : View sig κ sp (⟨3, ![Q, M, W]⟩ : Shape) e) (f : v.ty.Contents Val) (inb) (r : Fin n) (d : Fin W)
    (hhi : o + n ≤ hi q) :
    v.readAt Val (Rect.unit (s := ⟨3, ![Q, M, W]⟩) ![q, o, 0] ![1, n, W] inb).toLoadRect (v.writes Val f L) (ix3 0 r d)
      = B (o + r.val + q + 1) d := by
  have e0 : ((Rect.unit (s := ⟨3, ![Q, M, W]⟩) ![q, o, 0] ![1, n, W] inb).toLoadRect.idx (ix3 0 r d) 0).val = q :=
    emb_unit_val _ _ inb (ix3 0 r d) 0
  have e1 : ((Rect.unit (s := ⟨3, ![Q, M, W]⟩) ![q, o, 0] ![1, n, W] inb).toLoadRect.idx (ix3 0 r d) 1).val = o + r.val :=
    emb_unit_val _ _ inb (ix3 0 r d) 1
  have e2 : (Rect.unit (s := ⟨3, ![Q, M, W]⟩) ![q, o, 0] ![1, n, W] inb).toLoadRect.idx (ix3 0 r d) 2 = d :=
    Fin.ext ((emb_unit_val _ _ inb (ix3 0 r d) 2).trans (Nat.zero_add _))
  rw [View.readAt_apply]
  refine (read_pieces v f (fun y => B ((y 1).val + (y 0).val + 1) (y 2)) L hL.holds _ (.inl (hL.covers _ ?_))).trans (by rw [e0, e1, e2])
  rw [e0, e1]; have := r.isLt; omega

/-- The last store of whole rows, read back. -/
theorem read_head {M W n o : ℕ} (v : View sig κ sp (⟨2, ![M, W]⟩ : Shape) e) (f : v.ty.Contents Val) (inb)
    (w : (⟨2, ![n, W]⟩ : Shape).Idx → Val e) (L : List (View.Piece Val (⟨2, ![M, W]⟩ : Shape) e)) (r : Fin n) (d : Fin W)
    (m : Fin M) (hm : m.val = o + r.val) :
    v.read Val (v.writes Val f (⟨Rect.unit (s := ⟨2, ![M, W]⟩) ![o, 0] ![n, W] inb, w⟩ :: L)) (ix2 m d) = w (ix2 r d) := by
  have e0 := emb_unit_val (S := ⟨2, ![M, W]⟩) ![o, 0] ![n, W] inb (ix2 r d) 0
  have e1 := emb_unit_val (S := ⟨2, ![M, W]⟩) ![o, 0] ![n, W] inb (ix2 r d) 1
  have h : (ix2 m d : (⟨2, ![M, W]⟩ : Shape).Idx) = (Rect.unit (s := ⟨2, ![M, W]⟩) ![o, 0] ![n, W] inb).emb (ix2 r d) := by
    funext a
    match a with
    | ⟨0, _⟩ => exact Fin.ext (hm.trans e0.symm)
    | ⟨1, _⟩ => exact Fin.ext ((e1.trans (Nat.zero_add _)).symm)
  rw [h]
  exact View.read_writes_cons_emb ..

/-- Rank 3 with one leading block: a store of the rectangle at `(o₁, o₂)` of the values `F`. -/
theorem block_piece {M W n₁ n₂ o₁ o₂ : ℕ} (F : Fin M → Fin W → Val e) (inb) (w : (⟨3, ![1, n₁, n₂]⟩ : Shape).Idx → Val e)
    (h : ∀ (r : Fin n₁) (d : Fin n₂) (hr : o₁ + r.val < M) (hd : o₂ + d.val < W), w (ix3 0 r d) = F ⟨o₁ + r.val, hr⟩ ⟨o₂ + d.val, hd⟩)
    (x : (⟨3, ![1, n₁, n₂]⟩ : Shape).Idx) :
    w x = F ((Rect.unit (s := ⟨3, ![1, M, W]⟩) ![0, o₁, o₂] ![1, n₁, n₂] inb).emb x 1)
      ((Rect.unit (s := ⟨3, ![1, M, W]⟩) ![0, o₁, o₂] ![1, n₁, n₂] inb).emb x 2) := by
  have e1 := emb_unit_val (S := ⟨3, ![1, M, W]⟩) ![0, o₁, o₂] ![1, n₁, n₂] inb x 1
  have e2 := emb_unit_val (S := ⟨3, ![1, M, W]⟩) ![0, o₁, o₂] ![1, n₁, n₂] inb x 2
  have h0 : x = ix3 0 (x 1) (x 2) := by
    refine (eq_ix3 x).trans ?_
    rw [Subsingleton.elim (α := Fin 1) (x 0) 0]
    rfl
  refine (congrArg w h0).trans ((h (x 1) (x 2) (e1 ▸ Fin.isLt _) (e2 ▸ Fin.isLt _)).trans ?_)
  exact congrArg₂ F (Fin.ext e1.symm) (Fin.ext e2.symm)

end Cert.Buffers

namespace Cert.KernelIdeal.Rows
open Cert.KernelIdeal Cert.KernelIdeal.Gen Cert.Rows

theorem buf_row (x0 : Vec Ideal S1x512x1024 .f32) (x1 : Vec Ideal S1x1x1x3072 .f32) (x2 : Vec Ideal S1x1x1024 .f32)
    (x3 : Vec Ideal S1x1024x2560 .bf16) (halo : ℕ → Fin 512 → EReal) (n : ℕ) (r : Fin 512) (d : Fin 512) (h : n = 32 + r.val) :
    buf x0 x1 x2 x3 halo n d = glu (bP x0 x1 x2 x3 r ⟨d.val, by omega⟩) (bP x0 x1 x2 x3 r ⟨512 + d.val, by omega⟩) := by
  subst h
  have e : 32 + r.val - 32 = r.val := by omega
  rw [buf, if_neg (by omega), bA, e, dif_pos r.isLt]

theorem buf_halo (x0 : Vec Ideal S1x512x1024 .f32) (x1 : Vec Ideal S1x1x1x3072 .f32) (x2 : Vec Ideal S1x1x1024 .f32)
    (x3 : Vec Ideal S1x1024x2560 .bf16) (halo : ℕ → Fin 512 → EReal) (n : ℕ) (d : Fin 512) (h : n < 32) :
    buf x0 x1 x2 x3 halo n d = halo n d := by
  rw [buf, if_pos h]

end Cert.KernelIdeal.Rows

end
-- ==== Proof.Bias.lean ====
/-
  The relative bias' call: a head's bias at a distance is the table's entry of the distance's bucket, less its last bucket's.
-/
module

public import proofs.«01_k».proof.Proof.Buffers
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Tactic.RunNames

@[expose] public section

set_option maxRecDepth 16384

noncomputable section

open Idealize.ShloMosaic Idealize.ShloMosaic.TcCoe Idealize.SL.Sem

namespace Cert.Bias
open Cert.Rows Cert.Buffers

/-- A distance's number among the places after the buckets of one distance each. -/
def steps (p : BitVec 32) : BitVec 32 :=
  FloatOps.fptosi (F := Ideal) (φ := .f32) 32 (Ideal.div (Ideal.log (Ideal.div
    (FloatOps.sitofp (F := Ideal) .f32 p) (Ideal.ofBits .f32 0x41800000#32)))
    (Ideal.ofBits .f32 0x40051592#32) * Ideal.ofBits .f32 0x41800000#32)

/-- A distance's bucket. -/
def bucket (n : BitVec 32) : BitVec 32 :=
  Scalar.select (IntOp.cmpi .slt (IntOp.maxsi n 0#32) 16#32) (IntOp.maxsi n 0#32)
    (IntOp.minsi (IntOp.addi 16#32 (steps (IntOp.maxsi (IntOp.maxsi n 0#32) 1#32))) 31#32)

theorem c16 : Ideal.ofBits .f32 0x41800000#32 = ((16 : ℝ) : EReal) := by
  simp [Ideal.ofBits, Ideal.ieee, -EReal.coe_mul]; norm_num

theorem c2 : ∃ r : ℝ, Ideal.ofBits .f32 0x40051592#32 = ((r : ℝ) : EReal) ∧ 1 ≤ r := by
  refine ⟨8721810 / 4194304, ?_, by norm_num⟩
  simp [Ideal.ofBits, Ideal.ieee, -EReal.coe_mul]; norm_num

theorem div_coe (a b : ℝ) (h : b ≠ 0) : Ideal.div a b = ((a / b : ℝ) : EReal) := by
  rw [Ideal.div, if_neg (by exact_mod_cast h), div_eq_mul_inv, EReal.coe_mul, EReal.coe_inv]

theorem steps_range (p : BitVec 32) (h : 16 ≤ p.toInt) : 0 ≤ (steps p).toInt ∧ (steps p).toInt ≤ 2147483631 := by
  obtain ⟨r, hr, h1⟩ := c2
  have hp : (16 : ℝ) ≤ (p.toInt : ℝ) := by exact_mod_cast h
  have hb : (p.toInt : ℝ) ≤ 2147483647 := by
    have := BitVec.toInt_lt (x := p)
    norm_num at this
    exact_mod_cast Int.le_of_lt_add_one this
  have hq : (1 : ℝ) ≤ (p.toInt : ℝ) / 16 := by rw [le_div_iff₀ (by norm_num)]; linarith
  have hl0 := Real.log_nonneg hq
  have hl1 := Real.log_le_sub_one_of_pos (lt_of_lt_of_le one_pos hq)
  have hv : steps p = Ideal.fptosi 32 ((Real.log ((p.toInt : ℝ) / 16) / r * 16 : ℝ) : EReal) := by
    have e : FloatOps.sitofp (F := Ideal) .f32 p = ((p.toInt : ℝ) : EReal) := rfl
    rw [steps, e, c16, hr, div_coe _ _ (by norm_num), show Ideal.log (((p.toInt : ℝ) / 16 : ℝ) : EReal) = _ from
      if_neg (not_le.mpr (lt_of_lt_of_le one_pos hq)), div_coe _ _ (by linarith), ← EReal.coe_mul]
    rfl
  have hv0 : 0 ≤ Real.log ((p.toInt : ℝ) / 16) / r * 16 := by positivity
  have hv1 : Real.log ((p.toInt : ℝ) / 16) / r * 16 ≤ 2147483631 := by
    have := div_le_self hl0 h1
    linarith
  generalize Real.log ((p.toInt : ℝ) / 16) / r * 16 = v at hv hv0 hv1
  have hf0 : 0 ≤ ⌊v⌋ := Int.floor_nonneg.mpr hv0
  have hf1 : ⌊v⌋ ≤ 2147483631 := Int.floor_le_iff.mpr (by norm_num; linarith)
  have hc : steps p = BitVec.ofInt 32 ⌊v⌋ := by
    rw [hv, Ideal.fptosi]
    refine congrArg _ ?_
    show max _ (min _ (if 0 ≤ v then ⌊v⌋ else ⌈v⌉)) = _
    rw [if_pos hv0]
    norm_num
    omega
  rw [hc, BitVec.toInt_ofInt, Int.bmod_def]
  norm_num
  omega

theorem maxsi_toInt (a b : BitVec 32) : (IntOp.maxsi a b).toInt = max a.toInt b.toInt := by
  rw [IntOp.maxsi, BitVec.slt]
  by_cases h : b.toInt < a.toInt
  · simp [h, max_eq_left h.le]
  · simp [h, max_eq_right (not_lt.mp h)]

theorem minsi_toInt (a b : BitVec 32) : (IntOp.minsi a b).toInt = min a.toInt b.toInt := by
  rw [IntOp.minsi, BitVec.slt]
  by_cases h : a.toInt < b.toInt
  · simp [h, min_eq_left h.le]
  · simp [h, min_eq_right (not_lt.mp h)]

/-- The reals' logarithm keeps a distance's bucket among the table's. -/
theorem bucket_range (n : BitVec 32) : 0 ≤ (bucket n).toInt ∧ (bucket n).toInt < 32 := by
  have hp := maxsi_toInt n 0#32
  have hq := maxsi_toInt (IntOp.maxsi n 0#32) 1#32
  rw [show (0#32).toInt = 0 from rfl] at hp
  rw [show (1#32).toInt = 1 from rfl] at hq
  rw [bucket]
  generalize IntOp.maxsi n 0#32 = p at *
  generalize IntOp.maxsi p 1#32 = q at *
  rw [Scalar.select, IntOp.cmpi, BitVec.slt, show (16#32).toInt = 16 from rfl]
  by_cases h : p.toInt < 16
  · simp [h]; omega
  · obtain ⟨h0, h1⟩ := steps_range q (by omega)
    have hm := minsi_toInt (IntOp.addi 16#32 (steps q)) 31#32
    rw [show (31#32).toInt = 31 from rfl, IntOp.addi, BitVec.toInt_add, show (16#32).toInt = 16 from rfl, Int.bmod_def] at hm
    simp [h]
    norm_num at hm
    simp only [IntOp.addi]
    omega

/-- Choosing among `n` values by a bucket's number, one comparison at a time; zero where none is it. -/
def chain (k : BitVec 32) (f : ℕ → EReal) : ℕ → EReal
  | 0 => 0
  | b + 1 => Scalar.select (IntOp.cmpi .eq k (BitVec.ofNat 32 b)) (f b) (chain k f b)

theorem chain_eq (k : BitVec 32) (f : ℕ → EReal) : ∀ n, n ≤ 32 → k.toNat < n → chain k f n = f k.toNat
  | 0, _, h => absurd h (Nat.not_lt_zero _)
  | b + 1, hn, h => by
    rw [chain, Scalar.select, IntOp.cmpi]
    by_cases e : k = BitVec.ofNat 32 b
    · have hb : k.toNat = b := by rw [e, BitVec.toNat_ofNat]; exact Nat.mod_eq_of_lt (by omega)
      rw [hb]
      simp [e]
    · have hb : k.toNat ≠ b := fun hb => e (BitVec.eq_of_toNat_eq (by rw [hb, BitVec.toNat_ofNat]; exact (Nat.mod_eq_of_lt (by omega)).symm))
      simp only [beq_iff_eq, e, beq_eq_false_iff_ne.mpr e]
      exact chain_eq k f b (by omega) (by omega)

/-- The distance from place `r` of the keys to place `d` of the queries, the keys being of the same block (`q = 0`) or of the block before. -/
def apart (q : Fin 2) (r d : Fin 256) : BitVec 32 :=
  IntOp.addi (IntOp.subi (BitVec.ofNat 32 d.val) (BitVec.ofNat 32 r.val)) (BitVec.ofNat 32 (256 * q.val))

/-- The bias of head `h` of the table `x0`. -/
def bias (x0 : (⟨2, ![32, 8]⟩ : Shape).Idx → EReal) (q : Fin 2) (h : Fin 8) (r d : Fin 256) : EReal :=
  (x0 (ix2 (Fin.ofNat 32 (bucket (apart q r d)).toInt.toNat) h) - x0 (ix2 31 h)) * Ideal.ofBits .f32 0x3FB8AA3B#32

theorem bias_chain (x0 : (⟨2, ![32, 8]⟩ : Shape).Idx → EReal) (q : Fin 2) (h : Fin 8) (r d : Fin 256) :
    (chain (bucket (apart q r d)) (fun b => x0 (ix2 (Fin.ofNat 32 b) h)) 32 - x0 (ix2 31 h)) * Ideal.ofBits .f32 0x3FB8AA3B#32
      = bias x0 q h r d := by
  obtain ⟨h0, h1⟩ := bucket_range (apart q r d)
  have e : (bucket (apart q r d)).toInt = (bucket (apart q r d)).toNat := by rw [BitVec.toInt_eq_toNat_cond] at h0 ⊢; split <;> omega
  rw [bias, chain_eq _ _ 32 le_rfl (by omega), e, Int.toNat_natCast]

/-- A store of the tile `(a, b)` of an array of tiles. -/
theorem tile_piece {A B M W a b : ℕ} {Val : EltTy → Type} {e : EltTy} (F : Fin A → Fin B → Fin M → Fin W → Val e) (inb) (w : (⟨4, ![1, 1, M, W]⟩ : Shape).Idx → Val e)
    (h : ∀ (r : Fin M) (d : Fin W) (ha : a < A) (hb : b < B), w (ix4 0 0 r d) = F ⟨a, ha⟩ ⟨b, hb⟩ r d)
    (x : (⟨4, ![1, 1, M, W]⟩ : Shape).Idx) :
    w x = F ((Rect.unit (s := ⟨4, ![A, B, M, W]⟩) ![a, b, 0, 0] ![1, 1, M, W] inb).emb x 0)
      ((Rect.unit (s := ⟨4, ![A, B, M, W]⟩) ![a, b, 0, 0] ![1, 1, M, W] inb).emb x 1)
      ((Rect.unit (s := ⟨4, ![A, B, M, W]⟩) ![a, b, 0, 0] ![1, 1, M, W] inb).emb x 2)
      ((Rect.unit (s := ⟨4, ![A, B, M, W]⟩) ![a, b, 0, 0] ![1, 1, M, W] inb).emb x 3) := by
  have e0 := emb_unit_val (S := ⟨4, ![A, B, M, W]⟩) ![a, b, 0, 0] ![1, 1, M, W] inb x 0
  have e1 := emb_unit_val (S := ⟨4, ![A, B, M, W]⟩) ![a, b, 0, 0] ![1, 1, M, W] inb x 1
  have e2 := emb_unit_val (S := ⟨4, ![A, B, M, W]⟩) ![a, b, 0, 0] ![1, 1, M, W] inb x 2
  have e3 := emb_unit_val (S := ⟨4, ![A, B, M, W]⟩) ![a, b, 0, 0] ![1, 1, M, W] inb x 3
  have z0 : x 0 = (0 : Fin 1) := Subsingleton.elim (α := Fin 1) _ _
  have z1 : x 1 = (0 : Fin 1) := Subsingleton.elim (α := Fin 1) _ _
  rw [z0] at e0
  rw [z1] at e1
  have ha : a < A := lt_of_eq_of_lt e0.symm (Fin.isLt _)
  have hb : b < B := lt_of_eq_of_lt e1.symm (Fin.isLt _)
  have hx : x = ix4 0 0 (x 2) (x 3) := by
    funext i
    match i with
    | ⟨0, _⟩ => exact z0
    | ⟨1, _⟩ => exact z1
    | ⟨2, _⟩ => rfl
    | ⟨3, _⟩ => rfl
  refine (congrArg w hx).trans ((h (x 2) (x 3) ha hb).trans ?_)
  rw [show (Rect.unit (s := ⟨4, ![A, B, M, W]⟩) ![a, b, 0, 0] ![1, 1, M, W] inb).emb x 0 = ⟨a, ha⟩ from Fin.ext e0,
    show (Rect.unit (s := ⟨4, ![A, B, M, W]⟩) ![a, b, 0, 0] ![1, 1, M, W] inb).emb x 1 = ⟨b, hb⟩ from Fin.ext e1,
    show (Rect.unit (s := ⟨4, ![A, B, M, W]⟩) ![a, b, 0, 0] ![1, 1, M, W] inb).emb x 2 = x 2 from Fin.ext (e2.trans (Nat.zero_add _)),
    show (Rect.unit (s := ⟨4, ![A, B, M, W]⟩) ![a, b, 0, 0] ![1, 1, M, W] inb).emb x 3 = x 3 from Fin.ext (e3.trans (Nat.zero_add _))]
  rfl

end Cert.Bias

namespace Cert.Reference5Ideal.Rows
open Cert.Reference5Ideal Cert.Reference5Ideal.Gen Cert.Reference5Ideal.Read Cert.Rows Cert.Bias

variable (x0 : Vec Ideal S32x8 .f32)

/-- The gather of table rows, read at an index: the row that the start index names, clamped to the table. -/
theorem gather_at (idx : IVec S2x256x256x1 32) (q : Fin 2) (r d : Fin 256) (h : Fin 8) :
    Host.gather gather_S32x8_S2x256x256x1_S2x256x256x8_3_0_n_n_0_3_18 x0 idx (ix4 q r d h)
      = x0 (ix2 ⟨min (idx (ix4 q r d 0)).toInt.toNat 31, by omega⟩ h) := by
  unfold Host.gather
  refine congrArg x0 (funext fun a => Fin.ext ?_)
  match a with
  | ⟨0, _⟩ =>
    show GatherDims.start gather_S32x8_S2x256x256x1_S2x256x256x8_3_0_n_n_0_3_18 (ix4 q r d h) idx 0
      + GatherDims.batchCoord gather_S32x8_S2x256x256x1_S2x256x256x8_3_0_n_n_0_3_18 (ix4 q r d h) 0
      + GatherDims.offCoord gather_S32x8_S2x256x256x1_S2x256x256x8_3_0_n_n_0_3_18 (ix4 q r d h) 0 = _
    rw [GatherDims.batchCoord_eq_zero _ _ _ List.not_mem_nil,
      GatherDims.offCoord_eq_zero _ _ _ (fun h => ((GatherDims.mem_sKept _ _).mp h).1 (List.mem_singleton.mpr rfl)), GatherDims.start,
      dif_pos (show (0 : Fin 2) ∈ gather_S32x8_S2x256x256x1_S2x256x256x8_3_0_n_n_0_3_18.startIndexMap from List.mem_singleton.mpr rfl)]
    refine congrArg (fun i => min (idx i).toInt.toNat 31) (funext fun b => Fin.ext ?_)
    match b with
    | ⟨0, _⟩ => rfl
    | ⟨1, _⟩ => rfl
    | ⟨2, _⟩ => rfl
    | ⟨3, _⟩ => rfl
  | ⟨1, _⟩ =>
    show GatherDims.start gather_S32x8_S2x256x256x1_S2x256x256x8_3_0_n_n_0_3_18 (ix4 q r d h) idx 1
      + GatherDims.batchCoord gather_S32x8_S2x256x256x1_S2x256x256x8_3_0_n_n_0_3_18 (ix4 q r d h) 1
      + GatherDims.offCoord gather_S32x8_S2x256x256x1_S2x256x256x8_3_0_n_n_0_3_18 (ix4 q r d h) 1 = _
    rw [GatherDims.batchCoord_eq_zero _ _ _ List.not_mem_nil, GatherDims.start,
      dif_neg (show (1 : Fin 2) ∉ gather_S32x8_S2x256x256x1_S2x256x256x8_3_0_n_n_0_3_18.startIndexMap from by decide),
      GatherDims.offCoord, dif_pos (show (1 : Fin 2) ∈ gather_S32x8_S2x256x256x1_S2x256x256x8_3_0_n_n_0_3_18.sKept from
        (GatherDims.mem_sKept _ _).mpr ⟨by decide, List.not_mem_nil⟩)]
    exact Nat.zero_add _

theorem apart_eq (q : Fin 2) (r d : Fin 256) : val_main_v14 (F := Ideal) (ix3 q r d) = apart q r d := by
  match q with
  | ⟨0, _⟩ =>
    refine Eq.trans (by pointwise [val_main_v14, val_main_v12, val_main_v6, val_main_v5, val_main_v4, val_main_v3, val_main_v2,
      val_main_v1, val_main_v0]) (BitVec.add_zero _).symm
  | ⟨1, _⟩ =>
    pointwise [val_main_v14, val_main_v13, val_main_v11, val_main_v10, val_main_v9, val_main_v8, val_main_v7, val_main_c, val_main_v3,
      val_main_v2, val_main_v1, val_main_v0, apart]

theorem bucket_eq (q : Fin 2) (r d : Fin 256) : val_main_v34 (F := Ideal) (ix3 q r d) = bucket (apart q r d) := by
  rw [← apart_eq]
  rfl

theorem index_eq (q : Fin 2) (r d : Fin 256) : val_main_v40 (F := Ideal) (ix4 q r d 0) = bucket (apart q r d) := by
  rw [val_main_v40_apply, val_main_v39_apply, val_main_v36_apply,
    show idx_main_v40 (ix4 q r d 0) = ix3 q r d from funext fun a => match a with
      | ⟨0, _⟩ => rfl
      | ⟨1, _⟩ => rfl
      | ⟨2, _⟩ => rfl, bucket_eq, val_main_v35_apply, val_main_c_7_apply,
    Scalar.select, IntOp.cmpi]
  dsimp only
  rw [BitVec.slt, show (0#32).toInt = 0 from rfl, decide_eq_false (not_lt.mpr (bucket_range (apart q r d)).1)]
  rfl

theorem entry (h : Fin 8) {k b : BitVec 32} (e : k = b) (h0 : 0 ≤ b.toInt) (h1 : b.toInt < 32) :
    x0 (ix2 ⟨min k.toInt.toNat 31, by omega⟩ h) = x0 (ix2 (Fin.ofNat 32 b.toInt.toNat) h) := by
  subst e
  have hk : min k.toInt.toNat 31 = k.toInt.toNat % 32 := by omega
  exact congrArg (fun i => x0 (ix2 i h)) (Fin.ext hk)

theorem R (q : Fin 2) (h : Fin 8) (r d : Fin 256) : val_main_v49 x0 (ix4 q h r d) = bias x0 q h r d := by
  have e : val_main_v42 x0 (ix4 q h r d) = x0 (ix2 (Fin.ofNat 32 (bucket (apart q r d)).toInt.toNat) h) := by
    obtain ⟨h0, h1⟩ := bucket_range (apart q r d)
    rw [val_main_v42_apply, show idx_main_v42 (ix4 q h r d) = ix4 q r d h from funext fun a => match a with
      | ⟨0, _⟩ => rfl
      | ⟨1, _⟩ => rfl
      | ⟨2, _⟩ => rfl
      | ⟨3, _⟩ => rfl, val_main_v41, gather_at]
    exact entry x0 h (index_eq q r d) h0 h1
  pointwise [val_main_v49, val_main_v48, val_main_cst_9, val_main_v47, val_main_v46, val_main_v45, val_main_v44, val_main_v43, e, bias]

end Cert.Reference5Ideal.Rows

namespace Cert.Kernel5Ideal.Bias
open Cert.Kernel5Ideal Cert.Kernel5Ideal.Gen Cert.Rows Cert.Buffers Cert.Bias

section
variable (c : Dev nD) (arg0 : Memref sig .tc .smem S32x8 .f32) (harg0 : arg0.IsWhole) (arg1 : Memref sig .tc .vmem S2x8x256x256 .f32)
  (harg1 : arg1.IsWhole) (x0 : Vec Ideal S32x8 .f32)

/-- Every store of the body is a tile of the bias. -/
theorem pieces : ∀ p ∈ (kernelRun0_A c arg0 harg0 arg1 harg1 x0).1, ∀ x : p.1.shape.Idx,
    p.2 x = bias x0 (p.1.emb x 0) (p.1.emb x 1) (p.1.emb x 2) (p.1.emb x 3) := by
  unfold kernelRun0_A
  dsimp only
  simp only [List.forall_mem_cons]
  refine ⟨?_, ?_, ?_, ?_, ?_, ?_, ?_, ?_, ?_, ?_, ?_, ?_, ?_, ?_, ?_, ?_, fun p h => absurd h List.not_mem_nil⟩
  all_goals
    refine tile_piece (Val := Elt Ideal) (e := .f32) (bias x0) _ _ fun r d ha hb => ?_
    refine Eq.trans ?_ (bias_chain ..)
    sl_unfold_run_values
    unfold_payloads
    simp only [View.readAt_eq_ld, harg0.read_unread]
    pointwise []
    rfl

theorem out (q : Fin 2) (h : Fin 8) (r d : Fin 256) : out0_A_1 c arg0 harg0 arg1 harg1 x0 (ix4 q h r d) = bias x0 q h r d :=
  read_pieces (Val := Elt Ideal) (e := .f32) VO0_1 VO0_1.junk (fun y => bias x0 (y 0) (y 1) (y 2) (y 3)) _
    (pieces c arg0 harg0 arg1 harg1 x0) (ix4 q h r d) (.inl (cover0_A_1 c arg0 harg0 arg1 harg1 x0 _))

end

variable (m : (ℓ : Loc nD τ sig) → Buf (Elt Ideal) ℓ) (c : Dev nD) (t : Fin cfg0.N)

theorem idx : ∀ t : Fin grid0.N, win0_0.index t = ![0, 0] ∧ win0_1.index t = ![0, 0, 0, 0] := by
  decide +kernel

theorem emb (q : Fin 2) (h : Fin 8) (r d : Fin 256) : (win0_1.blk t).view.emb (ix4 q h r d) = ix4 q h r d := by
  blk_ext [idx t]

theorem b0 (b : Fin 32) (h : Fin 8) : iblk m c 0 t (ix2 b h) = m ((c : Thread nD τ).loc main_arg0) (ix2 b h) := by
  blk_ext [iblk, V_main_arg0, idx t]

/-- The call's result is the reference's. -/
theorem final : (dats m 0 c).arrAt 1 cfg0.N = Cert.Reference5Ideal.Read.val_main_v49 (F := Ideal)
    (m ((c : Thread nD τ).loc main_arg0)) := by
  refine (dats m 0 c).arrAt_eq_of_covers 1 _ (by decide +kernel) fun t _ y => ?_
  blk_simp
  rw [after0_1, outsAt0]
  obtain ⟨q, h, r, d, rfl⟩ : ∃ (q : Fin 2) (h : Fin 8) (r d : Fin 256), y = ix4 q h r d := ⟨y 0, y 1, y 2, y 3, eq_ix4 y⟩
  refine (out c _ _ _ _ _ q h r d).trans (Eq.trans ?_ (congrArg _ (emb t q h r d)).symm)
  rw [Cert.Reference5Ideal.Rows.R, bias, bias, b0, b0]

end Cert.Kernel5Ideal.Bias

end
-- ==== Proof.Blocks.lean ====
/-
  What each grid point's blocks of the operands hold, in terms of the arguments: the host's part of the call (casts, the
  packed weights with their padding, unit axes) read at an index.
-/
module

public import proofs.«01_k».proof.Proof.Rows
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.KernelIdeal.Blocks
open Cert.KernelIdeal Cert.KernelIdeal.Gen

variable (m : (ℓ : Loc nD τ sig) → Buf (Elt Ideal) ℓ) (c : Dev nD) (t : Fin cfg0.N)

theorem idx : ∀ t : Fin grid0.N, win0_0.index t = ![t.val / 4, t.val % 4, 0] ∧ win0_1.index t = ![0, t.val / 4, 0, 0]
    ∧ win0_2.index t = ![0, 0, 0] ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0, 0] ∧ win0_9.index t = ![0, 0, 0]
    ∧ win0_10.index t = ![0, 0, 0] ∧ win0_11.index t = ![0, 0, 0] ∧ win0_12.index t = ![0, 0, 0] := by
  decide +kernel

theorem t_lt : t.val < 64 := lt_of_lt_of_eq t.isLt (by decide +kernel)

theorem b0 (r : Fin 512) (d : Fin 1024) : iblk m c 0 t (ix3 0 r d)
    = m ((c : Thread nD τ).loc main_arg0) (ix3 ⟨t.val / 4, by have := t_lt t; omega⟩ ⟨512 * (t.val % 4) + r.val, by omega⟩ d) := by
  blk_ext [iblk, V_main_arg0, idx t]

theorem b1 (d : Fin 3072) : iblk m c 1 t (ix4 0 0 0 d)
    = m ((c : Thread nD τ).loc main_arg1) (ix3 0 ⟨t.val / 4, by have := t_lt t; omega⟩ d) := by
  blk_point [iblk, V, idx t]

theorem b2 (d : Fin 1024) : iblk m c 2 t (ix3 0 0 d) = m ((c : Thread nD τ).loc main_arg2) (ix2 0 d) := by
  blk_point [iblk, V, idx t]

theorem emb3 (k : Fin 1024) (j : Fin 2560) : (win0_3.blk t).view.emb (ix3 0 k j) = ix3 0 k j := by
  blk_ext [idx t]

theorem v5 (k : Fin 1024) (j : Fin 2560) (hj : j.val < 1992) : V m c main_v5 (ix3 0 k j)
    = m ((c : Thread nD τ).loc main_arg3) (ix3 0 k ⟨j.val, by omega⟩) := by
  unfold V hostOps0
  after_reads_at
  rw [dif_pos hj]
  after_reads_at

theorem v5' (k : Fin 1024) (j : Fin 2560) (hj : 2048 ≤ j.val) : V m c main_v5 (ix3 0 k j)
    = m ((c : Thread nD τ).loc main_arg3) (ix3 0 k ⟨j.val - 56, by omega⟩) := by
  unfold V hostOps0
  after_reads_at
  rw [dif_neg (by omega), dif_neg (by omega)]
  after_reads_at
  refine congrArg (fun q => m (c, Proc.tc.devRef main_arg3) (ix3 0 k q)) (Fin.ext ?_)
  show 1992 + (j.val - 1992 - 56) = j.val - 56
  omega

theorem b3 (k : Fin 1024) (j : Fin 2560) (hj : j.val < 1992) : iblk m c 3 t (ix3 0 k j)
    = m ((c : Thread nD τ).loc main_arg3) (ix3 0 k ⟨j.val, by omega⟩) := by
  rw [← v5 m c k j hj]
  blk_simp [iblk]
  rw [emb3]

theorem b3' (k : Fin 1024) (j : Fin 2560) (hj : 2048 ≤ j.val) : iblk m c 3 t (ix3 0 k j)
    = m ((c : Thread nD τ).loc main_arg3) (ix3 0 k ⟨j.val - 56, by omega⟩) := by
  rw [← v5' m c k j hj]
  blk_simp [iblk]
  rw [emb3]

theorem b4 (k : Fin 31) (d : Fin 512) : iblk m c 4 t (ix3 0 k d)
    = m ((c : Thread nD τ).loc main_arg4) (ix3 0 k d) := by
  blk_ext [iblk, V_main_arg4, idx t]

theorem b5 (d : Fin 512) : iblk m c 5 t (ix3 0 0 d)
    = m ((c : Thread nD τ).loc main_arg5) (ix2 0 d) := by
  blk_point [iblk, V, idx t]

theorem b6 (d : Fin 512) : iblk m c 6 t (ix3 0 0 d)
    = m ((c : Thread nD τ).loc main_arg6) (ix2 0 d) := by
  blk_point [iblk, V, idx t]

theorem b7 (d : Fin 512) : iblk m c 7 t (ix3 0 0 d)
    = m ((c : Thread nD τ).loc main_arg7) (ix2 0 d) := by
  blk_point [iblk, V, idx t]

theorem b8 (k d : Fin 512) : iblk m c 8 t (ix3 0 k d)
    = m ((c : Thread nD τ).loc main_arg8) (ix3 0 k d) := by
  blk_point [iblk, V, idx t]

theorem b9 (d : Fin 256) : iblk m c 9 t (ix3 0 0 d)
    = m ((c : Thread nD τ).loc main_arg9) (ix2 0 d) := by
  blk_point [iblk, V, idx t]

theorem b10 (k : Fin 256) (d : Fin 1024) : iblk m c 10 t (ix3 0 k d)
    = m ((c : Thread nD τ).loc main_arg10) (ix3 0 k d) := by
  blk_point [iblk, V, idx t]

theorem b11 (k : Fin 256) (d : Fin 512) : iblk m c 11 t (ix3 0 k d)
    = m ((c : Thread nD τ).loc main_arg11) (ix3 0 k d) := by
  blk_point [iblk, V, idx t]

theorem b12 (d : Fin 128) : iblk m c 12 t (ix3 0 0 d)
    = m ((c : Thread nD τ).loc main_arg12) (ix2 0 d) := by
  blk_point [iblk, V, idx t]

end Cert.KernelIdeal.Blocks

end
-- ==== Proof.Spec.lean ====
/-
  The results of the projection call as functions of a sequence `b` and a place `T` in it, on the argument arrays: the
  kernel's blocks and the reference's arrays are both read down to these.
-/
module

public import proofs.«01_k».proof.Proof.Rows

@[expose] public section

noncomputable section

open Idealize.ShloMosaic Idealize.ShloMosaic.TcCoe Idealize.SL.Sem

namespace Cert.Rows

/-- The convolution depends on its first taps alone. -/
theorem conv_congr {cb cb' : EReal} {cw cw' a a' : ℕ → EReal} (hb : cb = cb') :
    ∀ n : ℕ, (∀ k, k < n → cw k = cw' k) → (∀ k, k < n → a k = a' k) → conv cb cw a n = conv cb' cw' a' n
  | 0, _, _ => hb
  | n + 1, hw, ha => by
    have e := conv_congr hb n (fun k hk => hw k (by omega)) (fun k hk => ha k (by omega))
    simp only [conv, e, hw n (by omega), ha n (by omega)]

variable (x : Fin 16 → Fin 2048 → Fin 1024 → EReal) (md : Fin 16 → Fin 3072 → EReal) (g : Fin 1024 → EReal)
  (w : Fin 1024 → Fin 2504 → EReal) (cw : Fin 31 → Fin 512 → EReal) (cb lg lb : Fin 512 → EReal)
  (w2 : Fin 512 → Fin 512 → EReal) (qg : Fin 256 → EReal) (wq : Fin 256 → Fin 1024 → EReal)
  (wi : Fin 256 → Fin 512 → EReal) (kg : Fin 128 → EReal) (b : Fin 16)

/-- The modulated row and its projection on column `j`. -/
def gH (T : Fin 2048) : Fin 1024 → EReal :=
  hRow (x b T) (fun d => md b ⟨d.val, by omega⟩) (fun d => md b ⟨1024 + d.val, by omega⟩) g
def gP (T : Fin 2048) (j : Fin 2504) : EReal := dot (gH x md g b T) (fun k => w k j)

/-- The convolution's input at place `T`, and with 30 places of zero before the sequence. -/
def gA (T : ℕ) (d : Fin 512) : EReal :=
  if h : T < 2048 then glu (gP x md g w b ⟨T, h⟩ ⟨d.val, by omega⟩) (gP x md g w b ⟨T, h⟩ ⟨512 + d.val, by omega⟩) else 0
def gPad (T : ℕ) (d : Fin 512) : EReal := if T < 30 then 0 else gA x md g w b (T - 30) d

/-- The convolution, the layer norm with swish, and the branch's output. -/
def gC (T : ℕ) (d : Fin 512) : EReal :=
  conv (cb d) (fun k => if h : k < 31 then cw ⟨k, h⟩ d else 0) (fun k => gPad x md g w b (T + k) d) 31
def gY (T : ℕ) (d : Fin 512) : EReal := silu (lnorm (gC x md g w cw cb b T) lg lb d)
def gO (T : Fin 2048) (d : Fin 512) : EReal :=
  dot (gY x md g w cw cb lg lb b T.val) (fun k => w2 k d) * silu (gP x md g w b T ⟨1024 + d.val, by omega⟩)

/-- The latents of the attention. -/
def gCq (T : Fin 2048) : Fin 256 → EReal := rms c256 (fun d => gP x md g w b T ⟨1536 + d.val, by omega⟩) qg
def gKv (T : Fin 2048) : Fin 128 → EReal := rms c128 (fun d => gP x md g w b T ⟨1792 + d.val, by omega⟩) kg
def gQ (T : Fin 2048) (e : Fin 1024) : EReal := dot (gCq x md g w qg b T) (fun k => wq k e) * qScale
def gQi (T : Fin 2048) (e : Fin 512) : EReal := dot (gCq x md g w qg b T) (fun k => wi k e)
def gKi (T : Fin 2048) (e : Fin 64) : EReal := gP x md g w b T ⟨1920 + e.val, by omega⟩
def gWt (T : Fin 2048) (e : Fin 8) : EReal := gP x md g w b T ⟨1984 + e.val, by omega⟩ * wScale
def gGa (T : Fin 2048) (e : Fin 512) : EReal := silu (gP x md g w b T ⟨1992 + e.val, by omega⟩)

end Cert.Rows

end
-- ==== Proof.BlockA.lean ====
/-
  What the body leaves at a point that begins a sequence (case A of the generated run), read down to the row functions.
-/
module

public import proofs.«01_k».proof.Proof.Rows
public import proofs.«01_k».proof.Proof.Gen.KernelIdeal.Value
public import proofs.«01_k».proof.Proof.Buffers
public import Idealize.ShloMosaic.Lib.Tactic.RunNames

@[expose] public section

set_option maxRecDepth 16384

noncomputable section

open Idealize.ShloMosaic Idealize.ShloMosaic.TcCoe Idealize.SL.Sem

namespace Cert.KernelIdeal.BlockA
open Cert.KernelIdeal Cert.KernelIdeal.Gen Cert.Buffers Cert.Rows Cert.KernelIdeal.Rows

variable (c : Dev nD) (arg2 : Memref sig .tc .vmem S1x512x1024 .f32) (harg2 : arg2.IsWhole) (arg3 : Memref sig .tc .vmem S1x1x1x3072 .f32) (harg3 : arg3.IsWhole) (arg4 : Memref sig .tc .vmem S1x1x1024 .f32) (harg4 : arg4.IsWhole) (arg5 : Memref sig .tc .vmem S1x1024x2560 .bf16) (harg5 : arg5.IsWhole) (arg6 : Memref sig .tc .vmem S1x31x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole)
  (arg23 : Memref sig .tc .vmem S512x1024 .bf16) (arg24 : Memref sig .tc .vmem S544x512 .f32) (harg24 : arg24.IsWhole) (arg25 : Memref sig .tc .vmem S512x512 .bf16) (arg26 : Memref sig .tc .vmem S7x544x512 .f32) (arg27 : Memref sig .tc .vmem S512x512 .f32)
  (x0 : Vec Ideal S1x512x1024 .f32) (x1 : Vec Ideal S1x1x1x3072 .f32) (x2 : Vec Ideal S1x1x1024 .f32)
  (x3 : Vec Ideal S1x1024x2560 .bf16) (x4 : Vec Ideal S1x31x512 .f32) (x5 x6 x7 : Vec Ideal S1x1x512 .f32)

theorem h_lo (r : Fin 256) (d : Fin 1024) :
    kernelRun0_A.sl.v33 c arg2 harg2 arg3 harg3 arg4 harg4 arg23 x0 x1 x2 (ix2 r d) = bH x0 x1 x2 ⟨r.val, by omega⟩ d := by
  unfold kernelRun0_A.sl.v33 kernelRun0_A.sl.HS0_1
  rw [View.readCov_cons_toLoadRect]
  simp only [View.readAt_eq_ld, harg2.read_unread, harg3.read_unread, harg4.read_unread]
  pointwise [k0_pay7, k0_pay6, k0_pay5, bH, hRow, rms]

theorem h_hi (r : Fin 256) (d : Fin 1024) :
    kernelRun0_A.sl.v192 c arg2 harg2 arg3 harg3 arg4 harg4 arg23 x0 x1 x2 (ix2 r d) = bH x0 x1 x2 ⟨256 + r.val, by omega⟩ d := by
  unfold kernelRun0_A.sl.v192 kernelRun0_A.sl.HS0_2
  rw [View.readCov_cons_toLoadRect]
  sl_unfold_run_values
  simp only [View.readAt_eq_ld, harg2.read_unread, harg3.read_unread, harg4.read_unread]
  pointwise [k0_pay32, k0_pay6, k0_pay5, bH, hRow, rms]

/-- The same reads, spelled as loads of the row buffer. -/
theorem hl_lo (inb) (r : Fin 256) (d : Fin 1024) :
    arg23.view.readCov (kernelRun0_A.sl.HS0_1 c arg2 harg2 arg3 harg3 arg4 harg4 x0 x1 x2)
      (Rect.unit (s := S512x1024) ![0, 0] ![256, 1024] inb).toLoadRect (ix2 r d) = bH x0 x1 x2 ⟨r.val, by omega⟩ d :=
  h_lo c arg2 harg2 arg3 harg3 arg4 harg4 arg23 x0 x1 x2 r d
theorem hl_hi (inb) (r : Fin 256) (d : Fin 1024) :
    arg23.view.readCov (kernelRun0_A.sl.HS0_2 c arg2 harg2 arg3 harg3 arg4 harg4 x0 x1 x2)
      (Rect.unit (s := S512x1024) ![256, 0] ![256, 1024] inb).toLoadRect (ix2 r d) = bH x0 x1 x2 ⟨256 + r.val, by omega⟩ d :=
  h_hi c arg2 harg2 arg3 harg3 arg4 harg4 arg23 x0 x1 x2 r d

/-- The convolution buffer as a function of its index: nothing before the sequence begins. -/
abbrev B : ℕ → Fin 512 → EReal := buf x0 x1 x2 x3 (fun _ _ => 0)

theorem stores2 : RowStores (B x0 x1 x2 x3) 0 288 (kernelRun0_A.sl.HS1_2 c arg2 harg2 arg3 harg3 arg4 harg4 arg5 harg5 arg23 x0 x1 x2 x3) := by
  unfold kernelRun0_A.sl.HS1_2
  refine .cons _ _ rfl (fun r d => ?_) (.cons _ _ rfl (fun r d => ?_) (.nil _ _))
  · rw [B, buf_row x0 x1 x2 x3 _ (32 + r.val) ⟨r.val, by omega⟩ d rfl]
    simp only [View.readAt_eq_ld, harg5.read_unread]
    pointwise [k0_pay8, h_lo, bP, dot, glu]
  · rw [B, buf_halo _ _ _ _ _ _ _ (by omega)]
    pointwise [k0_pay4]

theorem stores3 : RowStores (B x0 x1 x2 x3) 0 544 (kernelRun0_A.sl.HS1_3 c arg2 harg2 arg3 harg3 arg4 harg4 arg5 harg5 arg23 x0 x1 x2 x3) := by
  unfold kernelRun0_A.sl.HS1_3
  refine .cons _ _ rfl (fun r d => ?_) (stores2 ..)
  rw [B, buf_row x0 x1 x2 x3 _ (288 + r.val) ⟨256 + r.val, by omega⟩ d (by simp; omega)]
  simp only [View.readAt_eq_ld, harg5.read_unread]
  pointwise [k0_pay33, h_hi, bP, dot, glu]

/-- The buffer after the first half's store holds `B` in its first 288 rows. -/
theorem load2 {o n : ℕ} (inb) (r : Fin n) (d : Fin 512) (ho : o + n ≤ 288) :
    arg24.view.readCov (kernelRun0_A.sl.HS1_2 c arg2 harg2 arg3 harg3 arg4 harg4 arg5 harg5 arg23 x0 x1 x2 x3)
      (Rect.unit (s := S544x512) ![o, 0] ![n, 512] inb).toLoadRect (ix2 r d) = B x0 x1 x2 x3 (o + r.val) d :=
  (stores2 ..).load _ _ inb r d ho (.inl (Nat.zero_le _))

/-- The buffer after both halves' stores holds `B`. -/
theorem load3 {o n : ℕ} (inb) (r : Fin n) (d : Fin 512) (ho : o + n ≤ 544) :
    arg24.view.readCov (kernelRun0_A.sl.HS1_3 c arg2 harg2 arg3 harg3 arg4 harg4 arg5 harg5 arg23 x0 x1 x2 x3)
      (Rect.unit (s := S544x512) ![o, 0] ![n, 512] inb).toLoadRect (ix2 r d) = B x0 x1 x2 x3 (o + r.val) d :=
  (stores3 ..).load _ _ inb r d ho (.inl (Nat.zero_le _))

theorem storesS : LayerStores (B x0 x1 x2 x3)
    (fun i => if i = 6 then 256 + 280 else if i = 5 then 256 + 280 else if i = 4 then 256 + 280 else if i = 3 then 256 + 280
      else if i = 2 then 256 + 280 else if i = 1 then 256 + 280 else if i = 0 then 256 + 280
      else if i = 6 then 0 + 280 else if i = 5 then 0 + 280 else if i = 4 then 0 + 280 else if i = 3 then 0 + 280
      else if i = 2 then 0 + 280 else if i = 1 then 0 + 280 else if i = 0 then 0 + 280 else 0)
    (kernelRun0_A.sl.HS3_14 c arg2 harg2 arg3 harg3 arg4 harg4 arg5 harg5 arg23 arg24 x0 x1 x2 x3) := by
  unfold kernelRun0_A.sl.HS3_14
  refine .cons _ _ (fun r d => ?_) (.cons _ _ (fun r d => ?_) (.cons _ _ (fun r d => ?_) (.cons _ _ (fun r d => ?_)
    (.cons _ _ (fun r d => ?_) (.cons _ _ (fun r d => ?_) (.cons _ _ (fun r d => ?_) (.cons _ _ (fun r d => ?_)
    (.cons _ _ (fun r d => ?_) (.cons _ _ (fun r d => ?_) (.cons _ _ (fun r d => ?_) (.cons _ _ (fun r d => ?_)
    (.cons _ _ (fun r d => ?_) (.cons _ _ (fun r d => ?_) (.nil _) ?_) ?_) ?_) ?_) ?_) ?_) ?_) ?_) ?_) ?_) ?_) ?_) ?_) ?_
  all_goals first | decide | skip
  all_goals sl_unfold_run_values
  all_goals pointwise [k0_pay9, k0_pay10, k0_pay11, k0_pay12, k0_pay13, k0_pay14, k0_pay15, k0_pay34, k0_pay35, k0_pay36, k0_pay37, k0_pay38, k0_pay39, k0_pay40]
  all_goals first | rw [load2] | rw [load3]
  all_goals first | decide | exact congrArg (B x0 x1 x2 x3 · d) (by omega)

/-- A tap read from a shifted copy. -/
theorem tapS {q o : ℕ} (inb) (r : Fin 64) (d : Fin 512) (hq : q < 7) (ho : o + 64 ≤ 536) :
    arg26.view.readCov (kernelRun0_A.sl.HS3_14 c arg2 harg2 arg3 harg3 arg4 harg4 arg5 harg5 arg23 arg24 x0 x1 x2 x3)
      (Rect.unit (s := S7x544x512) ![q, o, 0] ![1, 64, 512] inb).toLoadRect (ix3 0 r d) = B x0 x1 x2 x3 (r.val + (o + q + 1)) d :=
  ((storesS ..).load _ _ inb r d (by interval_cases q <;> exact ho)).trans (congrArg (B x0 x1 x2 x3 · d) (by omega))

/-- A tap read from the buffer itself. -/
theorem tapB {o : ℕ} (inb) (r : Fin 64) (d : Fin 512) (ho : o + 64 ≤ 544) :
    arg24.view.readCov (kernelRun0_A.sl.HS1_3 c arg2 harg2 arg3 harg3 arg4 harg4 arg5 harg5 arg23 x0 x1 x2 x3)
      (Rect.unit (s := S544x512) ![o, 0] ![64, 512] inb).toLoadRect (ix2 r d) = B x0 x1 x2 x3 (r.val + o) d :=
  (load3 c arg2 harg2 arg3 harg3 arg4 harg4 arg5 harg5 arg23 arg24 x0 x1 x2 x3 inb r d ho).trans (congrArg (B x0 x1 x2 x3 · d) (by omega))

theorem yStores4 : RowStores (bY x4 x5 x6 x7 (B x0 x1 x2 x3)) 0 256
    (kernelRun0_A.sl.HS2_4 c arg2 harg2 arg3 harg3 arg4 harg4 arg5 harg5 arg6 harg6 arg7 harg7 arg8 harg8 arg9 harg9 arg23 arg24 arg26 x0 x1 x2 x3 x4 x5 x6 x7) := by
  unfold kernelRun0_A.sl.HS2_4
  refine .cons _ _ rfl (fun r d => ?_) (.cons _ _ rfl (fun r d => ?_) (.cons _ _ rfl (fun r d => ?_) (.cons _ _ rfl (fun r d => ?_) (.nil _ _))))
  all_goals
    sl_unfold_run_values
    unfold_payloads
    simp only [View.readAt_eq_ld, harg6.read_unread, harg7.read_unread, harg8.read_unread, harg9.read_unread]
    pointwise []
    try rw [Nat.add_comm _ r.val]
    simp (discharger := decide) only [tapS, tapB, bY, silu, lnorm, mean, bC_eq, Nat.reduceAdd, Nat.add_assoc, Nat.add_zero]

theorem yStores8 : RowStores (bY x4 x5 x6 x7 (B x0 x1 x2 x3)) 0 512
    (kernelRun0_A.sl.HS2_8 c arg2 harg2 arg3 harg3 arg4 harg4 arg5 harg5 arg6 harg6 arg7 harg7 arg8 harg8 arg9 harg9 arg23 arg24 arg26 x0 x1 x2 x3 x4 x5 x6 x7) := by
  unfold kernelRun0_A.sl.HS2_8
  refine .cons _ _ rfl (fun r d => ?_) (.cons _ _ rfl (fun r d => ?_) (.cons _ _ rfl (fun r d => ?_) (.cons _ _ rfl (fun r d => ?_) (yStores4 ..))))
  all_goals
    sl_unfold_run_values
    unfold_payloads
    simp only [View.readAt_eq_ld, harg6.read_unread, harg7.read_unread, harg8.read_unread, harg9.read_unread]
    pointwise []
    rw [Nat.add_comm _ r.val]
    simp (discharger := decide) only [tapS, tapB, bY, silu, lnorm, mean, bC_eq, Nat.reduceAdd, Nat.add_assoc, Nat.add_zero]

theorem gStores2 : RowStores (bG x0 x1 x2 x3) 0 512
    (kernelRun0_A.sl.HS4_2 c arg2 harg2 arg3 harg3 arg4 harg4 arg5 harg5 arg23 x0 x1 x2 x3) := by
  unfold kernelRun0_A.sl.HS4_2
  refine .cons _ _ rfl (fun r d => ?_) (.cons _ _ rfl (fun r d => ?_) (.nil _ _))
  · rw [bG, dif_pos (by omega)]
    simp only [View.readAt_eq_ld, harg5.read_unread]
    pointwise [k0_pay41, h_hi, bP, dot, silu]
  · rw [bG, dif_pos (by omega)]
    simp only [View.readAt_eq_ld, harg5.read_unread]
    pointwise [k0_pay16, h_lo, bP, dot, silu]

/-- The normalised convolution rows, loaded. -/
theorem y_lo (inb) (r : Fin 256) (d : Fin 512) :
    arg25.view.readCov (kernelRun0_A.sl.HS2_4 c arg2 harg2 arg3 harg3 arg4 harg4 arg5 harg5 arg6 harg6 arg7 harg7 arg8 harg8 arg9 harg9 arg23 arg24 arg26 x0 x1 x2 x3 x4 x5 x6 x7)
      (Rect.unit (s := S512x512) ![0, 0] ![256, 512] inb).toLoadRect (ix2 r d) = bY x4 x5 x6 x7 (B x0 x1 x2 x3) (0 + r.val) d :=
  (yStores4 ..).load _ _ inb r d (by decide) (.inl (Nat.zero_le _))
theorem y_hi (inb) (r : Fin 256) (d : Fin 512) :
    arg25.view.readCov (kernelRun0_A.sl.HS2_8 c arg2 harg2 arg3 harg3 arg4 harg4 arg5 harg5 arg6 harg6 arg7 harg7 arg8 harg8 arg9 harg9 arg23 arg24 arg26 x0 x1 x2 x3 x4 x5 x6 x7)
      (Rect.unit (s := S512x512) ![256, 0] ![256, 512] inb).toLoadRect (ix2 r d) = bY x4 x5 x6 x7 (B x0 x1 x2 x3) (256 + r.val) d :=
  (yStores8 ..).load _ _ inb r d (by decide) (.inl (Nat.zero_le _))

/-- The gate's rows, loaded. -/
theorem g_lo (inb) (r : Fin 256) (d : Fin 512) :
    arg27.view.readCov (kernelRun0_A.sl.HS4_2 c arg2 harg2 arg3 harg3 arg4 harg4 arg5 harg5 arg23 x0 x1 x2 x3)
      (Rect.unit (s := S512x512) ![0, 0] ![256, 512] inb).toLoadRect (ix2 r d) = bG x0 x1 x2 x3 (0 + r.val) d :=
  (gStores2 ..).load _ _ inb r d (by decide) (.inl (Nat.zero_le _))
theorem g_hi (inb) (r : Fin 256) (d : Fin 512) :
    arg27.view.readCov (kernelRun0_A.sl.HS4_2 c arg2 harg2 arg3 harg3 arg4 harg4 arg5 harg5 arg23 x0 x1 x2 x3)
      (Rect.unit (s := S512x512) ![256, 0] ![256, 512] inb).toLoadRect (ix2 r d) = bG x0 x1 x2 x3 (256 + r.val) d :=
  (gStores2 ..).load _ _ inb r d (by decide) (.inl (Nat.zero_le _))

end Cert.KernelIdeal.BlockA

end
-- ==== Proof.OutA.lean ====
/-
  The result blocks of a point that begins a sequence (case A of the generated run), as row functions.
-/
module

public import proofs.«01_k».proof.Proof.Rows
public import proofs.«01_k».proof.Proof.Gen.KernelIdeal.Value
public import proofs.«01_k».proof.Proof.BlockA
public import Idealize.ShloMosaic.Lib.Tactic.RunNames

@[expose] public section

set_option maxRecDepth 16384

noncomputable section

open Idealize.ShloMosaic Idealize.ShloMosaic.TcCoe Idealize.SL.Sem

namespace Cert.KernelIdeal.BlockA
open Cert.KernelIdeal Cert.KernelIdeal.Gen Cert.Buffers Cert.Rows Cert.KernelIdeal.Rows

variable (c : Dev nD) (i : grid0.Coords) (arg2 : Memref sig .tc .vmem S1x512x1024 .f32) (harg2 : arg2.IsWhole) (arg3 : Memref sig .tc .vmem S1x1x1x3072 .f32) (harg3 : arg3.IsWhole) (arg4 : Memref sig .tc .vmem S1x1x1024 .f32) (harg4 : arg4.IsWhole) (arg5 : Memref sig .tc .vmem S1x1024x2560 .bf16) (harg5 : arg5.IsWhole) (arg6 : Memref sig .tc .vmem S1x31x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x1x256 .f32) (harg11 : arg11.IsWhole) (arg12 : Memref sig .tc .vmem S1x256x1024 .bf16) (harg12 : arg12.IsWhole) (arg13 : Memref sig .tc .vmem S1x256x512 .bf16) (harg13 : arg13.IsWhole) (arg14 : Memref sig .tc .vmem S1x1x128 .f32) (harg14 : arg14.IsWhole) (arg15 : Memref sig .tc .vmem S1x512x512 .bf16) (harg15 : arg15.IsWhole) (arg16 : Memref sig .tc .vmem S1x1024x512 .bf16) (harg16 : arg16.IsWhole) (arg17 : Memref sig .tc .vmem S1x512x512 .bf16) (harg17 : arg17.IsWhole) (arg18 : Memref sig .tc .vmem S1x512x128 .bf16) (harg18 : arg18.IsWhole) (arg19 : Memref sig .tc .vmem S1x128x512 .bf16) (harg19 : arg19.IsWhole) (arg20 : Memref sig .tc .vmem S1x512x64 .bf16) (harg20 : arg20.IsWhole) (arg21 : Memref sig .tc .vmem S1x8x512 .f32) (harg21 : arg21.IsWhole) (arg22 : Memref sig .tc .vmem S1x512x512 .f32) (harg22 : arg22.IsWhole) (arg23 : Memref sig .tc .vmem S512x1024 .bf16) (harg23 : arg23.IsWhole) (arg24 : Memref sig .tc .vmem S544x512 .f32) (harg24 : arg24.IsWhole) (arg25 : Memref sig .tc .vmem S512x512 .bf16) (harg25 : arg25.IsWhole) (arg26 : Memref sig .tc .vmem S7x544x512 .f32) (harg26 : arg26.IsWhole) (arg27 : Memref sig .tc .vmem S512x512 .f32) (harg27 : arg27.IsWhole)
  (hc0 : cond0_0 i) (x0 : Vec Ideal S1x512x1024 .f32) (x1 : Vec Ideal S1x1x1x3072 .f32) (x2 : Vec Ideal S1x1x1024 .f32) (x3 : Vec Ideal S1x1024x2560 .bf16) (x4 : Vec Ideal S1x31x512 .f32) (x5 : Vec Ideal S1x1x512 .f32) (x6 : Vec Ideal S1x1x512 .f32) (x7 : Vec Ideal S1x1x512 .f32) (x8 : Vec Ideal S1x512x512 .bf16) (x9 : Vec Ideal S1x1x256 .f32) (x10 : Vec Ideal S1x256x1024 .bf16) (x11 : Vec Ideal S1x256x512 .bf16) (x12 : Vec Ideal S1x1x128 .f32)

theorem pieces13 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).1,
    ∀ x : p.1.shape.Idx, p.2 x = (bO x0 x1 x2 x3 x4 x5 x6 x7 x8 (B x0 x1 x2 x3) : Fin 512 → Fin 512 → EReal) (p.1.emb x 1) (p.1.emb x 2) := by
  unfold kernelRun0_A
  dsimp only
  simp only [List.forall_mem_cons]
  refine ⟨block_piece (Val := Elt Ideal) (e := .bf16) (bO x0 x1 x2 x3 x4 x5 x6 x7 x8 (B x0 x1 x2 x3)) _ _ fun r d hr hd => ?_, block_piece (Val := Elt Ideal) (e := .bf16) (bO x0 x1 x2 x3 x4 x5 x6 x7 x8 (B x0 x1 x2 x3)) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bO, dot, y_lo, y_hi, g_lo, g_hi]

theorem out13 (r : Fin 512) (d : Fin 512) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d) = (bO x0 x1 x2 x3 x4 x5 x6 x7 x8 (B x0 x1 x2 x3) : Fin 512 → Fin 512 → EReal) r d := by
  have h := read_pieces (Val := Elt Ideal) (e := .bf16) VO0_13 VO0_13.junk (fun y => (bO x0 x1 x2 x3 x4 x5 x6 x7 x8 (B x0 x1 x2 x3) : Fin 512 → Fin 512 → EReal) (y 1) (y 2)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).1 (pieces13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) (ix3 0 r d) (.inl (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d)))
  exact h

theorem pieces14 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.1,
    ∀ x : p.1.shape.Idx, p.2 x = (fun e n => bQ x0 x1 x2 x3 x9 x10 n e * qScale : Fin 1024 → Fin 512 → EReal) (p.1.emb x 1) (p.1.emb x 2) := by
  unfold kernelRun0_A
  dsimp only
  simp only [List.forall_mem_cons]
  refine ⟨block_piece (Val := Elt Ideal) (e := .bf16) (fun e n => bQ x0 x1 x2 x3 x9 x10 n e * qScale) _ _ fun r d hr hd => ?_, block_piece (Val := Elt Ideal) (e := .bf16) (fun e n => bQ x0 x1 x2 x3 x9 x10 n e * qScale) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bQ, bCq, rms, bP, dot, hl_lo, hl_hi]

theorem out14 (r : Fin 1024) (d : Fin 512) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d) = (fun e n => bQ x0 x1 x2 x3 x9 x10 n e * qScale : Fin 1024 → Fin 512 → EReal) r d := by
  have h := read_pieces (Val := Elt Ideal) (e := .bf16) VO0_14 VO0_14.junk (fun y => (fun e n => bQ x0 x1 x2 x3 x9 x10 n e * qScale : Fin 1024 → Fin 512 → EReal) (y 1) (y 2)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.1 (pieces14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) (ix3 0 r d) (.inl (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d)))
  exact h

theorem pieces15 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.1,
    ∀ x : p.1.shape.Idx, p.2 x = (fun e n => bQi x0 x1 x2 x3 x9 x11 n e : Fin 512 → Fin 512 → EReal) (p.1.emb x 1) (p.1.emb x 2) := by
  unfold kernelRun0_A
  dsimp only
  simp only [List.forall_mem_cons]
  refine ⟨block_piece (Val := Elt Ideal) (e := .bf16) (fun e n => bQi x0 x1 x2 x3 x9 x11 n e) _ _ fun r d hr hd => ?_, block_piece (Val := Elt Ideal) (e := .bf16) (fun e n => bQi x0 x1 x2 x3 x9 x11 n e) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bQi, bCq, rms, bP, dot, hl_lo, hl_hi]

theorem out15 (r : Fin 512) (d : Fin 512) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d) = (fun e n => bQi x0 x1 x2 x3 x9 x11 n e : Fin 512 → Fin 512 → EReal) r d := by
  have h := read_pieces (Val := Elt Ideal) (e := .bf16) VO0_15 VO0_15.junk (fun y => (fun e n => bQi x0 x1 x2 x3 x9 x11 n e : Fin 512 → Fin 512 → EReal) (y 1) (y 2)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.1 (pieces15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) (ix3 0 r d) (.inl (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d)))
  exact h

theorem pieces16 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.1,
    ∀ x : p.1.shape.Idx, p.2 x = (bKv x0 x1 x2 x3 x12 : Fin 512 → Fin 128 → EReal) (p.1.emb x 1) (p.1.emb x 2) := by
  unfold kernelRun0_A
  dsimp only
  simp only [List.forall_mem_cons]
  refine ⟨block_piece (Val := Elt Ideal) (e := .bf16) (bKv x0 x1 x2 x3 x12) _ _ fun r d hr hd => ?_, block_piece (Val := Elt Ideal) (e := .bf16) (bKv x0 x1 x2 x3 x12) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bKv, rms, bP, dot, hl_lo, hl_hi]

theorem out16 (r : Fin 512) (d : Fin 128) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d) = (bKv x0 x1 x2 x3 x12 : Fin 512 → Fin 128 → EReal) r d := by
  have h := read_pieces (Val := Elt Ideal) (e := .bf16) VO0_16 VO0_16.junk (fun y => (bKv x0 x1 x2 x3 x12 : Fin 512 → Fin 128 → EReal) (y 1) (y 2)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.1 (pieces16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) (ix3 0 r d) (.inl (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d)))
  exact h

theorem pieces17 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.1,
    ∀ x : p.1.shape.Idx, p.2 x = (fun e n => bKv x0 x1 x2 x3 x12 n e : Fin 128 → Fin 512 → EReal) (p.1.emb x 1) (p.1.emb x 2) := by
  unfold kernelRun0_A
  dsimp only
  simp only [List.forall_mem_cons]
  refine ⟨block_piece (Val := Elt Ideal) (e := .bf16) (fun e n => bKv x0 x1 x2 x3 x12 n e) _ _ fun r d hr hd => ?_, block_piece (Val := Elt Ideal) (e := .bf16) (fun e n => bKv x0 x1 x2 x3 x12 n e) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bKv, rms, bP, dot, hl_lo, hl_hi]

theorem out17 (r : Fin 128) (d : Fin 512) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d) = (fun e n => bKv x0 x1 x2 x3 x12 n e : Fin 128 → Fin 512 → EReal) r d := by
  have h := read_pieces (Val := Elt Ideal) (e := .bf16) VO0_17 VO0_17.junk (fun y => (fun e n => bKv x0 x1 x2 x3 x12 n e : Fin 128 → Fin 512 → EReal) (y 1) (y 2)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.1 (pieces17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) (ix3 0 r d) (.inl (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d)))
  exact h

theorem pieces18 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.2.1,
    ∀ x : p.1.shape.Idx, p.2 x = (bKi x0 x1 x2 x3 : Fin 512 → Fin 64 → EReal) (p.1.emb x 1) (p.1.emb x 2) := by
  unfold kernelRun0_A
  dsimp only
  simp only [List.forall_mem_cons]
  refine ⟨block_piece (Val := Elt Ideal) (e := .bf16) (bKi x0 x1 x2 x3) _ _ fun r d hr hd => ?_, block_piece (Val := Elt Ideal) (e := .bf16) (bKi x0 x1 x2 x3) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bKi, bP, dot, hl_lo, hl_hi]

theorem out18 (r : Fin 512) (d : Fin 64) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d) = (bKi x0 x1 x2 x3 : Fin 512 → Fin 64 → EReal) r d := by
  have h := read_pieces (Val := Elt Ideal) (e := .bf16) VO0_18 VO0_18.junk (fun y => (bKi x0 x1 x2 x3 : Fin 512 → Fin 64 → EReal) (y 1) (y 2)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.2.1 (pieces18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) (ix3 0 r d) (.inl (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d)))
  exact h

theorem pieces19 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.2.2.1,
    ∀ x : p.1.shape.Idx, p.2 x = (fun e n => bWt x0 x1 x2 x3 n e : Fin 8 → Fin 512 → EReal) (p.1.emb x 1) (p.1.emb x 2) := by
  unfold kernelRun0_A
  dsimp only
  simp only [List.forall_mem_cons]
  refine ⟨block_piece (Val := Elt Ideal) (e := .f32) (fun e n => bWt x0 x1 x2 x3 n e) _ _ fun r d hr hd => ?_, block_piece (Val := Elt Ideal) (e := .f32) (fun e n => bWt x0 x1 x2 x3 n e) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bWt, bP, dot, hl_lo, hl_hi]

theorem out19 (r : Fin 8) (d : Fin 512) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d) = (fun e n => bWt x0 x1 x2 x3 n e : Fin 8 → Fin 512 → EReal) r d := by
  have h := read_pieces (Val := Elt Ideal) (e := .f32) VO0_19 VO0_19.junk (fun y => (fun e n => bWt x0 x1 x2 x3 n e : Fin 8 → Fin 512 → EReal) (y 1) (y 2)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.2.2.1 (pieces19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) (ix3 0 r d) (.inl (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d)))
  exact h

theorem pieces20 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.2.2.2.1,
    ∀ x : p.1.shape.Idx, p.2 x = (bGa x0 x1 x2 x3 : Fin 512 → Fin 512 → EReal) (p.1.emb x 1) (p.1.emb x 2) := by
  unfold kernelRun0_A
  dsimp only
  simp only [List.forall_mem_cons]
  refine ⟨block_piece (Val := Elt Ideal) (e := .f32) (bGa x0 x1 x2 x3) _ _ fun r d hr hd => ?_, block_piece (Val := Elt Ideal) (e := .f32) (bGa x0 x1 x2 x3) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bGa, silu, bP, dot, hl_lo, hl_hi]

theorem out20 (r : Fin 512) (d : Fin 512) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d) = (bGa x0 x1 x2 x3 : Fin 512 → Fin 512 → EReal) r d := by
  have h := read_pieces (Val := Elt Ideal) (e := .f32) VO0_20 VO0_20.junk (fun y => (bGa x0 x1 x2 x3 : Fin 512 → Fin 512 → EReal) (y 1) (y 2)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.2.2.2.1 (pieces20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) (ix3 0 r d) (.inl (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix3 0 r d)))
  exact h

/-- What the point leaves for the next one: the last 32 rows of its buffer, in front. -/
theorem carry (n : ℕ) (hn : n < 32) (d : Fin 512) (m : Fin 544) (hm : m.val = n) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 m d) = B x0 x1 x2 x3 (512 + n) d := by
  unfold sout0_A_1 kernelRun0_A
  dsimp only
  refine (read_head _ _ _ _ _ (⟨n, hn⟩ : Fin 32) d m (hm.trans (Nat.zero_add _).symm)).trans ?_
  sl_unfold_run_values
  unfold_payloads
  pointwise []
  rw [load3]
  omega

end Cert.KernelIdeal.BlockA

end
-- ==== Proof.BlockB.lean ====
/-
  What the body leaves at a point that continues a sequence (case B of the generated run), read down to the row functions.
-/
module

public import proofs.«01_k».proof.Proof.Rows
public import proofs.«01_k».proof.Proof.Gen.KernelIdeal.Value
public import proofs.«01_k».proof.Proof.Buffers
public import Idealize.ShloMosaic.Lib.Tactic.RunNames

@[expose] public section

set_option maxRecDepth 16384

noncomputable section

open Idealize.ShloMosaic Idealize.ShloMosaic.TcCoe Idealize.SL.Sem

namespace Cert.KernelIdeal.BlockB
open Cert.KernelIdeal Cert.KernelIdeal.Gen Cert.Buffers Cert.Rows Cert.KernelIdeal.Rows

variable (c : Dev nD) (arg2 : Memref sig .tc .vmem S1x512x1024 .f32) (harg2 : arg2.IsWhole) (arg3 : Memref sig .tc .vmem S1x1x1x3072 .f32) (harg3 : arg3.IsWhole) (arg4 : Memref sig .tc .vmem S1x1x1024 .f32) (harg4 : arg4.IsWhole) (arg5 : Memref sig .tc .vmem S1x1024x2560 .bf16) (harg5 : arg5.IsWhole) (arg6 : Memref sig .tc .vmem S1x31x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole)
  (arg23 : Memref sig .tc .vmem S512x1024 .bf16) (arg24 : Memref sig .tc .vmem S544x512 .f32) (harg24 : arg24.IsWhole) (arg25 : Memref sig .tc .vmem S512x512 .bf16) (arg26 : Memref sig .tc .vmem S7x544x512 .f32) (arg27 : Memref sig .tc .vmem S512x512 .f32)
  (x0 : Vec Ideal S1x512x1024 .f32) (x1 : Vec Ideal S1x1x1x3072 .f32) (x2 : Vec Ideal S1x1x1024 .f32)
  (x3 : Vec Ideal S1x1024x2560 .bf16) (x4 : Vec Ideal S1x31x512 .f32) (x5 x6 x7 : Vec Ideal S1x1x512 .f32) (xs1 : Vec Ideal S544x512 .f32)

theorem h_lo (r : Fin 256) (d : Fin 1024) :
    kernelRun0_B.sl.v33 c arg2 harg2 arg3 harg3 arg4 harg4 arg23 x0 x1 x2 (ix2 r d) = bH x0 x1 x2 ⟨r.val, by omega⟩ d := by
  unfold kernelRun0_B.sl.v33 kernelRun0_B.sl.HS0_1
  rw [View.readCov_cons_toLoadRect]
  simp only [View.readAt_eq_ld, harg2.read_unread, harg3.read_unread, harg4.read_unread]
  pointwise [k0_pay7, k0_pay6, k0_pay5, bH, hRow, rms]

theorem h_hi (r : Fin 256) (d : Fin 1024) :
    kernelRun0_B.sl.v192 c arg2 harg2 arg3 harg3 arg4 harg4 arg23 x0 x1 x2 (ix2 r d) = bH x0 x1 x2 ⟨256 + r.val, by omega⟩ d := by
  unfold kernelRun0_B.sl.v192 kernelRun0_B.sl.HS0_2
  rw [View.readCov_cons_toLoadRect]
  sl_unfold_run_values
  simp only [View.readAt_eq_ld, harg2.read_unread, harg3.read_unread, harg4.read_unread]
  pointwise [k0_pay32, k0_pay6, k0_pay5, bH, hRow, rms]

/-- The same reads, spelled as loads of the row buffer. -/
theorem hl_lo (inb) (r : Fin 256) (d : Fin 1024) :
    arg23.view.readCov (kernelRun0_B.sl.HS0_1 c arg2 harg2 arg3 harg3 arg4 harg4 x0 x1 x2)
      (Rect.unit (s := S512x1024) ![0, 0] ![256, 1024] inb).toLoadRect (ix2 r d) = bH x0 x1 x2 ⟨r.val, by omega⟩ d :=
  h_lo c arg2 harg2 arg3 harg3 arg4 harg4 arg23 x0 x1 x2 r d
theorem hl_hi (inb) (r : Fin 256) (d : Fin 1024) :
    arg23.view.readCov (kernelRun0_B.sl.HS0_2 c arg2 harg2 arg3 harg3 arg4 harg4 x0 x1 x2)
      (Rect.unit (s := S512x1024) ![256, 0] ![256, 1024] inb).toLoadRect (ix2 r d) = bH x0 x1 x2 ⟨256 + r.val, by omega⟩ d :=
  h_hi c arg2 harg2 arg3 harg3 arg4 harg4 arg23 x0 x1 x2 r d

/-- The rows a carried scratch brings from the point before. -/
def halo (n : ℕ) (d : Fin 512) : EReal := if h : n < 544 then xs1 (ix2 ⟨n, h⟩ d) else 0

/-- The convolution buffer as a function of its index: the carried rows, then the block's own. -/
abbrev B : ℕ → Fin 512 → EReal := buf x0 x1 x2 x3 (halo xs1)

theorem stores1 : RowStores (B x0 x1 x2 x3 xs1) 32 288 (kernelRun0_B.sl.HS1_1 c arg2 harg2 arg3 harg3 arg4 harg4 arg5 harg5 arg23 x0 x1 x2 x3) := by
  unfold kernelRun0_B.sl.HS1_1
  refine .cons _ _ rfl (fun r d => ?_) (.nil _ _)
  rw [B, buf_row x0 x1 x2 x3 _ (32 + r.val) ⟨r.val, by omega⟩ d rfl]
  simp only [View.readAt_eq_ld, harg5.read_unread]
  pointwise [k0_pay8, h_lo, bP, dot, glu]

theorem stores2 : RowStores (B x0 x1 x2 x3 xs1) 32 544 (kernelRun0_B.sl.HS1_2 c arg2 harg2 arg3 harg3 arg4 harg4 arg5 harg5 arg23 x0 x1 x2 x3) := by
  unfold kernelRun0_B.sl.HS1_2
  refine .cons _ _ rfl (fun r d => ?_) (stores1 ..)
  rw [B, buf_row x0 x1 x2 x3 _ (288 + r.val) ⟨256 + r.val, by omega⟩ d (by simp; omega)]
  simp only [View.readAt_eq_ld, harg5.read_unread]
  pointwise [k0_pay33, h_hi, bP, dot, glu]

/-- What the buffer held before the point: the carried rows. -/
theorem old_rows (k : ℕ) (hk : k < 32) (d : Fin 512) (m : Fin 544) (hm : m.val = k) :
    arg24.view.read (Elt Ideal) (harg24.unread xs1) (ix2 m d) = B x0 x1 x2 x3 xs1 k d := by
  rw [harg24.read_unread, B, buf_halo _ _ _ _ _ _ _ hk, halo, dif_pos (by omega)]
  subst hm; rfl

/-- The buffer after the first half's store holds `B` in its first 288 rows, after both halves' in all. -/
theorem load1 {o n : ℕ} (inb) (r : Fin n) (d : Fin 512) (ho : o + n ≤ 288) :
    arg24.view.readAt (Elt Ideal) (Rect.unit (s := S544x512) ![o, 0] ![n, 512] inb).toLoadRect
      (arg24.view.writes (Elt Ideal) (harg24.unread xs1) (kernelRun0_B.sl.HS1_1 c arg2 harg2 arg3 harg3 arg4 harg4 arg5 harg5 arg23 x0 x1 x2 x3)) (ix2 r d) = B x0 x1 x2 x3 xs1 (o + r.val) d :=
  (stores1 ..).load _ _ inb r d ho ((le_or_gt 32 (o + r.val)).imp id fun h m hm => old_rows arg24 harg24 x0 x1 x2 x3 xs1 _ h d m hm)
theorem load1c {o n : ℕ} (inb) (r : Fin n) (d : Fin 512) (ho : 32 ≤ o ∧ o + n ≤ 288) :
    arg24.view.readCov (kernelRun0_B.sl.HS1_1 c arg2 harg2 arg3 harg3 arg4 harg4 arg5 harg5 arg23 x0 x1 x2 x3)
      (Rect.unit (s := S544x512) ![o, 0] ![n, 512] inb).toLoadRect (ix2 r d) = B x0 x1 x2 x3 xs1 (o + r.val) d :=
  (stores1 ..).load _ _ inb r d ho.2 (.inl (ho.1.trans (Nat.le_add_right _ _)))
theorem load2 {o n : ℕ} (inb) (r : Fin n) (d : Fin 512) (ho : o + n ≤ 544) :
    arg24.view.readAt (Elt Ideal) (Rect.unit (s := S544x512) ![o, 0] ![n, 512] inb).toLoadRect
      (arg24.view.writes (Elt Ideal) (harg24.unread xs1) (kernelRun0_B.sl.HS1_2 c arg2 harg2 arg3 harg3 arg4 harg4 arg5 harg5 arg23 x0 x1 x2 x3)) (ix2 r d) = B x0 x1 x2 x3 xs1 (o + r.val) d :=
  (stores2 ..).load _ _ inb r d ho ((le_or_gt 32 (o + r.val)).imp id fun h m hm => old_rows arg24 harg24 x0 x1 x2 x3 xs1 _ h d m hm)
theorem load2c {o n : ℕ} (inb) (r : Fin n) (d : Fin 512) (ho : 32 ≤ o ∧ o + n ≤ 544) :
    arg24.view.readCov (kernelRun0_B.sl.HS1_2 c arg2 harg2 arg3 harg3 arg4 harg4 arg5 harg5 arg23 x0 x1 x2 x3)
      (Rect.unit (s := S544x512) ![o, 0] ![n, 512] inb).toLoadRect (ix2 r d) = B x0 x1 x2 x3 xs1 (o + r.val) d :=
  (stores2 ..).load _ _ inb r d ho.2 (.inl (ho.1.trans (Nat.le_add_right _ _)))

theorem storesS : LayerStores (B x0 x1 x2 x3 xs1)
    (fun i => if i = 6 then 256 + 280 else if i = 5 then 256 + 280 else if i = 4 then 256 + 280 else if i = 3 then 256 + 280
      else if i = 2 then 256 + 280 else if i = 1 then 256 + 280 else if i = 0 then 256 + 280
      else if i = 6 then 0 + 280 else if i = 5 then 0 + 280 else if i = 4 then 0 + 280 else if i = 3 then 0 + 280
      else if i = 2 then 0 + 280 else if i = 1 then 0 + 280 else if i = 0 then 0 + 280 else 0)
    (kernelRun0_B.sl.HS3_14 c arg2 harg2 arg3 harg3 arg4 harg4 arg5 harg5 arg23 arg24 harg24 x0 x1 x2 x3 xs1) := by
  unfold kernelRun0_B.sl.HS3_14
  refine .cons _ _ (fun r d => ?_) (.cons _ _ (fun r d => ?_) (.cons _ _ (fun r d => ?_) (.cons _ _ (fun r d => ?_)
    (.cons _ _ (fun r d => ?_) (.cons _ _ (fun r d => ?_) (.cons _ _ (fun r d => ?_) (.cons _ _ (fun r d => ?_)
    (.cons _ _ (fun r d => ?_) (.cons _ _ (fun r d => ?_) (.cons _ _ (fun r d => ?_) (.cons _ _ (fun r d => ?_)
    (.cons _ _ (fun r d => ?_) (.cons _ _ (fun r d => ?_) (.nil _) ?_) ?_) ?_) ?_) ?_) ?_) ?_) ?_) ?_) ?_) ?_) ?_) ?_) ?_
  all_goals first | decide | skip
  all_goals sl_unfold_run_values
  all_goals pointwise [k0_pay9, k0_pay10, k0_pay11, k0_pay12, k0_pay13, k0_pay14, k0_pay15, k0_pay34, k0_pay35, k0_pay36, k0_pay37, k0_pay38, k0_pay39, k0_pay40]
  all_goals first | rw [load1 (xs1 := xs1)] | rw [load1c (xs1 := xs1)] | rw [load2 (xs1 := xs1)] | rw [load2c (xs1 := xs1)]
  all_goals first | decide | exact congrArg (B x0 x1 x2 x3 xs1 · d) (by omega)

/-- A tap read from a shifted copy. -/
theorem tapS {q o : ℕ} (inb) (r : Fin 64) (d : Fin 512) (hq : q < 7) (ho : o + 64 ≤ 536) :
    arg26.view.readCov (kernelRun0_B.sl.HS3_14 c arg2 harg2 arg3 harg3 arg4 harg4 arg5 harg5 arg23 arg24 harg24 x0 x1 x2 x3 xs1)
      (Rect.unit (s := S7x544x512) ![q, o, 0] ![1, 64, 512] inb).toLoadRect (ix3 0 r d) = B x0 x1 x2 x3 xs1 (r.val + (o + q + 1)) d :=
  ((storesS ..).load _ _ inb r d (by interval_cases q <;> exact ho)).trans (congrArg (B x0 x1 x2 x3 xs1 · d) (by omega))

/-- A tap read from the buffer itself. -/
theorem tapB {o : ℕ} (inb) (r : Fin 64) (d : Fin 512) (ho : 32 ≤ o ∧ o + 64 ≤ 544) :
    arg24.view.readCov (kernelRun0_B.sl.HS1_2 c arg2 harg2 arg3 harg3 arg4 harg4 arg5 harg5 arg23 x0 x1 x2 x3)
      (Rect.unit (s := S544x512) ![o, 0] ![64, 512] inb).toLoadRect (ix2 r d) = B x0 x1 x2 x3 xs1 (r.val + o) d :=
  (load2c c arg2 harg2 arg3 harg3 arg4 harg4 arg5 harg5 arg23 arg24 x0 x1 x2 x3 xs1 inb r d ho).trans (congrArg (B x0 x1 x2 x3 xs1 · d) (by omega))
theorem tapB' {o : ℕ} (inb) (r : Fin 64) (d : Fin 512) (ho : o + 64 ≤ 544) :
    arg24.view.readAt (Elt Ideal) (Rect.unit (s := S544x512) ![o, 0] ![64, 512] inb).toLoadRect
      (arg24.view.writes (Elt Ideal) (harg24.unread xs1) (kernelRun0_B.sl.HS1_2 c arg2 harg2 arg3 harg3 arg4 harg4 arg5 harg5 arg23 x0 x1 x2 x3)) (ix2 r d) = B x0 x1 x2 x3 xs1 (r.val + o) d :=
  (load2 c arg2 harg2 arg3 harg3 arg4 harg4 arg5 harg5 arg23 arg24 harg24 x0 x1 x2 x3 xs1 inb r d ho).trans (congrArg (B x0 x1 x2 x3 xs1 · d) (by omega))

theorem yStores4 : RowStores (bY x4 x5 x6 x7 (B x0 x1 x2 x3 xs1)) 0 256
    (kernelRun0_B.sl.HS2_4 c arg2 harg2 arg3 harg3 arg4 harg4 arg5 harg5 arg6 harg6 arg7 harg7 arg8 harg8 arg9 harg9 arg23 arg24 harg24 arg26 x0 x1 x2 x3 x4 x5 x6 x7 xs1) := by
  unfold kernelRun0_B.sl.HS2_4
  refine .cons _ _ rfl (fun r d => ?_) (.cons _ _ rfl (fun r d => ?_) (.cons _ _ rfl (fun r d => ?_) (.cons _ _ rfl (fun r d => ?_) (.nil _ _))))
  all_goals
    sl_unfold_run_values
    unfold_payloads
    simp only [View.readAt_eq_ld (v := arg6.view), View.readAt_eq_ld (v := arg7.view), View.readAt_eq_ld (v := arg8.view), View.readAt_eq_ld (v := arg9.view), harg6.read_unread, harg7.read_unread, harg8.read_unread, harg9.read_unread]
    pointwise []
    try rw [Nat.add_comm _ r.val]
    simp (discharger := decide) only [tapS, @tapB c arg2 harg2 arg3 harg3 arg4 harg4 arg5 harg5 arg23 arg24 x0 x1 x2 x3 xs1, tapB', bY, silu, lnorm, mean, bC_eq, Nat.reduceAdd, Nat.add_assoc, Nat.add_zero]

theorem yStores8 : RowStores (bY x4 x5 x6 x7 (B x0 x1 x2 x3 xs1)) 0 512
    (kernelRun0_B.sl.HS2_8 c arg2 harg2 arg3 harg3 arg4 harg4 arg5 harg5 arg6 harg6 arg7 harg7 arg8 harg8 arg9 harg9 arg23 arg24 harg24 arg26 x0 x1 x2 x3 x4 x5 x6 x7 xs1) := by
  unfold kernelRun0_B.sl.HS2_8
  refine .cons _ _ rfl (fun r d => ?_) (.cons _ _ rfl (fun r d => ?_) (.cons _ _ rfl (fun r d => ?_) (.cons _ _ rfl (fun r d => ?_) (yStores4 ..))))
  all_goals
    sl_unfold_run_values
    unfold_payloads
    simp only [View.readAt_eq_ld (v := arg6.view), View.readAt_eq_ld (v := arg7.view), View.readAt_eq_ld (v := arg8.view), View.readAt_eq_ld (v := arg9.view), harg6.read_unread, harg7.read_unread, harg8.read_unread, harg9.read_unread]
    pointwise []
    rw [Nat.add_comm _ r.val]
    simp (discharger := decide) only [tapS, @tapB c arg2 harg2 arg3 harg3 arg4 harg4 arg5 harg5 arg23 arg24 x0 x1 x2 x3 xs1, tapB', bY, silu, lnorm, mean, bC_eq, Nat.reduceAdd, Nat.add_assoc, Nat.add_zero]

theorem gStores2 : RowStores (bG x0 x1 x2 x3) 0 512
    (kernelRun0_B.sl.HS4_2 c arg2 harg2 arg3 harg3 arg4 harg4 arg5 harg5 arg23 x0 x1 x2 x3) := by
  unfold kernelRun0_B.sl.HS4_2
  refine .cons _ _ rfl (fun r d => ?_) (.cons _ _ rfl (fun r d => ?_) (.nil _ _))
  · rw [bG, dif_pos (by omega)]
    simp only [View.readAt_eq_ld, harg5.read_unread]
    pointwise [k0_pay41, h_hi, bP, dot, silu]
  · rw [bG, dif_pos (by omega)]
    simp only [View.readAt_eq_ld, harg5.read_unread]
    pointwise [k0_pay16, h_lo, bP, dot, silu]

/-- The normalised convolution rows, loaded. -/
theorem y_lo (inb) (r : Fin 256) (d : Fin 512) :
    arg25.view.readCov (kernelRun0_B.sl.HS2_4 c arg2 harg2 arg3 harg3 arg4 harg4 arg5 harg5 arg6 harg6 arg7 harg7 arg8 harg8 arg9 harg9 arg23 arg24 harg24 arg26 x0 x1 x2 x3 x4 x5 x6 x7 xs1)
      (Rect.unit (s := S512x512) ![0, 0] ![256, 512] inb).toLoadRect (ix2 r d) = bY x4 x5 x6 x7 (B x0 x1 x2 x3 xs1) (0 + r.val) d :=
  (yStores4 ..).load _ _ inb r d (by decide) (.inl (Nat.zero_le _))
theorem y_hi (inb) (r : Fin 256) (d : Fin 512) :
    arg25.view.readCov (kernelRun0_B.sl.HS2_8 c arg2 harg2 arg3 harg3 arg4 harg4 arg5 harg5 arg6 harg6 arg7 harg7 arg8 harg8 arg9 harg9 arg23 arg24 harg24 arg26 x0 x1 x2 x3 x4 x5 x6 x7 xs1)
      (Rect.unit (s := S512x512) ![256, 0] ![256, 512] inb).toLoadRect (ix2 r d) = bY x4 x5 x6 x7 (B x0 x1 x2 x3 xs1) (256 + r.val) d :=
  (yStores8 ..).load _ _ inb r d (by decide) (.inl (Nat.zero_le _))

/-- The gate's rows, loaded. -/
theorem g_lo (inb) (r : Fin 256) (d : Fin 512) :
    arg27.view.readCov (kernelRun0_B.sl.HS4_2 c arg2 harg2 arg3 harg3 arg4 harg4 arg5 harg5 arg23 x0 x1 x2 x3)
      (Rect.unit (s := S512x512) ![0, 0] ![256, 512] inb).toLoadRect (ix2 r d) = bG x0 x1 x2 x3 (0 + r.val) d :=
  (gStores2 ..).load _ _ inb r d (by decide) (.inl (Nat.zero_le _))
theorem g_hi (inb) (r : Fin 256) (d : Fin 512) :
    arg27.view.readCov (kernelRun0_B.sl.HS4_2 c arg2 harg2 arg3 harg3 arg4 harg4 arg5 harg5 arg23 x0 x1 x2 x3)
      (Rect.unit (s := S512x512) ![256, 0] ![256, 512] inb).toLoadRect (ix2 r d) = bG x0 x1 x2 x3 (256 + r.val) d :=
  (gStores2 ..).load _ _ inb r d (by decide) (.inl (Nat.zero_le _))

end Cert.KernelIdeal.BlockB

end
-- ==== Proof.OutB.lean ====
/-
  The result blocks of a point that continues a sequence (case B of the generated run), as row functions.
-/
module

public import proofs.«01_k».proof.Proof.Rows
public import proofs.«01_k».proof.Proof.Gen.KernelIdeal.Value
public import proofs.«01_k».proof.Proof.BlockB
public import Idealize.ShloMosaic.Lib.Tactic.RunNames

@[expose] public section

set_option maxRecDepth 16384

noncomputable section

open Idealize.ShloMosaic Idealize.ShloMosaic.TcCoe Idealize.SL.Sem

namespace Cert.KernelIdeal.BlockB
open Cert.KernelIdeal Cert.KernelIdeal.Gen Cert.Buffers Cert.Rows Cert.KernelIdeal.Rows

variable (c : Dev nD) (i : grid0.Coords) (arg2 : Memref sig .tc .vmem S1x512x1024 .f32) (harg2 : arg2.IsWhole) (arg3 : Memref sig .tc .vmem S1x1x1x3072 .f32) (harg3 : arg3.IsWhole) (arg4 : Memref sig .tc .vmem S1x1x1024 .f32) (harg4 : arg4.IsWhole) (arg5 : Memref sig .tc .vmem S1x1024x2560 .bf16) (harg5 : arg5.IsWhole) (arg6 : Memref sig .tc .vmem S1x31x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x512 .bf16) (harg10 : arg10.IsWhole) (arg11 : Memref sig .tc .vmem S1x1x256 .f32) (harg11 : arg11.IsWhole) (arg12 : Memref sig .tc .vmem S1x256x1024 .bf16) (harg12 : arg12.IsWhole) (arg13 : Memref sig .tc .vmem S1x256x512 .bf16) (harg13 : arg13.IsWhole) (arg14 : Memref sig .tc .vmem S1x1x128 .f32) (harg14 : arg14.IsWhole) (arg15 : Memref sig .tc .vmem S1x512x512 .bf16) (harg15 : arg15.IsWhole) (arg16 : Memref sig .tc .vmem S1x1024x512 .bf16) (harg16 : arg16.IsWhole) (arg17 : Memref sig .tc .vmem S1x512x512 .bf16) (harg17 : arg17.IsWhole) (arg18 : Memref sig .tc .vmem S1x512x128 .bf16) (harg18 : arg18.IsWhole) (arg19 : Memref sig .tc .vmem S1x128x512 .bf16) (harg19 : arg19.IsWhole) (arg20 : Memref sig .tc .vmem S1x512x64 .bf16) (harg20 : arg20.IsWhole) (arg21 : Memref sig .tc .vmem S1x8x512 .f32) (harg21 : arg21.IsWhole) (arg22 : Memref sig .tc .vmem S1x512x512 .f32) (harg22 : arg22.IsWhole) (arg23 : Memref sig .tc .vmem S512x1024 .bf16) (harg23 : arg23.IsWhole) (arg24 : Memref sig .tc .vmem S544x512 .f32) (harg24 : arg24.IsWhole) (arg25 : Memref sig .tc .vmem S512x512 .bf16) (harg25 : arg25.IsWhole) (arg26 : Memref sig .tc .vmem S7x544x512 .f32) (harg26 : arg26.IsWhole) (arg27 : Memref sig .tc .vmem S512x512 .f32) (harg27 : arg27.IsWhole)
  (hc0 : ¬cond0_0 i) (x0 : Vec Ideal S1x512x1024 .f32) (x1 : Vec Ideal S1x1x1x3072 .f32) (x2 : Vec Ideal S1x1x1024 .f32) (x3 : Vec Ideal S1x1024x2560 .bf16) (x4 : Vec Ideal S1x31x512 .f32) (x5 : Vec Ideal S1x1x512 .f32) (x6 : Vec Ideal S1x1x512 .f32) (x7 : Vec Ideal S1x1x512 .f32) (x8 : Vec Ideal S1x512x512 .bf16) (x9 : Vec Ideal S1x1x256 .f32) (x10 : Vec Ideal S1x256x1024 .bf16) (x11 : Vec Ideal S1x256x512 .bf16) (x12 : Vec Ideal S1x1x128 .f32) (xs1 : Vec Ideal S544x512 .f32)

theorem pieces13 : ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).1,
    ∀ x : p.1.shape.Idx, p.2 x = (bO x0 x1 x2 x3 x4 x5 x6 x7 x8 (B x0 x1 x2 x3 xs1) : Fin 512 → Fin 512 → EReal) (p.1.emb x 1) (p.1.emb x 2) := by
  unfold kernelRun0_B
  dsimp only
  simp only [List.forall_mem_cons]
  refine ⟨block_piece (Val := Elt Ideal) (e := .bf16) (bO x0 x1 x2 x3 x4 x5 x6 x7 x8 (B x0 x1 x2 x3 xs1)) _ _ fun r d hr hd => ?_, block_piece (Val := Elt Ideal) (e := .bf16) (bO x0 x1 x2 x3 x4 x5 x6 x7 x8 (B x0 x1 x2 x3 xs1)) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bO, dot, y_lo, y_hi, g_lo, g_hi]

theorem out13 (r : Fin 512) (d : Fin 512) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d) = (bO x0 x1 x2 x3 x4 x5 x6 x7 x8 (B x0 x1 x2 x3 xs1) : Fin 512 → Fin 512 → EReal) r d := by
  have h := read_pieces (Val := Elt Ideal) (e := .bf16) VO0_13 VO0_13.junk (fun y => (bO x0 x1 x2 x3 x4 x5 x6 x7 x8 (B x0 x1 x2 x3 xs1) : Fin 512 → Fin 512 → EReal) (y 1) (y 2)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).1 (pieces13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1) (ix3 0 r d) (.inl (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d)))
  exact h

theorem pieces14 : ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.1,
    ∀ x : p.1.shape.Idx, p.2 x = (fun e n => bQ x0 x1 x2 x3 x9 x10 n e * qScale : Fin 1024 → Fin 512 → EReal) (p.1.emb x 1) (p.1.emb x 2) := by
  unfold kernelRun0_B
  dsimp only
  simp only [List.forall_mem_cons]
  refine ⟨block_piece (Val := Elt Ideal) (e := .bf16) (fun e n => bQ x0 x1 x2 x3 x9 x10 n e * qScale) _ _ fun r d hr hd => ?_, block_piece (Val := Elt Ideal) (e := .bf16) (fun e n => bQ x0 x1 x2 x3 x9 x10 n e * qScale) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bQ, bCq, rms, bP, dot, hl_lo, hl_hi]

theorem out14 (r : Fin 1024) (d : Fin 512) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d) = (fun e n => bQ x0 x1 x2 x3 x9 x10 n e * qScale : Fin 1024 → Fin 512 → EReal) r d := by
  have h := read_pieces (Val := Elt Ideal) (e := .bf16) VO0_14 VO0_14.junk (fun y => (fun e n => bQ x0 x1 x2 x3 x9 x10 n e * qScale : Fin 1024 → Fin 512 → EReal) (y 1) (y 2)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.1 (pieces14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1) (ix3 0 r d) (.inl (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d)))
  exact h

theorem pieces15 : ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.1,
    ∀ x : p.1.shape.Idx, p.2 x = (fun e n => bQi x0 x1 x2 x3 x9 x11 n e : Fin 512 → Fin 512 → EReal) (p.1.emb x 1) (p.1.emb x 2) := by
  unfold kernelRun0_B
  dsimp only
  simp only [List.forall_mem_cons]
  refine ⟨block_piece (Val := Elt Ideal) (e := .bf16) (fun e n => bQi x0 x1 x2 x3 x9 x11 n e) _ _ fun r d hr hd => ?_, block_piece (Val := Elt Ideal) (e := .bf16) (fun e n => bQi x0 x1 x2 x3 x9 x11 n e) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bQi, bCq, rms, bP, dot, hl_lo, hl_hi]

theorem out15 (r : Fin 512) (d : Fin 512) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d) = (fun e n => bQi x0 x1 x2 x3 x9 x11 n e : Fin 512 → Fin 512 → EReal) r d := by
  have h := read_pieces (Val := Elt Ideal) (e := .bf16) VO0_15 VO0_15.junk (fun y => (fun e n => bQi x0 x1 x2 x3 x9 x11 n e : Fin 512 → Fin 512 → EReal) (y 1) (y 2)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.1 (pieces15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1) (ix3 0 r d) (.inl (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d)))
  exact h

theorem pieces16 : ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.1,
    ∀ x : p.1.shape.Idx, p.2 x = (bKv x0 x1 x2 x3 x12 : Fin 512 → Fin 128 → EReal) (p.1.emb x 1) (p.1.emb x 2) := by
  unfold kernelRun0_B
  dsimp only
  simp only [List.forall_mem_cons]
  refine ⟨block_piece (Val := Elt Ideal) (e := .bf16) (bKv x0 x1 x2 x3 x12) _ _ fun r d hr hd => ?_, block_piece (Val := Elt Ideal) (e := .bf16) (bKv x0 x1 x2 x3 x12) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bKv, rms, bP, dot, hl_lo, hl_hi]

theorem out16 (r : Fin 512) (d : Fin 128) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d) = (bKv x0 x1 x2 x3 x12 : Fin 512 → Fin 128 → EReal) r d := by
  have h := read_pieces (Val := Elt Ideal) (e := .bf16) VO0_16 VO0_16.junk (fun y => (bKv x0 x1 x2 x3 x12 : Fin 512 → Fin 128 → EReal) (y 1) (y 2)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.1 (pieces16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1) (ix3 0 r d) (.inl (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d)))
  exact h

theorem pieces17 : ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.2.1,
    ∀ x : p.1.shape.Idx, p.2 x = (fun e n => bKv x0 x1 x2 x3 x12 n e : Fin 128 → Fin 512 → EReal) (p.1.emb x 1) (p.1.emb x 2) := by
  unfold kernelRun0_B
  dsimp only
  simp only [List.forall_mem_cons]
  refine ⟨block_piece (Val := Elt Ideal) (e := .bf16) (fun e n => bKv x0 x1 x2 x3 x12 n e) _ _ fun r d hr hd => ?_, block_piece (Val := Elt Ideal) (e := .bf16) (fun e n => bKv x0 x1 x2 x3 x12 n e) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bKv, rms, bP, dot, hl_lo, hl_hi]

theorem out17 (r : Fin 128) (d : Fin 512) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d) = (fun e n => bKv x0 x1 x2 x3 x12 n e : Fin 128 → Fin 512 → EReal) r d := by
  have h := read_pieces (Val := Elt Ideal) (e := .bf16) VO0_17 VO0_17.junk (fun y => (fun e n => bKv x0 x1 x2 x3 x12 n e : Fin 128 → Fin 512 → EReal) (y 1) (y 2)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.2.1 (pieces17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1) (ix3 0 r d) (.inl (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d)))
  exact h

theorem pieces18 : ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.2.2.1,
    ∀ x : p.1.shape.Idx, p.2 x = (bKi x0 x1 x2 x3 : Fin 512 → Fin 64 → EReal) (p.1.emb x 1) (p.1.emb x 2) := by
  unfold kernelRun0_B
  dsimp only
  simp only [List.forall_mem_cons]
  refine ⟨block_piece (Val := Elt Ideal) (e := .bf16) (bKi x0 x1 x2 x3) _ _ fun r d hr hd => ?_, block_piece (Val := Elt Ideal) (e := .bf16) (bKi x0 x1 x2 x3) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bKi, bP, dot, hl_lo, hl_hi]

theorem out18 (r : Fin 512) (d : Fin 64) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d) = (bKi x0 x1 x2 x3 : Fin 512 → Fin 64 → EReal) r d := by
  have h := read_pieces (Val := Elt Ideal) (e := .bf16) VO0_18 VO0_18.junk (fun y => (bKi x0 x1 x2 x3 : Fin 512 → Fin 64 → EReal) (y 1) (y 2)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.2.2.1 (pieces18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1) (ix3 0 r d) (.inl (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d)))
  exact h

theorem pieces19 : ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.2.2.2.1,
    ∀ x : p.1.shape.Idx, p.2 x = (fun e n => bWt x0 x1 x2 x3 n e : Fin 8 → Fin 512 → EReal) (p.1.emb x 1) (p.1.emb x 2) := by
  unfold kernelRun0_B
  dsimp only
  simp only [List.forall_mem_cons]
  refine ⟨block_piece (Val := Elt Ideal) (e := .f32) (fun e n => bWt x0 x1 x2 x3 n e) _ _ fun r d hr hd => ?_, block_piece (Val := Elt Ideal) (e := .f32) (fun e n => bWt x0 x1 x2 x3 n e) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bWt, bP, dot, hl_lo, hl_hi]

theorem out19 (r : Fin 8) (d : Fin 512) :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d) = (fun e n => bWt x0 x1 x2 x3 n e : Fin 8 → Fin 512 → EReal) r d := by
  have h := read_pieces (Val := Elt Ideal) (e := .f32) VO0_19 VO0_19.junk (fun y => (fun e n => bWt x0 x1 x2 x3 n e : Fin 8 → Fin 512 → EReal) (y 1) (y 2)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.2.2.2.1 (pieces19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1) (ix3 0 r d) (.inl (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d)))
  exact h

theorem pieces20 : ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.2.2.2.2.1,
    ∀ x : p.1.shape.Idx, p.2 x = (bGa x0 x1 x2 x3 : Fin 512 → Fin 512 → EReal) (p.1.emb x 1) (p.1.emb x 2) := by
  unfold kernelRun0_B
  dsimp only
  simp only [List.forall_mem_cons]
  refine ⟨block_piece (Val := Elt Ideal) (e := .f32) (bGa x0 x1 x2 x3) _ _ fun r d hr hd => ?_, block_piece (Val := Elt Ideal) (e := .f32) (bGa x0 x1 x2 x3) _ _ fun r d hr hd => ?_, by simp⟩
  all_goals
    sl_unfold_run_values
    unfold_payloads
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
    pointwise [bGa, silu, bP, dot, hl_lo, hl_hi]

theorem out20 (r : Fin 512) (d : Fin 512) :
    out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d) = (bGa x0 x1 x2 x3 : Fin 512 → Fin 512 → EReal) r d := by
  have h := read_pieces (Val := Elt Ideal) (e := .f32) VO0_20 VO0_20.junk (fun y => (bGa x0 x1 x2 x3 : Fin 512 → Fin 512 → EReal) (y 1) (y 2)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1).2.2.2.2.2.2.2.1 (pieces20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1) (ix3 0 r d) (.inl (cover0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix3 0 r d)))
  exact h

/-- What the point leaves for the next one: the last 32 rows of its buffer, in front. -/
theorem carry (n : ℕ) (hn : n < 32) (d : Fin 512) (m : Fin 544) (hm : m.val = n) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs1 (ix2 m d) = B x0 x1 x2 x3 xs1 (512 + n) d := by
  unfold sout0_B_1 kernelRun0_B
  dsimp only
  refine (read_head _ _ _ _ _ (⟨n, hn⟩ : Fin 32) d m (hm.trans (Nat.zero_add _).symm)).trans ?_
  sl_unfold_run_values
  unfold_payloads
  pointwise []
  rw [load2c (xs1 := xs1)]
  omega

end Cert.KernelIdeal.BlockB

end
-- ==== Proof.Arrays.lean ====
/-
  The result arrays of the projection call, entry by entry, as functions of the argument arrays.
-/
module

public import proofs.«01_k».proof.Proof.Blocks
public import proofs.«01_k».proof.Proof.Spec
public import proofs.«01_k».proof.Proof.OutA
public import proofs.«01_k».proof.Proof.OutB

@[expose] public section

set_option maxRecDepth 16384

noncomputable section

open Idealize.ShloMosaic Idealize.ShloMosaic.TcCoe Idealize.SL.Sem

namespace Cert.KernelIdeal.Arrays
open Cert.KernelIdeal Cert.KernelIdeal.Gen Cert.KernelIdeal.Value Cert.Rows Cert.KernelIdeal.Rows Cert.KernelIdeal.Blocks

variable (m : (ℓ : Loc nD τ sig) → Buf (Elt Ideal) ℓ) (c : Dev nD)

/-! ## The argument arrays, as the first layer reads them -/

abbrev aX (b : Fin 16) (T : Fin 2048) (d : Fin 1024) : EReal := m ((c : Thread nD τ).loc main_arg0) (ix3 b T d)
abbrev aM (b : Fin 16) (d : Fin 3072) : EReal := m ((c : Thread nD τ).loc main_arg1) (ix3 0 b d)
abbrev aG (d : Fin 1024) : EReal := m ((c : Thread nD τ).loc main_arg2) (ix2 0 d)
abbrev aW (k : Fin 1024) (j : Fin 2504) : EReal := m ((c : Thread nD τ).loc main_arg3) (ix3 0 k j)
abbrev aCw (k : Fin 31) (d : Fin 512) : EReal := m ((c : Thread nD τ).loc main_arg4) (ix3 0 k d)
abbrev aCb (d : Fin 512) : EReal := m ((c : Thread nD τ).loc main_arg5) (ix2 0 d)
abbrev aLg (d : Fin 512) : EReal := m ((c : Thread nD τ).loc main_arg6) (ix2 0 d)
abbrev aLb (d : Fin 512) : EReal := m ((c : Thread nD τ).loc main_arg7) (ix2 0 d)
abbrev aW2 (k d : Fin 512) : EReal := m ((c : Thread nD τ).loc main_arg8) (ix3 0 k d)
abbrev aQg (d : Fin 256) : EReal := m ((c : Thread nD τ).loc main_arg9) (ix2 0 d)
abbrev aWq (k : Fin 256) (d : Fin 1024) : EReal := m ((c : Thread nD τ).loc main_arg10) (ix3 0 k d)
abbrev aWi (k : Fin 256) (d : Fin 512) : EReal := m ((c : Thread nD τ).loc main_arg11) (ix3 0 k d)
abbrev aKg (d : Fin 128) : EReal := m ((c : Thread nD τ).loc main_arg12) (ix2 0 d)

/-! ## One grid point's blocks, at its sequence and places -/

variable (t : Fin cfg0.N)

/-- The sequence of the point, and the place of the block's row `n`. -/
abbrev sq : Fin 16 := ⟨t.val / 4, by have := t_lt t; omega⟩
abbrev at' (n : Fin 512) : Fin 2048 := ⟨512 * (t.val % 4) + n.val, by have := n.isLt; omega⟩

theorem pH (n : Fin 512) : bH (iblk m c 0 t) (iblk m c 1 t) (iblk m c 2 t) n = gH (aX m c) (aM m c) (aG m c) (sq t) (at' t n) := by
  unfold bH gH
  simp only [b0, b1, b2]

theorem pP (n : Fin 512) (j : Fin 2560) (hj : j.val < 1992) : bP (iblk m c 0 t) (iblk m c 1 t) (iblk m c 2 t) (iblk m c 3 t) n j
    = gP (aX m c) (aM m c) (aG m c) (aW m c) (sq t) (at' t n) ⟨j.val, by omega⟩ := by
  unfold bP gP
  rw [pH]
  simp only [b3 m c t _ j hj]

theorem pP' (n : Fin 512) (j : Fin 2560) (hj : 2048 ≤ j.val) : bP (iblk m c 0 t) (iblk m c 1 t) (iblk m c 2 t) (iblk m c 3 t) n j
    = gP (aX m c) (aM m c) (aG m c) (aW m c) (sq t) (at' t n) ⟨j.val - 56, by omega⟩ := by
  unfold bP gP
  rw [pH]
  simp only [b3' m c t _ j hj]

theorem pA (n : ℕ) (hn : n < 512) (d : Fin 512) : bA (iblk m c 0 t) (iblk m c 1 t) (iblk m c 2 t) (iblk m c 3 t) n d
    = gA (aX m c) (aM m c) (aG m c) (aW m c) (sq t) (512 * (t.val % 4) + n) d := by
  unfold bA gA
  rw [dif_pos hn, dif_pos (by omega), pP _ _ _ _ _ (by show d.val < 1992; omega), pP _ _ _ _ _ (by show 512 + d.val < 1992; omega)]

theorem pCq (n : Fin 512) : bCq (iblk m c 0 t) (iblk m c 1 t) (iblk m c 2 t) (iblk m c 3 t) (iblk m c 9 t) n
    = gCq (aX m c) (aM m c) (aG m c) (aW m c) (aQg m c) (sq t) (at' t n) := by
  have h : ∀ d : Fin 256, bP (iblk m c 0 t) (iblk m c 1 t) (iblk m c 2 t) (iblk m c 3 t) n ⟨1536 + d.val, by omega⟩
      = gP (aX m c) (aM m c) (aG m c) (aW m c) (sq t) (at' t n) ⟨1536 + d.val, by omega⟩ :=
    fun d => pP m c t n ⟨1536 + d.val, by omega⟩ (by show 1536 + d.val < 1992; omega)
  unfold bCq gCq
  simp only [h, b9]

theorem pQ (n : Fin 512) (e : Fin 1024) : bQ (iblk m c 0 t) (iblk m c 1 t) (iblk m c 2 t) (iblk m c 3 t) (iblk m c 9 t) (iblk m c 10 t) n e * qScale
    = gQ (aX m c) (aM m c) (aG m c) (aW m c) (aQg m c) (aWq m c) (sq t) (at' t n) e := by
  unfold bQ gQ
  rw [pCq]
  simp only [b10]

theorem pQi (n : Fin 512) (e : Fin 512) : bQi (iblk m c 0 t) (iblk m c 1 t) (iblk m c 2 t) (iblk m c 3 t) (iblk m c 9 t) (iblk m c 11 t) n e
    = gQi (aX m c) (aM m c) (aG m c) (aW m c) (aQg m c) (aWi m c) (sq t) (at' t n) e := by
  unfold bQi gQi
  rw [pCq]
  simp only [b11]

theorem pKv (n : Fin 512) : bKv (iblk m c 0 t) (iblk m c 1 t) (iblk m c 2 t) (iblk m c 3 t) (iblk m c 12 t) n
    = gKv (aX m c) (aM m c) (aG m c) (aW m c) (aKg m c) (sq t) (at' t n) := by
  have h : ∀ d : Fin 128, bP (iblk m c 0 t) (iblk m c 1 t) (iblk m c 2 t) (iblk m c 3 t) n ⟨1792 + d.val, by omega⟩
      = gP (aX m c) (aM m c) (aG m c) (aW m c) (sq t) (at' t n) ⟨1792 + d.val, by omega⟩ :=
    fun d => pP m c t n ⟨1792 + d.val, by omega⟩ (by show 1792 + d.val < 1992; omega)
  unfold bKv gKv
  simp only [h, b12]

theorem pKi (n : Fin 512) (e : Fin 64) : bKi (iblk m c 0 t) (iblk m c 1 t) (iblk m c 2 t) (iblk m c 3 t) n e
    = gKi (aX m c) (aM m c) (aG m c) (aW m c) (sq t) (at' t n) e := by
  unfold bKi gKi
  rw [pP _ _ _ _ _ (by show 1920 + e.val < 1992; omega)]

theorem pWt (n : Fin 512) (e : Fin 8) : bWt (iblk m c 0 t) (iblk m c 1 t) (iblk m c 2 t) (iblk m c 3 t) n e
    = gWt (aX m c) (aM m c) (aG m c) (aW m c) (sq t) (at' t n) e := by
  unfold bWt gWt
  rw [pP _ _ _ _ _ (by show 1920 + (64 + e.val) < 1992; omega)]
  congr 2
  exact Fin.ext (by show 1920 + (64 + e.val) = 1984 + e.val; omega)

theorem pGa (n : Fin 512) (e : Fin 512) : bGa (iblk m c 0 t) (iblk m c 1 t) (iblk m c 2 t) (iblk m c 3 t) n e
    = gGa (aX m c) (aM m c) (aG m c) (aW m c) (sq t) (at' t n) e := by
  unfold bGa gGa
  rw [pP' _ _ _ _ _ (by show 2048 ≤ 2048 + e.val; omega)]
  congr 2
  exact Fin.ext (by show 2048 + e.val - 56 = 1992 + e.val; omega)

/-! ## The convolution's buffer -/

/-- What a buffer must hold at this point for the branch's output to be the reference's. -/
def Good (B : ℕ → Fin 512 → EReal) : Prop := ∀ n d, n < 542 →
  B (n + 2) d = gPad (aX m c) (aM m c) (aG m c) (aW m c) (sq t) (512 * (t.val % 4) + n) d

theorem pO (B : ℕ → Fin 512 → EReal) (hB : Good m c t B) (n : Fin 512) (d : Fin 512) :
    bO (iblk m c 0 t) (iblk m c 1 t) (iblk m c 2 t) (iblk m c 3 t) (iblk m c 4 t) (iblk m c 5 t) (iblk m c 6 t) (iblk m c 7 t) (iblk m c 8 t) B n d
    = gO (aX m c) (aM m c) (aG m c) (aW m c) (aCw m c) (aCb m c) (aLg m c) (aLb m c) (aW2 m c) (sq t) (at' t n) d := by
  have hC : bC (iblk m c 4 t) (iblk m c 5 t) B n.val
      = gC (aX m c) (aM m c) (aG m c) (aW m c) (aCw m c) (aCb m c) (sq t) (at' t n).val := by
    funext e
    unfold bC gC
    refine conv_congr (b5 m c t e) 31 (fun k hk => ?_) (fun k hk => ?_)
    · rw [dif_pos hk, dif_pos hk, b4]
    · rw [show n.val + 2 + k = n.val + k + 2 by omega, hB _ _ (by omega),
        show 512 * (t.val % 4) + (n.val + k) = 512 * (t.val % 4) + n.val + k by omega]
  have hY : bY (iblk m c 4 t) (iblk m c 5 t) (iblk m c 6 t) (iblk m c 7 t) B n.val
      = gY (aX m c) (aM m c) (aG m c) (aW m c) (aCw m c) (aCb m c) (aLg m c) (aLb m c) (sq t) (at' t n).val := by
    funext e
    unfold bY gY
    rw [hC]
    simp only [b6, b7]
  unfold bO gO
  rw [hY]
  simp only [b8]
  unfold bG
  rw [dif_pos n.isLt, pP _ _ _ _ _ (by show 1024 + d.val < 1992; omega)]

/-- A buffer whose halo holds the last rows before the block (zeros before a sequence's first block) is good. -/
theorem good_buf (halo : ℕ → Fin 512 → EReal)
    (h : ∀ n d, n < 30 → halo (n + 2) d = gPad (aX m c) (aM m c) (aG m c) (aW m c) (sq t) (512 * (t.val % 4) + n) d) :
    Good m c t (buf (iblk m c 0 t) (iblk m c 1 t) (iblk m c 2 t) (iblk m c 3 t) halo) := by
  intro n d hn
  unfold buf
  by_cases h30 : n < 30
  · rw [if_pos (by omega), h n d h30]
  · rw [if_neg (by omega), pA _ _ _ _ (by omega)]
    unfold gPad
    rw [if_neg (by omega)]
    congr 1
    omega

/-- The rows a point leaves for the next: the last 32 of its own. -/
theorem carried (n : ℕ) (hn : n < 32) (d : Fin 512) :
    (outsAt0 m c t.val t.isLt).2.2.2.2.2.2.2.2 (ix2 ⟨n, by omega⟩ d)
      = gA (aX m c) (aM m c) (aG m c) (aW m c) (sq t) (512 * (t.val % 4) + (480 + n)) d := by
  rw [← pA m c t (480 + n) (by omega) d]
  have key : ∀ halo, buf (iblk m c 0 t) (iblk m c 1 t) (iblk m c 2 t) (iblk m c 3 t) halo (512 + n) d
      = bA (iblk m c 0 t) (iblk m c 1 t) (iblk m c 2 t) (iblk m c 3 t) (480 + n) d := by
    intro halo
    unfold buf
    rw [if_neg (by omega), show 512 + n - 32 = 480 + n by omega]
  by_cases h0 : t.val % 4 = 0
  · rw [outsAt0_A m c t h0]
    dsimp only
    rw [BlockA.carry (n := n) (hn := hn) (d := d) (hm := rfl)]
    exact key _
  · rw [outsAt0_B m c t h0]
    dsimp only
    rw [BlockB.carry (n := n) (hn := hn) (d := d) (hm := rfl)]
    exact key _

/-! ## What each point writes -/

theorem w13 (r : Fin 512) (d : Fin 512) : (outsAt0 m c t.val t.isLt).1 (ix3 0 r d)
    = gO (aX m c) (aM m c) (aG m c) (aW m c) (aCw m c) (aCb m c) (aLg m c) (aLb m c) (aW2 m c) (sq t) (at' t r) d := by
  by_cases h0 : t.val % 4 = 0
  · rw [outsAt0_A m c t h0]
    dsimp only
    rw [BlockA.out13]
    refine (pO m c t _ (good_buf m c t _ fun n d hn => ?_) r d)
    unfold gPad
    rw [if_pos (by omega)]
  · rw [outsAt0_B m c t h0]
    dsimp only
    rw [BlockB.out13]
    refine (pO m c t _ (good_buf m c t _ fun n d hn => ?_) r d)
    unfold gPad BlockB.halo
    have ht := t_lt t
    have hp : t.val - 1 < cfg0.N := by have := t.isLt; omega
    rw [if_neg (by omega), dif_pos (by omega)]
    refine (carried m c ⟨t.val - 1, hp⟩ (n + 2) (by omega) d).trans ?_
    have e1 : sq ⟨t.val - 1, hp⟩ = sq t := Fin.ext (by show (t.val - 1) / 4 = t.val / 4; omega)
    rw [e1]
    congr 1
    show 512 * ((t.val - 1) % 4) + (480 + (n + 2)) = 512 * (t.val % 4) + n - 30
    omega

theorem w14 (r : Fin 1024) (d : Fin 512) : (outsAt0 m c t.val t.isLt).2.1 (ix3 0 r d)
    = gQ (aX m c) (aM m c) (aG m c) (aW m c) (aQg m c) (aWq m c) (sq t) (at' t d) r := by
  by_cases h0 : t.val % 4 = 0
  · rw [outsAt0_A m c t h0]
    dsimp only
    rw [BlockA.out14]
    exact pQ m c t d r
  · rw [outsAt0_B m c t h0]
    dsimp only
    rw [BlockB.out14]
    exact pQ m c t d r

theorem w15 (r : Fin 512) (d : Fin 512) : (outsAt0 m c t.val t.isLt).2.2.1 (ix3 0 r d)
    = gQi (aX m c) (aM m c) (aG m c) (aW m c) (aQg m c) (aWi m c) (sq t) (at' t d) r := by
  by_cases h0 : t.val % 4 = 0
  · rw [outsAt0_A m c t h0]
    dsimp only
    rw [BlockA.out15]
    exact pQi m c t d r
  · rw [outsAt0_B m c t h0]
    dsimp only
    rw [BlockB.out15]
    exact pQi m c t d r

theorem w16 (r : Fin 512) (d : Fin 128) : (outsAt0 m c t.val t.isLt).2.2.2.1 (ix3 0 r d)
    = gKv (aX m c) (aM m c) (aG m c) (aW m c) (aKg m c) (sq t) (at' t r) d := by
  by_cases h0 : t.val % 4 = 0
  · rw [outsAt0_A m c t h0]
    dsimp only
    rw [BlockA.out16]
    exact congrFun (pKv m c t r) d
  · rw [outsAt0_B m c t h0]
    dsimp only
    rw [BlockB.out16]
    exact congrFun (pKv m c t r) d

theorem w17 (r : Fin 128) (d : Fin 512) : (outsAt0 m c t.val t.isLt).2.2.2.2.1 (ix3 0 r d)
    = gKv (aX m c) (aM m c) (aG m c) (aW m c) (aKg m c) (sq t) (at' t d) r := by
  by_cases h0 : t.val % 4 = 0
  · rw [outsAt0_A m c t h0]
    dsimp only
    rw [BlockA.out17]
    exact congrFun (pKv m c t d) r
  · rw [outsAt0_B m c t h0]
    dsimp only
    rw [BlockB.out17]
    exact congrFun (pKv m c t d) r

theorem w18 (r : Fin 512) (d : Fin 64) : (outsAt0 m c t.val t.isLt).2.2.2.2.2.1 (ix3 0 r d)
    = gKi (aX m c) (aM m c) (aG m c) (aW m c)  (sq t) (at' t r) d := by
  by_cases h0 : t.val % 4 = 0
  · rw [outsAt0_A m c t h0]
    dsimp only
    rw [BlockA.out18]
    exact pKi m c t r d
  · rw [outsAt0_B m c t h0]
    dsimp only
    rw [BlockB.out18]
    exact pKi m c t r d

theorem w19 (r : Fin 8) (d : Fin 512) : (outsAt0 m c t.val t.isLt).2.2.2.2.2.2.1 (ix3 0 r d)
    = gWt (aX m c) (aM m c) (aG m c) (aW m c)  (sq t) (at' t d) r := by
  by_cases h0 : t.val % 4 = 0
  · rw [outsAt0_A m c t h0]
    dsimp only
    rw [BlockA.out19]
    exact pWt m c t d r
  · rw [outsAt0_B m c t h0]
    dsimp only
    rw [BlockB.out19]
    exact pWt m c t d r

theorem w20 (r : Fin 512) (d : Fin 512) : (outsAt0 m c t.val t.isLt).2.2.2.2.2.2.2.1 (ix3 0 r d)
    = gGa (aX m c) (aM m c) (aG m c) (aW m c)  (sq t) (at' t r) d := by
  by_cases h0 : t.val % 4 = 0
  · rw [outsAt0_A m c t h0]
    dsimp only
    rw [BlockA.out20]
    exact pGa m c t r d
  · rw [outsAt0_B m c t h0]
    dsimp only
    rw [BlockB.out20]
    exact pGa m c t r d

/-! ## The arrays -/

/-- The point that writes place `T` of sequence `b`, and the row of its block. -/
abbrev pt (b : Fin 16) (T : Fin 2048) : Fin cfg0.N := ⟨4 * b.val + T.val / 512, lt_of_lt_of_eq (by omega) N_0.symm⟩
abbrev rw' (T : Fin 2048) : Fin 512 := ⟨T.val % 512, by omega⟩

theorem sq_pt (b : Fin 16) (T : Fin 2048) : sq (pt b T) = b := Fin.ext (by show (4 * b.val + T.val / 512) / 4 = b.val; omega)
theorem at_pt (b : Fin 16) (T : Fin 2048) : at' (pt b T) (rw' T) = T :=
  Fin.ext (by show 512 * ((4 * b.val + T.val / 512) % 4) + T.val % 512 = T.val; omega)

theorem G13_at (b : Fin 16) (T : Fin 2048) (d : Fin 512) : G13 m c (ix3 b T d) = gO (aX m c) (aM m c) (aG m c) (aW m c) (aCw m c) (aCb m c) (aLg m c) (aLb m c) (aW2 m c) b T d := by
  have h := w13 m c (pt b T) (rw' T) d
  rw [sq_pt, at_pt, outsAt0_sweep] at h
  rw [← h]
  have hp : pt13Of (ix3 b T d) = (pt b T).val := by
    show _ = 4 * b.val + T.val / 512
    have := b.isLt; have := T.isLt; have := d.isLt
    simp [pt13Of, run13Of]
  have hl : loc13Of (ix3 b T d) = (ix3 0 (rw' T) d) := by
    funext a
    apply Fin.ext
    match a with
    | ⟨0, _⟩ => show b.val % 1 = 0; omega
    | ⟨1, _⟩ => show T.val % 512 = T.val % 512; rfl
    | ⟨2, _⟩ => show d.val % 512 = d.val; exact Nat.mod_eq_of_lt d.isLt
  unfold G13
  rw [dif_pos (by rw [hp]; exact (pt b T).isLt), hl]
  simp only [hp]

theorem G14_at (b : Fin 16) (T : Fin 2048) (d : Fin 1024) : G14 m c (ix3 b d T) = gQ (aX m c) (aM m c) (aG m c) (aW m c) (aQg m c) (aWq m c) b T d := by
  have h := w14 m c (pt b T) d (rw' T)
  rw [sq_pt, at_pt, outsAt0_sweep] at h
  rw [← h]
  have hp : pt14Of (ix3 b d T) = (pt b T).val := by
    show _ = 4 * b.val + T.val / 512
    have := b.isLt; have := T.isLt; have := d.isLt
    simp [pt14Of, run14Of]
  have hl : loc14Of (ix3 b d T) = (ix3 0 d (rw' T)) := by
    funext a
    apply Fin.ext
    match a with
    | ⟨0, _⟩ => show b.val % 1 = 0; omega
    | ⟨1, _⟩ => show d.val % 1024 = d.val; exact Nat.mod_eq_of_lt d.isLt
    | ⟨2, _⟩ => show T.val % 512 = T.val % 512; rfl
  unfold G14
  rw [dif_pos (by rw [hp]; exact (pt b T).isLt), hl]
  simp only [hp]

theorem G15_at (b : Fin 16) (T : Fin 2048) (d : Fin 512) : G15 m c (ix3 b d T) = gQi (aX m c) (aM m c) (aG m c) (aW m c) (aQg m c) (aWi m c) b T d := by
  have h := w15 m c (pt b T) d (rw' T)
  rw [sq_pt, at_pt, outsAt0_sweep] at h
  rw [← h]
  have hp : pt15Of (ix3 b d T) = (pt b T).val := by
    show _ = 4 * b.val + T.val / 512
    have := b.isLt; have := T.isLt; have := d.isLt
    simp [pt15Of, run15Of]
  have hl : loc15Of (ix3 b d T) = (ix3 0 d (rw' T)) := by
    funext a
    apply Fin.ext
    match a with
    | ⟨0, _⟩ => show b.val % 1 = 0; omega
    | ⟨1, _⟩ => show d.val % 512 = d.val; exact Nat.mod_eq_of_lt d.isLt
    | ⟨2, _⟩ => show T.val % 512 = T.val % 512; rfl
  unfold G15
  rw [dif_pos (by rw [hp]; exact (pt b T).isLt), hl]
  simp only [hp]

theorem G16_at (b : Fin 16) (T : Fin 2048) (d : Fin 128) : G16 m c (ix3 b T d) = gKv (aX m c) (aM m c) (aG m c) (aW m c) (aKg m c) b T d := by
  have h := w16 m c (pt b T) (rw' T) d
  rw [sq_pt, at_pt, outsAt0_sweep] at h
  rw [← h]
  have hp : pt16Of (ix3 b T d) = (pt b T).val := by
    show _ = 4 * b.val + T.val / 512
    have := b.isLt; have := T.isLt; have := d.isLt
    simp [pt16Of, run16Of]
  have hl : loc16Of (ix3 b T d) = (ix3 0 (rw' T) d) := by
    funext a
    apply Fin.ext
    match a with
    | ⟨0, _⟩ => show b.val % 1 = 0; omega
    | ⟨1, _⟩ => show T.val % 512 = T.val % 512; rfl
    | ⟨2, _⟩ => show d.val % 128 = d.val; exact Nat.mod_eq_of_lt d.isLt
  unfold G16
  rw [dif_pos (by rw [hp]; exact (pt b T).isLt), hl]
  simp only [hp]

theorem G17_at (b : Fin 16) (T : Fin 2048) (d : Fin 128) : G17 m c (ix3 b d T) = gKv (aX m c) (aM m c) (aG m c) (aW m c) (aKg m c) b T d := by
  have h := w17 m c (pt b T) d (rw' T)
  rw [sq_pt, at_pt, outsAt0_sweep] at h
  rw [← h]
  have hp : pt17Of (ix3 b d T) = (pt b T).val := by
    show _ = 4 * b.val + T.val / 512
    have := b.isLt; have := T.isLt; have := d.isLt
    simp [pt17Of, run17Of]
  have hl : loc17Of (ix3 b d T) = (ix3 0 d (rw' T)) := by
    funext a
    apply Fin.ext
    match a with
    | ⟨0, _⟩ => show b.val % 1 = 0; omega
    | ⟨1, _⟩ => show d.val % 128 = d.val; exact Nat.mod_eq_of_lt d.isLt
    | ⟨2, _⟩ => show T.val % 512 = T.val % 512; rfl
  unfold G17
  rw [dif_pos (by rw [hp]; exact (pt b T).isLt), hl]
  simp only [hp]

theorem G18_at (b : Fin 16) (T : Fin 2048) (d : Fin 64) : G18 m c (ix3 b T d) = gKi (aX m c) (aM m c) (aG m c) (aW m c)  b T d := by
  have h := w18 m c (pt b T) (rw' T) d
  rw [sq_pt, at_pt, outsAt0_sweep] at h
  rw [← h]
  have hp : pt18Of (ix3 b T d) = (pt b T).val := by
    show _ = 4 * b.val + T.val / 512
    have := b.isLt; have := T.isLt; have := d.isLt
    simp [pt18Of, run18Of]
  have hl : loc18Of (ix3 b T d) = (ix3 0 (rw' T) d) := by
    funext a
    apply Fin.ext
    match a with
    | ⟨0, _⟩ => show b.val % 1 = 0; omega
    | ⟨1, _⟩ => show T.val % 512 = T.val % 512; rfl
    | ⟨2, _⟩ => show d.val % 64 = d.val; exact Nat.mod_eq_of_lt d.isLt
  unfold G18
  rw [dif_pos (by rw [hp]; exact (pt b T).isLt), hl]
  simp only [hp]

theorem G19_at (b : Fin 16) (T : Fin 2048) (d : Fin 8) : G19 m c (ix3 b d T) = gWt (aX m c) (aM m c) (aG m c) (aW m c)  b T d := by
  have h := w19 m c (pt b T) d (rw' T)
  rw [sq_pt, at_pt, outsAt0_sweep] at h
  rw [← h]
  have hp : pt19Of (ix3 b d T) = (pt b T).val := by
    show _ = 4 * b.val + T.val / 512
    have := b.isLt; have := T.isLt; have := d.isLt
    simp [pt19Of, run19Of]
  have hl : loc19Of (ix3 b d T) = (ix3 0 d (rw' T)) := by
    funext a
    apply Fin.ext
    match a with
    | ⟨0, _⟩ => show b.val % 1 = 0; omega
    | ⟨1, _⟩ => show d.val % 8 = d.val; exact Nat.mod_eq_of_lt d.isLt
    | ⟨2, _⟩ => show T.val % 512 = T.val % 512; rfl
  unfold G19
  rw [dif_pos (by rw [hp]; exact (pt b T).isLt), hl]
  simp only [hp]

theorem G20_at (b : Fin 16) (T : Fin 2048) (d : Fin 512) : G20 m c (ix3 b T d) = gGa (aX m c) (aM m c) (aG m c) (aW m c)  b T d := by
  have h := w20 m c (pt b T) (rw' T) d
  rw [sq_pt, at_pt, outsAt0_sweep] at h
  rw [← h]
  have hp : pt20Of (ix3 b T d) = (pt b T).val := by
    show _ = 4 * b.val + T.val / 512
    have := b.isLt; have := T.isLt; have := d.isLt
    simp [pt20Of, run20Of]
  have hl : loc20Of (ix3 b T d) = (ix3 0 (rw' T) d) := by
    funext a
    apply Fin.ext
    match a with
    | ⟨0, _⟩ => show b.val % 1 = 0; omega
    | ⟨1, _⟩ => show T.val % 512 = T.val % 512; rfl
    | ⟨2, _⟩ => show d.val % 512 = d.val; exact Nat.mod_eq_of_lt d.isLt
  unfold G20
  rw [dif_pos (by rw [hp]; exact (pt b T).isLt), hl]
  simp only [hp]

end Cert.KernelIdeal.Arrays

end
-- ==== Proof.RefRows.lean ====
/-
  The reference's arrays, entry by entry, as functions of the argument arrays.
-/
module

public import proofs.«01_k».proof.Proof.Spec
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Rows
open Cert.ReferenceIdeal Cert.ReferenceIdeal.Gen Cert.ReferenceIdeal.Read Cert.Rows

variable (x0 : Vec Ideal S16x2048x1024 .f32) (x1 : Vec Ideal S2x16x3072 .f32) (x2 : Vec Ideal S2x1024 .f32)
  (x3 : Vec Ideal S2x1024x2504 .f32) (x4 : Vec Ideal S2x31x512 .f32) (x5 x6 x7 : Vec Ideal S2x512 .f32)
  (x8 : Vec Ideal S2x512x512 .f32) (x9 : Vec Ideal S2x256 .f32) (x10 : Vec Ideal S2x256x1024 .f32)
  (x11 : Vec Ideal S2x256x512 .f32) (x12 : Vec Ideal S2x128 .f32)

/-! ## The argument arrays, as the first layer reads them -/

abbrev aX (b : Fin 16) (T : Fin 2048) (d : Fin 1024) : EReal := x0 (ix3 b T d)
abbrev aM (b : Fin 16) (d : Fin 3072) : EReal := x1 (ix3 0 b d)
abbrev aG (d : Fin 1024) : EReal := x2 (ix2 0 d)
abbrev aW (k : Fin 1024) (j : Fin 2504) : EReal := x3 (ix3 0 k j)
abbrev aCw (k : Fin 31) (d : Fin 512) : EReal := x4 (ix3 0 k d)
abbrev aRow (v : Vec Ideal S2x512 .f32) (d : Fin 512) : EReal := v (ix2 0 d)
abbrev aW2 (k d : Fin 512) : EReal := x8 (ix3 0 k d)
abbrev aQg (d : Fin 256) : EReal := x9 (ix2 0 d)
abbrev aWq (k : Fin 256) (d : Fin 1024) : EReal := x10 (ix3 0 k d)
abbrev aWi (k : Fin 256) (d : Fin 512) : EReal := x11 (ix3 0 k d)
abbrev aKg (d : Fin 128) : EReal := x12 (ix2 0 d)

variable (b : Fin 16) (T : Fin 2048)

/-- The logistic as the reference writes it. -/
theorem logistic_eq (v : EReal) : Ideal.div 1 (1 + Ideal.exp (-v)) = Ideal.logistic v := rfl

theorem ms (b : Fin 16) (T : Fin 2048) : val_main_v8 x0 (ix2 b T) = ∑ x, x0 (ix3 b T x) * x0 (ix3 b T x) := by
  pointwise [val_main_v8, val_main_v7, val_main_cst]

theorem H (d : Fin 1024) : val_main_v27 x0 x1 x2 (ix3 b T d) = gH (aX x0) (aM x1) (aG x2) b T d := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v6, val_main_v5, val_main_v3, val_main_v2, val_main_v1, val_main_v0, val_main_cst_0,
    val_main_cst_1, val_main_cst_2, ms, gH, hRow, rms]

theorem P (j : Fin 2504) : val_main_v30 x0 x1 x2 x3 (ix3 b T j) = gP (aX x0) (aM x1) (aG x2) (aW x3) b T j := by
  pointwise [val_main_v30, val_main_v29, val_main_v28, H, gP, dot]

theorem A (d : Fin 512) : val_main_v45 x0 x1 x2 x3 (ix3 b T d) = gA (aX x0) (aM x1) (aG x2) (aW x3) b T.val d := by
  pointwise [val_main_v45, val_main_v44, val_main_v43, val_main_v42, val_main_v41, val_main_v40, val_main_v39, val_main_v32,
    val_main_v31, val_main_cst_3, val_main_cst_4, P, gA, glu, logistic_eq]

/-- The padded input of the convolution. -/
theorem Pad (n : Fin 2078) (d : Fin 512) : val_main_v46 x0 x1 x2 x3 (ix3 b n d) = gPad (aX x0) (aM x1) (aG x2) (aW x3) b n.val d := by
  pointwise [val_main_v46, val_main_call0_v0, val_main_c]
  have hn := n.isLt
  unfold gPad
  by_cases h : n.val < 30
  · rw [dif_neg (by omega), if_pos h]
    exact (show (((0#32).toInt : ℝ) : EReal) = 0 by simp)
  · rw [dif_pos (by omega), if_neg h, A]

/-- The convolution without its bias, tap after tap. -/
theorem Taps (d : Fin 512) : val_main_v264 x0 x1 x2 x3 x4 (ix3 b T d)
    = conv 0 (fun k => if h : k < 31 then aCw x4 ⟨k, h⟩ d else 0) (fun k => gPad (aX x0) (aM x1) (aG x2) (aW x3) b (T.val + k) d) 31 := by
  pointwise [val_main_v47, val_main_v48, val_main_v49, val_main_v50, val_main_v51, val_main_v52, val_main_v53, val_main_v54,
    val_main_v55, val_main_v56, val_main_v57, val_main_v58, val_main_v59, val_main_v60, val_main_v61, val_main_v62,
    val_main_v63, val_main_v64, val_main_v65, val_main_v66, val_main_v67, val_main_v68, val_main_v69, val_main_v70,
    val_main_v71, val_main_v72, val_main_v73, val_main_v74, val_main_v75, val_main_v76, val_main_v77, val_main_v78,
    val_main_v79, val_main_v80, val_main_v81, val_main_v82, val_main_v83, val_main_v84, val_main_v85, val_main_v86,
    val_main_v87, val_main_v88, val_main_v89, val_main_v90, val_main_v91, val_main_v92, val_main_v93, val_main_v94,
    val_main_v95, val_main_v96, val_main_v97, val_main_v98, val_main_v99, val_main_v100, val_main_v101, val_main_v102,
    val_main_v103, val_main_v104, val_main_v105, val_main_v106, val_main_v107, val_main_v108, val_main_v109, val_main_v110,
    val_main_v111, val_main_v112, val_main_v113, val_main_v114, val_main_v115, val_main_v116, val_main_v117, val_main_v118,
    val_main_v119, val_main_v120, val_main_v121, val_main_v122, val_main_v123, val_main_v124, val_main_v125, val_main_v126,
    val_main_v127, val_main_v128, val_main_v129, val_main_v130, val_main_v131, val_main_v132, val_main_v133, val_main_v134,
    val_main_v135, val_main_v136, val_main_v137, val_main_v138, val_main_v139, val_main_v140, val_main_v141, val_main_v142,
    val_main_v143, val_main_v144, val_main_v145, val_main_v146, val_main_v147, val_main_v148, val_main_v149, val_main_v150,
    val_main_v151, val_main_v152, val_main_v153, val_main_v154, val_main_v155, val_main_v156, val_main_v157, val_main_v158,
    val_main_v159, val_main_v160, val_main_v161, val_main_v162, val_main_v163, val_main_v164, val_main_v165, val_main_v166,
    val_main_v167, val_main_v168, val_main_v169, val_main_v170, val_main_v171, val_main_v172, val_main_v173, val_main_v174,
    val_main_v175, val_main_v176, val_main_v177, val_main_v178, val_main_v179, val_main_v180, val_main_v181, val_main_v182,
    val_main_v183, val_main_v184, val_main_v185, val_main_v186, val_main_v187, val_main_v188, val_main_v189, val_main_v190,
    val_main_v191, val_main_v192, val_main_v193, val_main_v194, val_main_v195, val_main_v196, val_main_v197, val_main_v198,
    val_main_v199, val_main_v200, val_main_v201, val_main_v202, val_main_v203, val_main_v204, val_main_v205, val_main_v206,
    val_main_v207, val_main_v208, val_main_v209, val_main_v210, val_main_v211, val_main_v212, val_main_v213, val_main_v214,
    val_main_v215, val_main_v216, val_main_v217, val_main_v218, val_main_v219, val_main_v220, val_main_v221, val_main_v222,
    val_main_v223, val_main_v224, val_main_v225, val_main_v226, val_main_v227, val_main_v228, val_main_v229, val_main_v230,
    val_main_v231, val_main_v232, val_main_v233, val_main_v234, val_main_v235, val_main_v236, val_main_v237, val_main_v238,
    val_main_v239, val_main_v240, val_main_v241, val_main_v242, val_main_v243, val_main_v244, val_main_v245, val_main_v246,
    val_main_v247, val_main_v248, val_main_v249, val_main_v250, val_main_v251, val_main_v252, val_main_v253, val_main_v254,
    val_main_v255, val_main_v256, val_main_v257, val_main_v258, val_main_v259, val_main_v260, val_main_v261, val_main_v262,
    val_main_v263, val_main_v264,
    val_main_cst_5, Pad]
  simp only [conv, Nat.add_comm T.val, Nat.zero_add, zero_add, Nat.reduceLT, dite_true, mul_comm]
  rfl

/-- The bias may be added last. -/
theorem conv_bias (cb : EReal) (cw a : ℕ → EReal) : ∀ n : ℕ, conv 0 cw a n + cb = conv cb cw a n
  | 0 => zero_add cb
  | n + 1 => by simp only [conv, ← conv_bias cb cw a n, add_right_comm]

theorem C (d : Fin 512) : val_main_v269 x0 x1 x2 x3 x4 x5 (ix3 b T d)
    = gC (aX x0) (aM x1) (aG x2) (aW x3) (aCw x4) (aRow x5) b T.val d := by
  unfold gC
  rw [← conv_bias]
  pointwise [val_main_v265, val_main_v266, val_main_v267, val_main_v268, val_main_v269, Taps]

theorem Mu : val_main_v277 x0 x1 x2 x3 x4 x5 (ix3 b T 0) = mean (gC (aX x0) (aM x1) (aG x2) (aW x3) (aCw x4) (aRow x5) b T.val) := by
  pointwise [val_main_v274, val_main_v275, val_main_v276, val_main_v277, val_main_cst_6, val_main_cst_7, C, mean]

theorem Y (d : Fin 512) : val_main_v298 x0 x1 x2 x3 x4 x5 x6 x7 (ix3 b T d)
    = gY (aX x0) (aM x1) (aG x2) (aW x3) (aCw x4) (aRow x5) (aRow x6) (aRow x7) b T.val d := by
  pointwise [val_main_v270, val_main_v271, val_main_v272, val_main_v273, val_main_v278, val_main_v279, val_main_v280, val_main_v281, val_main_v282, val_main_v283, val_main_v284, val_main_v285,
    val_main_v286, val_main_v287, val_main_v288, val_main_v289, val_main_v290, val_main_v291, val_main_v292, val_main_v293,
    val_main_v294, val_main_v295, val_main_v296, val_main_v297, val_main_v298, val_main_cst_8, val_main_cst_9,
    val_main_cst_10, val_main_call1_cst, val_main_call1_cst_0, val_main_call1_v0, val_main_call1_v1, val_main_call1_v2,
    val_main_call1_v3, val_main_call1_v4, val_main_call1_v5, C, Mu, gY, lnorm, silu, logistic_eq]

theorem O (d : Fin 512) : val_main_v344 x0 x1 x2 x3 x4 x5 x6 x7 x8 (ix3 b T d)
    = gO (aX x0) (aM x1) (aG x2) (aW x3) (aCw x4) (aRow x5) (aRow x6) (aRow x7) (aW2 x8) b T d := by
  pointwise [val_main_v344, val_main_v299, val_main_v300, val_main_v301, val_main_v302, val_main_v303, val_main_call2_cst, val_main_call2_cst_0,
    val_main_call2_v0, val_main_call2_v1, val_main_call2_v2, val_main_call2_v3, val_main_call2_v4, val_main_call2_v5, val_main_v33, Y, P, gO, dot, silu, logistic_eq]

theorem Cq (d : Fin 256) : val_main_v318 x0 x1 x2 x3 x9 (ix3 b T d) = gCq (aX x0) (aM x1) (aG x2) (aW x3) (aQg x9) b T d := by
  pointwise [val_main_v34, val_main_v304, val_main_v305, val_main_v306, val_main_v307, val_main_v308, val_main_v309, val_main_v310, val_main_v311,
    val_main_v312, val_main_v313, val_main_v314, val_main_v315, val_main_v316, val_main_v317, val_main_v318,
    val_main_cst_11, val_main_cst_12, val_main_cst_13, P, gCq, rms]

theorem Q (e : Fin 1024) : val_main_v346 x0 x1 x2 x3 x9 x10 (ix3 b e T)
    = gQ (aX x0) (aM x1) (aG x2) (aW x3) (aQg x9) (aWq x10) b T e := by
  pointwise [val_main_v319, val_main_v320, val_main_v321, val_main_v342, val_main_v343, val_main_v344, val_main_v345, val_main_v346, val_main_cst_18, Cq, gQ, dot]

theorem Qi (e : Fin 512) : val_main_v348 x0 x1 x2 x3 x9 x11 (ix3 b e T)
    = gQi (aX x0) (aM x1) (aG x2) (aW x3) (aQg x9) (aWi x11) b T e := by
  pointwise [val_main_v322, val_main_v323, val_main_v324, val_main_v347, val_main_v348, Cq, gQi, dot]

theorem Kv (d : Fin 128) : val_main_v339 x0 x1 x2 x3 x12 (ix3 b T d) = gKv (aX x0) (aM x1) (aG x2) (aW x3) (aKg x12) b T d := by
  pointwise [val_main_v35, val_main_v325, val_main_v326, val_main_v327, val_main_v328, val_main_v329, val_main_v330, val_main_v331, val_main_v332,
    val_main_v333, val_main_v334, val_main_v335, val_main_v336, val_main_v337, val_main_v338, val_main_v339,
    val_main_cst_14, val_main_cst_15, val_main_cst_16, P, gKv, rms]

theorem Kv1 (d : Fin 128) : val_main_v349 x0 x1 x2 x3 x12 (ix3 b T d) = gKv (aX x0) (aM x1) (aG x2) (aW x3) (aKg x12) b T d := by
  pointwise [val_main_v349, Kv]

theorem Kv2 (d : Fin 128) : val_main_v351 x0 x1 x2 x3 x12 (ix3 b d T) = gKv (aX x0) (aM x1) (aG x2) (aW x3) (aKg x12) b T d := by
  pointwise [val_main_v350, val_main_v351, Kv]

theorem Ki (e : Fin 64) : val_main_v352 x0 x1 x2 x3 (ix3 b T e) = gKi (aX x0) (aM x1) (aG x2) (aW x3) b T e := by
  pointwise [val_main_v36, val_main_v352, P, gKi]

theorem Wt (e : Fin 8) : val_main_v353 x0 x1 x2 x3 (ix3 b e T) = gWt (aX x0) (aM x1) (aG x2) (aW x3) b T e := by
  pointwise [val_main_v37, val_main_v340, val_main_v341, val_main_v353, val_main_cst_17, P, gWt]

theorem Ga (e : Fin 512) : val_main_v354 x0 x1 x2 x3 (ix3 b T e) = gGa (aX x0) (aM x1) (aG x2) (aW x3) b T e := by
  pointwise [val_main_v38, val_main_v354, val_main_call3_cst, val_main_call3_cst_0, val_main_call3_v0, val_main_call3_v1, val_main_call3_v2, val_main_call3_v3, val_main_call3_v4, val_main_call3_v5, P, gGa, silu, logistic_eq]

end Cert.ReferenceIdeal.Rows

end
-- ==== Proof.Agree.lean ====
/-
  The two programs' results agree: both are the same functions of the argument arrays.
-/
module

public import proofs.«01_k».proof.Proof.Arrays
public import proofs.«01_k».proof.Proof.RefRows

@[expose] public section

set_option maxRecDepth 16384

noncomputable section

open Idealize.ShloMosaic Idealize.ShloMosaic.TcCoe Idealize.SL.Sem

namespace Cert.Agree
open Cert.KernelIdeal Cert.KernelIdeal.Value Cert.ReferenceIdeal.Read

/-- Two arrays of rank three are equal if they are equal at every triple of coordinates. -/
theorem ext3 {A B C : ℕ} {f g : (⟨3, ![A, B, C]⟩ : Shape).Idx → EReal} (h : ∀ a b c, f (ix3 a b c) = g (ix3 a b c)) : f = g := by
  funext i
  have e : i = ix3 (i 0) (i 1) (i 2) := by
    funext a
    match a with
    | ⟨0, _⟩ => rfl
    | ⟨1, _⟩ => rfl
    | ⟨2, _⟩ => rfl
  rw [e]
  exact h _ _ _

variable (m : (ℓ : Loc nD τ sig) → Buf (Elt Ideal) ℓ) (c : Dev nD)

theorem r13 : val_main_v344 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = G13 m c := by
  refine ext3 fun b T d => ?_
  exact (Cert.ReferenceIdeal.Rows.O _ _ _ _ _ _ _ _ _ b T d).trans (Cert.KernelIdeal.Arrays.G13_at m c b T d).symm

theorem r14 : val_main_v346 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) = G14 m c := by
  refine ext3 fun b d T => ?_
  exact (Cert.ReferenceIdeal.Rows.Q _ _ _ _ _ _ b T d).trans (Cert.KernelIdeal.Arrays.G14_at m c b T d).symm

theorem r15 : val_main_v348 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg11)) = G15 m c := by
  refine ext3 fun b d T => ?_
  exact (Cert.ReferenceIdeal.Rows.Qi _ _ _ _ _ _ b T d).trans (Cert.KernelIdeal.Arrays.G15_at m c b T d).symm

theorem r16 : val_main_v349 (F := Ideal) (m ((c : Thread nD τ).loc main_arg0)) (m ((c : Thread nD τ).loc main_arg1)) (m ((c : Thread nD τ).loc main_arg2)) (m ((c : Thread nD τ).loc main_arg3)) (m ((c : Thread nD τ).loc main_arg12)) = G16 m c := by
  refine ext3 fun b T d => ?_
  exact (Cert.ReferenceIdeal.Rows.Kv1 _ _ _ _ _ b T d).trans (Cert.KernelIdeal.Arrays.G16_at m c b T d).symm

theorem r17 : val_main_v351 (F := Ideal) (m ((c : Thread nD τ).loc main_arg0)) (m ((c : Thread nD τ).loc main_arg1)) (m ((c : Thread nD τ).loc main_arg2)) (m ((c : Thread nD τ).loc main_arg3)) (m ((c : Thread nD τ).loc main_arg12)) = G17 m c := by
  refine ext3 fun b d T => ?_
  exact (Cert.ReferenceIdeal.Rows.Kv2 _ _ _ _ _ b T d).trans (Cert.KernelIdeal.Arrays.G17_at m c b T d).symm

theorem r18 : val_main_v352 (F := Ideal) (m ((c : Thread nD τ).loc main_arg0)) (m ((c : Thread nD τ).loc main_arg1)) (m ((c : Thread nD τ).loc main_arg2)) (m ((c : Thread nD τ).loc main_arg3)) = G18 m c := by
  refine ext3 fun b T d => ?_
  exact (Cert.ReferenceIdeal.Rows.Ki _ _ _ _ b T d).trans (Cert.KernelIdeal.Arrays.G18_at m c b T d).symm

theorem r19 : val_main_v353 (F := Ideal) (m ((c : Thread nD τ).loc main_arg0)) (m ((c : Thread nD τ).loc main_arg1)) (m ((c : Thread nD τ).loc main_arg2)) (m ((c : Thread nD τ).loc main_arg3)) = G19 m c := by
  refine ext3 fun b d T => ?_
  exact (Cert.ReferenceIdeal.Rows.Wt _ _ _ _ b T d).trans (Cert.KernelIdeal.Arrays.G19_at m c b T d).symm

theorem r20 : val_main_v354 (F := Ideal) (m ((c : Thread nD τ).loc main_arg0)) (m ((c : Thread nD τ).loc main_arg1)) (m ((c : Thread nD τ).loc main_arg2)) (m ((c : Thread nD τ).loc main_arg3)) = G20 m c := by
  refine ext3 fun b T d => ?_
  exact (Cert.ReferenceIdeal.Rows.Ga _ _ _ _ b T d).trans (Cert.KernelIdeal.Arrays.G20_at m c b T d).symm

end Cert.Agree

end
-- ==== Proof.Held.lean ====
/- A program that only loads, stores, branches and loops over buffers it owns whole runs without a fault, whatever the
   buffers hold: `Held O m` says the holdings `O` give up the buffer of `m` and take it back at any contents, `Safe O p` that
   `p` runs from `O` to `O`. One rule per form of a printed program; no rule names a value. -/
module

public import Idealize.ShloMosaic.Lib.Pipeline.Frame
public import Idealize.ShloMosaic.Lib.Scf
public import Idealize.ShloMosaic.Lib.Tactic

@[expose] public section

noncomputable section

namespace Cert.Held

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

/-- The resources a program of these proofs runs with. -/
abbrev World (nD : Nat) (τ : Topo) (sig : RefSig) (Val : EltTy → Type) := MT nD τ sig Unit Val ℕ (UR sig nD τ) ℕ

/-- A core owns the elements a memref places, at some contents. -/
def Any (c : Dev nD) {sp : Space} {s : Shape} {e : EltTy} (m : Memref sig .tc sp s e) : sProp (World nD τ sig Val) :=
  iprop(∃ f : Buf Val (m.view.loc (c : Thread nD τ)), m.view.loc (c : Thread nD τ) ↦[m.view.set]{fullShare} f)

/-- The holdings `O` give up the memref's elements and take them back at any contents. -/
def Held (c : Dev nD) (O : sProp (World nD τ sig Val)) {sp : Space} {s : Shape} {e : EltTy} (m : Memref sig .tc sp s e) : Prop :=
  O ⊢ iprop(Any c m ∗ (Any c m -∗ O))

variable (defs : Defs nD τ sig Val Λ) (c : Dev nD) (O : sProp (World nD τ sig Val))

/-- From the holdings the program runs, and ends with them. -/
def Safe {α : Type} (p : Prog (TpuEff nD τ sig Val Λ .tc) α) : Prop :=
  O ⊢ wp frame (wpE defs Variants.none (c : Thread nD τ) none) Set.univ p (fun _ => O)

variable {defs c O} {α β : Type}

theorem safe_pure (a : α) : Safe defs c O (pure a) := by
  unfold Safe
  exact le_wp_ret _ _ _ a (fun _ => O)

theorem safe_bind {p : Prog (TpuEff nD τ sig Val Λ .tc) α} {k : α → Prog (TpuEff nD τ sig Val Λ .tc) β}
    (hp : Safe defs c O p) (hk : ∀ a, Safe defs c O (k a)) : Safe defs c O (p >>= k) := by
  unfold Safe at *
  rw [wp_bind]
  exact hp.trans (wp_mono _ _ _ hk)

theorem safe_load {cs : CoreSpace} {s : Shape} {e : EltTy} {m : Memref sig .tc cs s e} {r : LoadRect s} {hl : m.view.LoadsAt r}
    (h : Held c O m) : Safe defs c O (Prog.lift (.load m r hl)) := by
  unfold Safe
  refine h.trans ?_
  unfold Any
  iintro ⟨⟨%f, H⟩, Hw⟩
  iapply (wp_load Variants.none (c : Thread nD τ) none Set.univ (Q := fun _ => O) (k := fun x => .ret x) (hl := hl)
    (S := m.view.set) (m.view.setOn_subset_set _)) $$ H
  iintro H
  iapply (le_wp_ret _ _ _ _ (fun _ => O))
  iapply Hw
  iexists f
  iexact H

theorem safe_store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    (h : Held c O m) : Safe defs c O (Prog.lift (.store m r w Mk hx hm)) := by
  unfold Safe
  refine h.trans ?_
  unfold Any
  iintro ⟨⟨%f, H⟩, Hw⟩
  iapply (wp_store Variants.none (c : Thread nD τ) none Set.univ (Q := fun _ => O) (k := fun x => .ret x) (hx := hx) (hm := hm)
    (S := m.view.set) ?_) $$ H
  · exact m.setOn_access_subset r Mk
  iintro H
  iapply (le_wp_ret _ _ _ _ (fun _ => O))
  iapply Hw
  iexists _
  iexact H

theorem safe_for {w : Nat} {σ : Type} {l : Scf.Loop w} {hok : l.OK} {init : σ} {body : Fin l.trips → σ → Prog (TpuEff nD τ sig Val Λ .tc) σ}
    (h : ∀ k a, Safe defs c O (body k a)) : Safe defs c O (Scf.Loop.for l hok init body) := by
  unfold Safe at *
  iintro H
  iapply (Scf.wp_for _ _ _ l.lb l.ub l.st hok init body (fun _ _ => O) h)
  isplitl [H]; · iexact H
  iintro %a H
  iexact H

theorem safe_dite {q : Prop} [Decidable q] {p : q → Prog (TpuEff nD τ sig Val Λ .tc) α} {p' : ¬q → Prog (TpuEff nD τ sig Val Λ .tc) α}
    (h : ∀ x, Safe defs c O (p x)) (h' : ∀ x, Safe defs c O (p' x)) : Safe defs c O (dite q p p') := by
  by_cases x : q
  · rw [dif_pos x]; exact h x
  · rw [dif_neg x]; exact h' x

theorem safe_ite {q : Prop} [Decidable q] {p p' : Prog (TpuEff nD τ sig Val Λ .tc) α}
    (h : Safe defs c O p) (h' : Safe defs c O p') : Safe defs c O (if q then p else p') := by
  by_cases x : q
  · rw [if_pos x]; exact h
  · rw [if_neg x]; exact h'

/-! ## What is held -/

theorem held_owns {sp : Space} {s : Shape} {e : EltTy} {m : Memref sig .tc sp s e} :
    Held c (iprop(∃ X, owns (c : Thread nD τ) m fullShare X) : sProp (World nD τ sig Val)) m := by
  unfold Held Any owns
  iintro ⟨%X, %f, %h, H⟩
  isplitl [H]
  · iexists f; iexact H
  · iintro ⟨%g, H⟩
    iexists _, g
    isplitr
    · ipureintro; rfl
    · iexact H

theorem held_whole {b : Ref sig .tc} :
    Held c (iprop(∃ f : Buf Val ((c : Thread nD τ).loc b), ((c : Thread nD τ).loc b) ↦{fullShare} f) : sProp (World nD τ sig Val))
      (Memref.whole b) := by
  unfold Held Any
  simp only [Memref.view_whole, View.set_whole]
  iintro H
  isplitl [H]
  · iexact H
  · iintro H; iexact H

theorem held_left {P R : sProp (World nD τ sig Val)} {sp : Space} {s : Shape} {e : EltTy} {m : Memref sig .tc sp s e}
    (h : Held c P m) : Held c (iprop(P ∗ R)) m := by
  unfold Held at *
  iintro ⟨HP, HR⟩
  ihave HP := h $$ HP
  icases HP with ⟨H, Hw⟩
  isplitl [H]; · iexact H
  iintro H
  isplitr [HR]
  · iapply Hw; iexact H
  · iexact HR

theorem held_right {P R : sProp (World nD τ sig Val)} {sp : Space} {s : Shape} {e : EltTy} {m : Memref sig .tc sp s e}
    (h : Held c R m) : Held c (iprop(P ∗ R)) m := by
  unfold Held at *
  iintro ⟨HP, HR⟩
  ihave HR := h $$ HR
  icases HR with ⟨H, Hw⟩
  isplitl [H]; · iexact H
  iintro H
  isplitl [HP]; · iexact HP
  iapply Hw; iexact H

end Cert.Held

end
-- ==== Proof.Attn.lean ====
/- The attention kernel's body, walked: whatever its buffers hold it runs, and it keeps what it owns. -/
module

public import proofs.«01_k».proof.Kernel4
public import proofs.«01_k».proof.Proof.Held

@[expose] public section

set_option maxRecDepth 16384

noncomputable section

namespace Cert.Kernel4.Attn

open Idealize.ShloMosaic Idealize.ShloMosaic.TcCoe
open Idealize.SL.Sem Idealize.SL.BI
open Cert.Kernel4 Cert.Held

variable {F : FTy → Type} [BitOps F] [Facts]
variable {c : Dev nD} {O : sProp (World nD τ sig (Elt F))}
variable (i : grid0.Coords)
variable (arg2 : Memref sig .tc .vmem S1x1024x256 .bf16) (harg2 : arg2.IsWhole) (arg3 : Memref sig .tc .vmem S1x512x256 .bf16) (harg3 : arg3.IsWhole)
variable (arg4 : Memref sig .tc .vmem S1x8x256 .f32) (harg4 : arg4.IsWhole) (arg5 : Memref sig .tc .vmem S1x2048x128 .bf16) (harg5 : arg5.IsWhole)
variable (arg6 : Memref sig .tc .vmem S1x128x2048 .bf16) (harg6 : arg6.IsWhole) (arg7 : Memref sig .tc .vmem S1x2048x64 .bf16) (harg7 : arg7.IsWhole)
variable (arg8 : Memref sig .tc .vmem S1x256x512 .f32) (harg8 : arg8.IsWhole) (arg9 : Memref sig .tc .vmem S1x8x128x64 .bf16) (harg9 : arg9.IsWhole)
variable (arg10 : Memref sig .tc .vmem S2x8x256x256 .f32) (harg10 : arg10.IsWhole) (arg11 : Memref sig .tc .vmem S1x256x512 .bf16) (harg11 : arg11.IsWhole)
variable (arg12 : Memref sig .tc .vmem S2304x256 .i32) (harg12 : arg12.IsWhole) (arg13 : Memref sig .tc .vmem S64x2048 .bf16) (harg13 : arg13.IsWhole)
variable (arg14 : Memref sig .tc .vmem S8x256 .i32) (harg14 : arg14.IsWhole) (arg15 : Memref sig .tc .vmem S8x1x256 .f32) (harg15 : arg15.IsWhole)
variable (arg16 : Memref sig .tc .vmem S256x256 .f32) (harg16 : arg16.IsWhole) (arg17 : Memref sig .tc .vmem S8x144x256 .f32) (harg17 : arg17.IsWhole)
variable (arg18 : Memref sig .tc .vmem S256x2048 .f32) (harg18 : arg18.IsWhole) (arg19 : Memref sig .tc .vmem S256x2048 .f32) (harg19 : arg19.IsWhole)
variable (arg20 : Memref sig .tc .vmem S8x256x256 .f32) (harg20 : arg20.IsWhole) (arg21 : Memref sig .tc .vmem S8x256x256 .f32) (harg21 : arg21.IsWhole)
variable (arg22 : Memref sig .tc .vmem S2304x256 .i16) (harg22 : arg22.IsWhole) (arg23 : Memref sig .tc .vmem S2304x256 .i16) (harg23 : arg23.IsWhole)
variable (arg24 : Memref sig .tc .vmem S8x8x256 .f32) (harg24 : arg24.IsWhole) (arg25 : Memref sig .tc .vmem S8x8x256 .f32) (harg25 : arg25.IsWhole)
variable (arg26 : Memref sig .tc .vmem S8x256 .i32) (harg26 : arg26.IsWhole)
variable (h2 : Held c O arg2) (h3 : Held c O arg3) (h4 : Held c O arg4) (h5 : Held c O arg5) (h6 : Held c O arg6)
variable (h7 : Held c O arg7) (h8 : Held c O arg8) (h9 : Held c O arg9) (h10 : Held c O arg10) (h11 : Held c O arg11)
variable (h12 : Held c O arg12) (h13 : Held c O arg13) (h14 : Held c O arg14) (h15 : Held c O arg15) (h16 : Held c O arg16)
variable (h17 : Held c O arg17) (h18 : Held c O arg18) (h19 : Held c O arg19) (h20 : Held c O arg20) (h21 : Held c O arg21)
variable (h22 : Held c O arg22) (h23 : Held c O arg23) (h24 : Held c O arg24) (h25 : Held c O arg25) (h26 : Held c O arg26)
include h2 h3 h4 h5 h6 h7 h8 h9 h10 h11 h12 h13 h14 h15 h16 h17 h18 h19 h20 h21 h22 h23 h24 h25 h26

set_option maxHeartbeats 100000000 in
/-- The kernel's body, at any grid point, from the buffers it is called on. -/
theorem safe_body :
    Safe defs₀ c O (cc0_sparse_attention
      i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20
      arg21 harg21 arg22 harg22 arg23 harg23 arg24 harg24 arg25 harg25 arg26 harg26) := by
  delta cc0_sparse_attention
  repeat' (first
    | with_reducible apply safe_bind
    | with_reducible intro _
    | with_reducible apply safe_load
    | with_reducible apply safe_store
    | with_reducible assumption
    | with_reducible exact safe_pure _
    | with_reducible apply safe_dite
    | with_reducible apply safe_ite
    | with_reducible apply safe_for
    | delta k0_part1 k0_part2 k0_part3 k0_part4 k0_part5 k0_part6 k0_part7 k0_part8 k0_part9 k0_part10 k0_part11 k0_part12 k0_part13 k0_part14
        k0_part15 k0_part16 k0_part17 k0_part18 k0_part19 k0_part20 k0_part21 k0_part22 k0_part23 k0_part24 k0_part25 k0_part26 k0_part27 k0_part28
        k0_part29 k0_part30 k0_part31 k0_part32 k0_part33 k0_part34 k0_part35 k0_part36 k0_part37 k0_part38 k0_part39 k0_part40 k0_part41 k0_part42
        k0_part43 k0_part44 k0_part45 k0_part46 k0_part47 k0_part48 k0_part49 k0_part50 k0_part51 k0_part52 k0_part53 k0_part54 k0_part55 k0_part56
        k0_part57 k0_part58 k0_part59 k0_part60 k0_part61 k0_part62 k0_part63 k0_part64 k0_part65 k0_part66 k0_part67 k0_part68 k0_part69 k0_part70
        k0_part71 k0_part72 k0_part73 k0_part74 k0_part75 k0_part76 k0_part77 k0_part78 k0_part79 k0_part80 k0_part81 k0_part82 k0_part83 k0_part84
        k0_part85 k0_part86 k0_part87 k0_part88 k0_part89 k0_part90 k0_part91 k0_part92 k0_part93 k0_part94 k0_part95 k0_part96 k0_part97 k0_part98
        k0_part99 k0_part100 k0_part101 k0_part102 k0_part103 k0_part104 k0_part105 k0_part106 k0_part107 k0_part108 k0_part109 k0_part110 k0_part111
        k0_part112 k0_part113 k0_part114 k0_part115 k0_part116 k0_part117 k0_part118 k0_part119 k0_part120 k0_part121 k0_part122 k0_part123 k0_part124
        k0_part125 k0_part126 k0_part127 k0_part128 k0_part129 k0_part130 k0_part131 k0_part132 k0_part133 k0_part134 k0_part135 k0_part136 k0_part137
        k0_part138 k0_part139 k0_part140 k0_part141 k0_part142 k0_part143 k0_part144 k0_part145 k0_part146 k0_part147 k0_part148 k0_part149 k0_part150
        k0_part151 k0_part152 k0_part153 k0_part154 k0_part155 k0_part156 k0_part157 k0_part158 k0_part159 k0_part160 k0_part161 k0_part162 k0_part163
        k0_part164 k0_part165 k0_part166 k0_part167 k0_part168 k0_part169 k0_part170 k0_part171 k0_part172 k0_part173 k0_part174 k0_part175 k0_part176
        k0_part177 k0_part178 k0_part179 k0_part180 k0_part181 k0_part182 k0_part183 k0_part184 k0_part185 k0_part186 k0_part187 k0_part188 k0_part189
        k0_part190 k0_part191 k0_part192 k0_part193 k0_part194 k0_part195 k0_part196 k0_part197 k0_part198 k0_part199 k0_part200 k0_part201 k0_part202
        k0_part203 k0_part204 k0_part205 k0_part206 k0_part207 k0_part208 k0_part209 k0_part210 k0_part211 k0_part212 k0_part213 k0_part214 k0_part215
        k0_part216 k0_part217 k0_part218 k0_part219 k0_part220 k0_part221 k0_part222 k0_part223 k0_part224 k0_part225 k0_part226 k0_part227 k0_part228
        k0_part229 k0_part230 k0_part231 k0_part232 k0_part233 k0_part234 k0_part235 k0_part236 k0_part237 k0_part238 k0_part239 k0_part240 k0_part241
        k0_part242 k0_part243 k0_part244 k0_part245 k0_part246 k0_part247 k0_part248 k0_part249 k0_part250 k0_part251 k0_part252 k0_part253 k0_part254
        k0_part255 k0_part256 k0_part257 k0_part258 k0_part259 k0_part260 k0_part261 k0_part262 k0_part263 k0_part264 k0_part265 k0_part266 k0_part267
        k0_part268 k0_part269 k0_part270 k0_part271 k0_part272 k0_part273 k0_part274 k0_part275 k0_part276 k0_part277 k0_part278 k0_part279 k0_part280
        k0_part281 k0_part282 k0_part283 k0_part284 k0_part285 k0_part286 k0_part287 k0_part288 k0_part289 k0_part290 k0_part291 k0_part292 k0_part293
        k0_part294 k0_part295 k0_part296 k0_part297 k0_part298 k0_part299 k0_part300 k0_part301 k0_part302 k0_part303 k0_part304 k0_part305 k0_part306
        k0_part307 k0_part308 k0_part309 k0_part310 k0_part311 k0_part312 k0_part313 k0_part314 k0_part315 k0_part316 k0_part317 k0_part318 k0_part319
        k0_part320 k0_part321 k0_part322 k0_part323 k0_part324 k0_part325 k0_part326 k0_part327 k0_part328 k0_part329 k0_part330 k0_part331 k0_part332
        k0_part333 k0_part334 k0_part335 k0_part336 k0_part337 k0_part338 k0_part339 k0_part340 k0_part341 k0_part342 k0_part343 k0_part344 k0_part345
        k0_part346 k0_part347 k0_part348 k0_part349 k0_part350 k0_part351 k0_part352 k0_part353 k0_part354 k0_part355 k0_part356 k0_part357 k0_part358
        k0_part359 k0_part360 k0_part361 k0_part362 k0_part363 k0_part364 k0_part365 k0_part366 k0_part367 k0_part368 k0_part369 k0_part370 k0_part371
        k0_part372 k0_part373 k0_part374 k0_part375 k0_part376 k0_part377 k0_part378 k0_part379 k0_part380 k0_part381 k0_part382 k0_part383 k0_part384
        k0_part385 k0_part386 k0_part387 k0_part388 k0_part389 k0_part390 k0_part391 k0_part392 k0_part393 k0_part394 k0_part395 k0_part396 k0_part397
        k0_part398 k0_part399 k0_part400 k0_part401 k0_part402 k0_part403 k0_part404 k0_part405 k0_part406 k0_part407 k0_part408 k0_part409 k0_part410
        k0_part411 k0_part412 k0_part413 k0_part414 k0_part415 k0_part416)

end Cert.Kernel4.Attn
end
-- ==== Proof.AttnFrame.lean ====
/- The attention call's frame: every run of it ends with its arguments unchanged and every semaphore counter at zero. -/
module

public import proofs.«01_k».proof.Proof.Gen.Kernel4.Frame
public import proofs.«01_k».proof.Proof.Attn

@[expose] public section

set_option maxRecDepth 16384

noncomputable section

namespace Cert.Kernel4.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.Kernel4 Cert.Kernel4.Gen Cert.Held

variable {F : FTy → Type} [BitOps F]
variable (m : (ℓ : Loc nD τ sig) → Buf (Elt F) ℓ) (ρ : Dev nD → PrngReg)

/-- The proof data: the arrays as launched; what the body leaves in a staging buffer is not named. -/
def dats (_ : Fin 1) (c : Dev nD) : Dat τ (Elt F) Unit ℕ (UR sig nD τ) ℕ cfg0 c where
  A w := V m c (Pipeline.arrRef spec0 w)
  after w t := fun _ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

/-- What a core owns around the body at point `t`. -/
def around (c : Dev nD) (t : Fin cfg0.N) : sProp (World nD τ sig (Elt F)) :=
  iprop((dats m 0 c).Φ t.castSucc ∗ (dats m 0 c).owesAt () t.castSucc
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X)
    ∗ (∃ X, owns (c : Thread nD τ) (st0_6 t) fullShare X) ∗ (∃ X, owns (c : Thread nD τ) (st0_7 t) fullShare X)
    ∗ (∃ X, owns (c : Thread nD τ) (st0_8 t) fullShare X) ∗ (∃ X, owns (c : Thread nD τ) (st0_9 t) fullShare X))

set_option maxHeartbeats 2000000 in
/-- The body on the kernel's own scratch buffers and any whole buffers in the windows' places. -/
theorem safe_at (c : Dev nD) (R Q : sProp (World nD τ sig (Elt F))) (i : grid0.Coords)
    (arg2 : Memref sig .tc .vmem S1x1024x256 .bf16) (harg2 : arg2.IsWhole) (arg3 : Memref sig .tc .vmem S1x512x256 .bf16) (harg3 : arg3.IsWhole)
    (arg4 : Memref sig .tc .vmem S1x8x256 .f32) (harg4 : arg4.IsWhole) (arg5 : Memref sig .tc .vmem S1x2048x128 .bf16) (harg5 : arg5.IsWhole)
    (arg6 : Memref sig .tc .vmem S1x128x2048 .bf16) (harg6 : arg6.IsWhole) (arg7 : Memref sig .tc .vmem S1x2048x64 .bf16) (harg7 : arg7.IsWhole)
    (arg8 : Memref sig .tc .vmem S1x256x512 .f32) (harg8 : arg8.IsWhole) (arg9 : Memref sig .tc .vmem S1x8x128x64 .bf16) (harg9 : arg9.IsWhole)
    (arg10 : Memref sig .tc .vmem S2x8x256x256 .f32) (harg10 : arg10.IsWhole) (arg11 : Memref sig .tc .vmem S1x256x512 .bf16) (harg11 : arg11.IsWhole)
    :
    Safe (defs₀ (F := F)) c (iprop((Pipeline.scopedRest spec0 c ∗ R) ∗ Q
        ∗ (∃ X, owns (c : Thread nD τ) arg2 fullShare X) ∗ (∃ X, owns (c : Thread nD τ) arg3 fullShare X)
        ∗ (∃ X, owns (c : Thread nD τ) arg4 fullShare X) ∗ (∃ X, owns (c : Thread nD τ) arg5 fullShare X)
        ∗ (∃ X, owns (c : Thread nD τ) arg6 fullShare X) ∗ (∃ X, owns (c : Thread nD τ) arg7 fullShare X)
        ∗ (∃ X, owns (c : Thread nD τ) arg8 fullShare X) ∗ (∃ X, owns (c : Thread nD τ) arg9 fullShare X)
        ∗ (∃ X, owns (c : Thread nD τ) arg10 fullShare X) ∗ (∃ X, owns (c : Thread nD τ) arg11 fullShare X)))
      (cc0_sparse_attention i arg2 harg2 arg3 harg3 arg4 harg4 arg5 harg5 arg6 harg6 arg7 harg7 arg8 harg8 arg9 harg9 arg10 harg10 arg11 harg11
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _)
      (Memref.whole cc0_scratch12) (Memref.isWhole_whole _) (Memref.whole cc0_scratch13) (Memref.isWhole_whole _) (Memref.whole cc0_scratch14) (Memref.isWhole_whole _)) := by
  rw [scopedRest0_eq]
  apply safe_body
  all_goals
    first
    | refine held_right (held_right ?_)
      repeat' (first
        | with_reducible exact held_owns
        | with_reducible exact held_left held_owns
        | with_reducible apply held_right)
      done
    | refine held_left (held_left ?_)
      repeat' (first
        | with_reducible exact held_whole
        | with_reducible exact held_left held_whole
        | with_reducible apply held_right)

theorem sound_body (c : Dev nD) (t : Fin cfg0.N) : Safe (defs₀ (F := F)) c (around m c t) (bodyAt0 t) :=
  safe_at c _ _ (grid0.coords t) _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ (fun _ => true) := fun t => by
  rw [bigSep_W0, defs₀_row]
  exact sound_body m c t

set_option backward.isDefEq.respectTransparency.types false in
set_option maxHeartbeats 800000 in
theorem run_main : θ_run defs (onTc (τ := τ) (main (F := F))) (s₀ m ρ) (fun r =>
    Pipeline.RDat.FramePost cfg0 (fun c => (dats m 0 c).toRForget (fun _ => true)) (V m) r ∧ r.2.sem = fun _ => 0) :=
  Pipeline.θ_run_frame_forget (Q' := _) cfgs (dats m) (0 : Fin 1) launch0 defs₀ Variants.none (fun _ => true) m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the attention call, at any float representation. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    have k (w : Fin cfg0.W) (hw : (cfg0.win w).isOut = false) :
        r.2.mem ((cfg0.spec w).arr.view.loc (c.tc : Thread nD τ)) = V m c (Pipeline.arrRef spec0 w) := (h.1.arr_in c w hw).trans (A_eq m c w)
    ⟨k 0 rfl, k 1 rfl, k 2 rfl, k 3 rfl, k 4 rfl, k 5 rfl, k 6 rfl, k 7 rfl, k 8 rfl⟩, h.2⟩) (run_main m ρ)

end Cert.Kernel4.Attn

end
-- ==== Proof.Mix.lean ====
/-
  The output projection's call: the two branches' outputs side by side times the weights, the post-norm, the gate and the
  residual. The kernel's block and the reference's array are both read down to one row function.
-/
module

public import proofs.«01_k».proof.Proof.Rows
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Rows

/-- The two branches' rows side by side. -/
def pair (u v : Fin 512 → EReal) (k : Fin 1024) : EReal :=
  if h : k.val < 512 then u ⟨k.val, h⟩ else v ⟨k.val - 512, by omega⟩

/-- The layer's result in one row: the residual, and the gated post-norm of the projected pair. -/
def outRow (x ga g : Fin 1024 → EReal) (u v : Fin 512 → EReal) (w : Fin 1024 → Fin 1024 → EReal) (d : Fin 1024) : EReal :=
  x d + ga d * rms c1024 (fun e => dot (pair u v) (fun k => w k e)) g d

end Cert.Rows

namespace Cert.Reference2Ideal.Rows
open Cert.Reference2Ideal Cert.Reference2Ideal.Gen Cert.Reference2Ideal.Read Cert.Rows

variable (x0 : Vec Ideal S16x2048x1024 .f32) (x1 x2 : Vec Ideal S16x2048x512 .bf16) (x3 : Vec Ideal S2x1024x1024 .f32)
  (x4 : Vec Ideal S2x16x3072 .f32) (x5 : Vec Ideal S2x1024 .f32) (b : Fin 16) (T : Fin 2048)

theorem Y (e : Fin 1024) : val_main_v9 x1 x2 x3 (ix3 b T e)
    = dot (pair (fun k => x1 (ix3 b T k)) (fun k => x2 (ix3 b T k))) (fun k => x3 (ix3 0 k e)) := by
  pointwise [val_main_v9, val_main_v8, val_main_v7, val_main_v6, val_main_v5, dot, pair]

theorem ms : val_main_v14 x1 x2 x3 (ix2 b T) = ∑ e, val_main_v9 x1 x2 x3 (ix3 b T e) * val_main_v9 x1 x2 x3 (ix3 b T e) := by
  pointwise [val_main_v14, val_main_v13, val_main_cst]

theorem R (d : Fin 1024) : val_main_v28 x0 x1 x2 x3 x4 x5 (ix3 b T d)
    = outRow (fun d => x0 (ix3 b T d)) (fun d => x4 (ix3 0 b ⟨2048 + d.val, by omega⟩)) (fun d => x5 (ix2 0 d))
        (fun k => x1 (ix3 b T k)) (fun k => x2 (ix3 b T k)) (fun k e => x3 (ix3 0 k e)) d := by
  pointwise [val_main_v28, val_main_v27, val_main_v26, val_main_v25, val_main_v24, val_main_v23, val_main_v22, val_main_v21,
    val_main_v20, val_main_v19, val_main_v18, val_main_v17, val_main_v16, val_main_v15, val_main_v12, val_main_v11, val_main_v10,
    val_main_v4, val_main_v1, val_main_v0, val_main_cst_0, val_main_cst_1, ms, Y, outRow, rms]

end Cert.Reference2Ideal.Rows

namespace Cert.Kernel2Ideal.Mix
open Cert.Kernel2Ideal Cert.Kernel2Ideal.Gen Cert.Rows

theorem pay (v0 v2 : Vec Ideal S1x1024x512 .bf16) (v5 : Vec Ideal S1x1024x1024 .bf16) (v18 : Vec Ideal S1x1x1024 .f32)
    (v22 : Vec Ideal S1x1x1x1024 .f32) (v24 : Vec Ideal S1x1024x1024 .f32) (r d : Fin 1024) :
    k0_pay1 v0 v2 v5 v18 v22 v24 (ix3 0 r d)
    = outRow (fun d => v24 (ix3 0 r d)) (fun d => v22 (ix4 0 0 0 d)) (fun d => v18 (ix3 0 0 d))
        (fun k => v0 (ix3 0 r k)) (fun k => v2 (ix3 0 r k)) (fun k e => v5 (ix3 0 k e)) d := by
  pointwise [k0_pay1, outRow, rms, dot, pair]

variable (m : (ℓ : Loc nD τ sig) → Buf (Elt Ideal) ℓ) (c : Dev nD) (t : Fin cfg0.N)

theorem idx : ∀ t : Fin grid0.N, win0_0.index t = ![t.val / 2, t.val % 2, 0] ∧ win0_1.index t = ![t.val / 2, t.val % 2, 0]
    ∧ win0_2.index t = ![t.val / 2, t.val % 2, 0] ∧ win0_3.index t = ![0, 0, 0] ∧ win0_4.index t = ![0, t.val / 2, 0, 0]
    ∧ win0_5.index t = ![0, 0, 0] ∧ win0_6.index t = ![t.val / 2, t.val % 2, 0] := by
  decide +kernel

theorem t_lt : t.val < 32 := lt_of_lt_of_eq t.isLt (by decide +kernel)

theorem b0 (r d : Fin 1024) : iblk m c 0 t (ix3 0 r d)
    = m ((c : Thread nD τ).loc main_arg0) (ix3 ⟨t.val / 2, by have := t_lt t; omega⟩ ⟨1024 * (t.val % 2) + r.val, by omega⟩ d) := by
  blk_ext [iblk, V_main_arg0, idx t]
theorem b1 (r : Fin 1024) (d : Fin 512) : iblk m c 1 t (ix3 0 r d)
    = m ((c : Thread nD τ).loc main_arg1) (ix3 ⟨t.val / 2, by have := t_lt t; omega⟩ ⟨1024 * (t.val % 2) + r.val, by omega⟩ d) := by
  blk_ext [iblk, V_main_arg1, idx t]
theorem b2 (r : Fin 1024) (d : Fin 512) : iblk m c 2 t (ix3 0 r d)
    = m ((c : Thread nD τ).loc main_arg2) (ix3 ⟨t.val / 2, by have := t_lt t; omega⟩ ⟨1024 * (t.val % 2) + r.val, by omega⟩ d) := by
  blk_ext [iblk, V_main_arg2, idx t]
theorem b3 (k e : Fin 1024) : iblk m c 3 t (ix3 0 k e) = m ((c : Thread nD τ).loc main_arg3) (ix3 0 k e) := by
  blk_point [iblk, V, idx t]
theorem b4 (d : Fin 3072) : iblk m c 4 t (ix4 0 0 0 d)
    = m ((c : Thread nD τ).loc main_arg4) (ix3 0 ⟨t.val / 2, by have := t_lt t; omega⟩ d) := by
  blk_point [iblk, V, idx t]
theorem b5 (d : Fin 1024) : iblk m c 5 t (ix3 0 0 d) = m ((c : Thread nD τ).loc main_arg5) (ix2 0 d) := by
  blk_point [iblk, V, idx t]

theorem emb6 (r d : Fin 1024) : (win0_6.blk t).view.emb (ix3 0 r d)
    = ix3 ⟨t.val / 2, by have := t_lt t; omega⟩ ⟨1024 * (t.val % 2) + r.val, by omega⟩ d := by
  blk_ext [idx t]

/-- The call's result is the reference's. -/
theorem final : (dats m 0 c).arrAt 6 cfg0.N = Cert.Reference2Ideal.Read.val_main_v28 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  obtain ⟨r, d, rfl⟩ : ∃ r d : Fin 1024, y = ix3 0 r d := ⟨y 1, y 2, by
    funext a
    match a with
    | ⟨0, _⟩ => exact Subsingleton.elim (α := Fin 1) _ _
    | ⟨1, _⟩ => rfl
    | ⟨2, _⟩ => rfl⟩
  have hg : ∀ d : Fin 1024, View.ld (iblk m c 4 t) r0_3 (ix4 0 0 0 d) = iblk m c 4 t (ix4 0 0 0 ⟨2048 + d.val, by omega⟩) := by
    intro d
    pointwise [r0_3]
  refine (pay _ _ _ _ _ _ r d).trans (Eq.trans ?_ (congrArg _ (emb6 t r d)).symm)
  rw [Cert.Reference2Ideal.Rows.R]
  simp only [hg, b0, b1, b2, b3, b4, b5]

end Cert.Kernel2Ideal.Mix

end
-- ==== Proof.Mod.lean ====
/-
  The modulation's call: both layers' products of the activated conditioning with their weights, plus the bias.
-/
module

public import proofs.«01_k».proof.Proof.Rows
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference3Ideal.Rows
open Cert.Reference3Ideal Cert.Reference3Ideal.Gen Cert.Reference3Ideal.Read Cert.Rows

variable (x0 : Vec Ideal S16x1024 .f32) (x1 : Vec Ideal S2x1024x3072 .f32) (x2 : Vec Ideal S2x3072 .f32) (b : Fin 16)

/-- The logistic as the reference writes it. -/
theorem logistic_eq (v : EReal) : Ideal.div 1 (1 + Ideal.exp (-v)) = Ideal.logistic v := rfl

theorem act (k : Fin 1024) : val_main_v0 x0 (ix2 b k) = silu (x0 (ix2 b k)) := by
  pointwise [val_main_v0, val_main_call0_v0, val_main_call0_v1, val_main_call0_v2, val_main_call0_v3, val_main_call0_v4,
    val_main_call0_v5, val_main_call0_cst, val_main_call0_cst_0, logistic_eq, silu]

theorem first (n : Fin 3072) : val_main_v8 x0 x1 x2 (ix2 b n)
    = dot (fun k => silu (x0 (ix2 b k))) (fun k => x1 (ix3 0 k n)) + x2 (ix2 0 n) := by
  pointwise [val_main_v8, val_main_v7, val_main_v6, val_main_v5, val_main_v4, val_main_v3, val_main_v2, val_main_v1, act, dot]

theorem second (n : Fin 3072) : val_main_v16 x0 x1 x2 (ix2 b n)
    = dot (fun k => silu (x0 (ix2 b k))) (fun k => x1 (ix3 1 k n)) + x2 (ix2 1 n) := by
  pointwise [val_main_v16, val_main_v15, val_main_v14, val_main_v13, val_main_v12, val_main_v11, val_main_v10, val_main_v9, act, dot]

theorem R (l : Fin 2) (n : Fin 3072) : val_main_v19 x0 x1 x2 (ix3 l b n)
    = dot (fun k => silu (x0 (ix2 b k))) (fun k => x1 (ix3 l k n)) + x2 (ix2 l n) := by
  match l with
  | ⟨0, _⟩ => exact Eq.trans (by pointwise [val_main_v19, val_main_v18, val_main_v17]) (first x0 x1 x2 b n)
  | ⟨1, _⟩ => exact Eq.trans (by pointwise [val_main_v19, val_main_v18, val_main_v17]) (second x0 x1 x2 b n)

end Cert.Reference3Ideal.Rows

namespace Cert.Kernel3Ideal.Mod
open Cert.Kernel3Ideal Cert.Kernel3Ideal.Gen Cert.Rows

theorem pay (v0 : Vec Ideal S16x1024 .f32) (v4 : Vec Ideal S1x1024x1024 .f32) (v8 : Vec Ideal S1x1x1024 .f32) (b : Fin 16)
    (n : Fin 1024) : k0_pay1 v0 v4 v8 (ix3 0 b n)
    = dot (fun k => silu (v0 (ix2 b k))) (fun k => v4 (ix3 0 k n)) + v8 (ix3 0 0 n) := by
  pointwise [k0_pay1, dot, silu]

variable (m : (ℓ : Loc nD τ sig) → Buf (Elt Ideal) ℓ) (c : Dev nD) (t : Fin cfg0.N)

theorem idx : ∀ t : Fin grid0.N, win0_0.index t = ![0, 0] ∧ win0_1.index t = ![t.val / 3, 0, t.val % 3]
    ∧ win0_2.index t = ![t.val / 3, 0, t.val % 3] ∧ win0_3.index t = ![t.val / 3, 0, t.val % 3] := by
  decide +kernel

theorem t_lt : t.val < 6 := lt_of_lt_of_eq t.isLt (by decide +kernel)

theorem b0 (b : Fin 16) (k : Fin 1024) : iblk m c 0 t (ix2 b k) = m ((c : Thread nD τ).loc main_arg0) (ix2 b k) := by
  blk_ext [iblk, V_main_arg0, idx t]
theorem b1 (k n : Fin 1024) : iblk m c 1 t (ix3 0 k n)
    = m ((c : Thread nD τ).loc main_arg1) (ix3 ⟨t.val / 3, by have := t_lt t; omega⟩ k ⟨1024 * (t.val % 3) + n.val, by omega⟩) := by
  blk_ext [iblk, V_main_arg1, idx t]
theorem b2 (n : Fin 1024) : iblk m c 2 t (ix3 0 0 n)
    = m ((c : Thread nD τ).loc main_arg2) (ix2 ⟨t.val / 3, by have := t_lt t; omega⟩ ⟨1024 * (t.val % 3) + n.val, by omega⟩) := by
  blk_point [iblk, V, idx t]

theorem emb3 (b : Fin 16) (n : Fin 1024) : (win0_3.blk t).view.emb (ix3 0 b n)
    = ix3 ⟨t.val / 3, by have := t_lt t; omega⟩ b ⟨1024 * (t.val % 3) + n.val, by omega⟩ := by
  blk_ext [idx t]

/-- The call's result is the reference's. -/
theorem final : (dats m 0 c).arrAt 3 cfg0.N = Cert.Reference3Ideal.Read.val_main_v19 (F := Ideal)
    (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨b, n, rfl⟩ : ∃ (b : Fin 16) (n : Fin 1024), y = ix3 0 b n := ⟨y 1, y 2, by
    funext a
    match a with
    | ⟨0, _⟩ => exact Subsingleton.elim (α := Fin 1) _ _
    | ⟨1, _⟩ => rfl
    | ⟨2, _⟩ => rfl⟩
  refine (pay _ _ _ b n).trans (Eq.trans ?_ (congrArg _ (emb3 t b n)).symm)
  rw [Cert.Reference3Ideal.Rows.R]
  simp only [b0, b1, b2]

end Cert.Kernel3Ideal.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Launch
public import proofs.«01_k».proof.Proof.Gen.Kernel4.Points
public import proofs.«01_k».proof.Proof.Gen.Kernel4.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Bias
public import proofs.«01_k».proof.Proof.Agree
public import proofs.«01_k».proof.Proof.AttnFrame
public import proofs.«01_k».proof.Proof.Mix
public import proofs.«01_k».proof.Proof.Mod
public import Idealize.ShloMosaic.Adequacy
public import Idealize.ShloMosaic.Init

@[expose] public section

noncomputable section

namespace Cert.Proof

open Idealize.ShloMosaic Idealize.SL.Sem

/-- The reference's run leaves its arguments unchanged and its counters at zero (it has none). -/
theorem frame_reference : quiescent_ReferenceIdeal (hReferenceIdeal := Cert.ReferenceIdeal.Gen.facts) := by
  intro m g _
  exact (θ_run Cert.ReferenceIdeal.defs _ _).mono
    (fun r h => ⟨fun c => (h c).2.2.2.2.2.2.2.2, sem_eq_zero_of_no_sems (by decide) r.2⟩)
    (Cert.ReferenceIdeal.Value.run (F := Ideal) m g)

/-- Equal results from equal arguments: the kernel's run ends at its named arrays, and each of the reference's results, read
    at the kernel's arguments, is that array. -/
theorem algebraic : algebraic_KernelIdeal_ReferenceIdeal (hKernelIdeal := Cert.KernelIdeal.Gen.facts)
    (hReferenceIdeal := Cert.ReferenceIdeal.Gen.facts) := by
  intro m g m' g' _ hag
  refine ⟨Cert.KernelIdeal.Value.G13 m, Cert.KernelIdeal.Value.G14 m, Cert.KernelIdeal.Value.G15 m, Cert.KernelIdeal.Value.G16 m,
    Cert.KernelIdeal.Value.G17 m, Cert.KernelIdeal.Value.G18 m, Cert.KernelIdeal.Value.G19 m, Cert.KernelIdeal.Value.G20 m,
    Cert.KernelIdeal.Value.run m g, ?_⟩
  refine (θ_run Cert.ReferenceIdeal.defs _ _).mono (fun r h c => ?_) (Cert.ReferenceIdeal.Value.run (F := Ideal) m' g')
  obtain ⟨r0, r1, r2, r3, r4, r5, r6, r7, args⟩ := h c
  obtain ⟨e0, e1, e2, e3, e4, e5, e6, e7, e8, e9, e10, e11, e12⟩ := hag c
  refine ⟨r0.trans ?_, r1.trans ?_, r2.trans ?_, r3.trans ?_, r4.trans ?_, r5.trans ?_, r6.trans ?_, r7.trans ?_, args⟩
  · refine (Cert.ReferenceIdeal.Read.val_main_v344_eq (F := Ideal) (StableHlo.launchContents m' c)).trans ?_
    simp only [StableHlo.launchContents_devRef, e0, e1, e2, e3, e4, e5, e6, e7, e8]
    exact Cert.Agree.r13 m c
  · refine (Cert.ReferenceIdeal.Read.val_main_v346_eq (F := Ideal) (StableHlo.launchContents m' c)).trans ?_
    simp only [StableHlo.launchContents_devRef, e0, e1, e2, e3, e9, e10]
    exact Cert.Agree.r14 m c
  · refine (Cert.ReferenceIdeal.Read.val_main_v348_eq (F := Ideal) (StableHlo.launchContents m' c)).trans ?_
    simp only [StableHlo.launchContents_devRef, e0, e1, e2, e3, e9, e11]
    exact Cert.Agree.r15 m c
  · refine (Cert.ReferenceIdeal.Read.val_main_v349_eq (F := Ideal) (StableHlo.launchContents m' c)).trans ?_
    simp only [StableHlo.launchContents_devRef, e0, e1, e2, e3, e12]
    exact Cert.Agree.r16 m c
  · refine (Cert.ReferenceIdeal.Read.val_main_v351_eq (F := Ideal) (StableHlo.launchContents m' c)).trans ?_
    simp only [StableHlo.launchContents_devRef, e0, e1, e2, e3, e12]
    exact Cert.Agree.r17 m c
  · refine (Cert.ReferenceIdeal.Read.val_main_v352_eq (F := Ideal) (StableHlo.launchContents m' c)).trans ?_
    simp only [StableHlo.launchContents_devRef, e0, e1, e2, e3]
    exact Cert.Agree.r18 m c
  · refine (Cert.ReferenceIdeal.Read.val_main_v353_eq (F := Ideal) (StableHlo.launchContents m' c)).trans ?_
    simp only [StableHlo.launchContents_devRef, e0, e1, e2, e3]
    exact Cert.Agree.r19 m c
  · refine (Cert.ReferenceIdeal.Read.val_main_v354_eq (F := Ideal) (StableHlo.launchContents m' c)).trans ?_
    simp only [StableHlo.launchContents_devRef, e0, e1, e2, e3]
    exact Cert.Agree.r20 m c

theorem frame_reference2 : quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

theorem frame_reference3 : quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

theorem frame_reference5 : quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩)
    (Cert.Reference5Ideal.Value.run (F := Ideal) m g)

/-- The output projection's call. -/
theorem algebraic2 : algebraic_Kernel2Ideal_Reference2Ideal (hKernel2Ideal := Cert.Kernel2Ideal.Gen.facts)
    (hReference2Ideal := Cert.Reference2Ideal.Gen.facts) := by
  intro m g m' g' _ hag
  refine ⟨fun c => (Cert.Kernel2Ideal.Gen.dats m 0 c).arrAt 6 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  obtain ⟨e0, e1, e2, e3, e4, e5⟩ := hag c
  refine ⟨(h c).1.trans ?_, (h c).2⟩
  refine (Cert.Reference2Ideal.Read.val_main_v28_eq (F := Ideal) _ _ _ _ _ _).trans ?_
  rw [e0, e1, e2, e3, e4, e5]
  exact (Cert.Kernel2Ideal.Mix.final m c).symm

/-- The modulation's call. -/
theorem algebraic3 : algebraic_Kernel3Ideal_Reference3Ideal (hKernel3Ideal := Cert.Kernel3Ideal.Gen.facts)
    (hReference3Ideal := Cert.Reference3Ideal.Gen.facts) := by
  intro m g m' g' _ hag
  refine ⟨fun c => (Cert.Kernel3Ideal.Gen.dats m 0 c).arrAt 3 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨e0, e1, e2⟩ := hag c
  refine ⟨(h c).1.trans ?_, (h c).2⟩
  refine (Cert.Reference3Ideal.Read.val_main_v19_eq (F := Ideal) _ _ _).trans ?_
  rw [e0, e1, e2]
  exact (Cert.Kernel3Ideal.Mod.final m c).symm

/-- The relative bias' call. -/
theorem algebraic5 : algebraic_Kernel5Ideal_Reference5Ideal (hKernel5Ideal := Cert.Kernel5Ideal.Gen.facts)
    (hReference5Ideal := Cert.Reference5Ideal.Gen.facts) := by
  intro m g m' g' _ hag
  refine ⟨fun c => (Cert.Kernel5Ideal.Gen.dats m 0 c).arrAt 1 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  have e0 := hag c
  refine ⟨(h c).1.trans ?_, (h c).2⟩
  refine (Cert.Reference5Ideal.Read.val_main_v49_eq (F := Ideal) _ _).trans ?_
  rw [e0]
  exact (Cert.Kernel5Ideal.Bias.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts,
  Cert.Kernel5.Gen.facts, Cert.Kernel5Ideal.Gen.facts, Cert.Reference5Ideal.Gen.facts,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Attn.frame m g,
  fun m g _ => Cert.Kernel5.Gen.frame m g, fun m g _ => Cert.Kernel5Ideal.Gen.frame m g, frame_reference5,
  trivial, algebraic, trivial, algebraic2, trivial, algebraic3, trivial, algebraic5⟩

end Cert.Proof

end
